-- ==== Defs.lean ====
def Pre_Kernel [hPre_words_in_range : Cert.Pre_words_in_range.Facts] (m : (ℓ : Loc Cert.Kernel.nD Cert.Kernel.τ Cert.Kernel.sig) → Buf (Elt Bits) ℓ) : Prop :=
  ∀ c : Dev Cert.Kernel.nD,
    (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_range [hPre_words_in_range : Cert.Pre_words_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_words_in_range : Cert.Pre_words_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_words_in_range [hReferenceIdeal : Cert.ReferenceIdeal.Facts] [hPre_words_in_range : Cert.Pre_words_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_words_in_range : Cert.Pre_words_in_range.Facts),
    quiescent_Kernel (hKernel := hKernel) (hPre_words_in_range := hPre_words_in_range)
    ∧ quiescent_KernelIdeal (hKernelIdeal := hKernelIdeal) (hPre_words_in_range := hPre_words_in_range)
    ∧ quiescent_ReferenceIdeal (hReferenceIdeal := hReferenceIdeal)
    ∧ quiescent_ReferenceIdeal_pre_words_in_range (hReferenceIdeal := hReferenceIdeal) (hPre_words_in_range := hPre_words_in_range)
    ∧ preserves_Kernel_KernelIdeal
    ∧ algebraic_KernelIdeal_ReferenceIdeal (hKernelIdeal := hKernelIdeal) (hReferenceIdeal := hReferenceIdeal) (hPre_words_in_range := hPre_words_in_range)
-- ==== Pre_words_in_range.lean ====
abbrev S4096x50 : Shape := ⟨2, ![4096, 50]⟩
abbrev S100000x128 : Shape := ⟨2, ![100000, 128]⟩
abbrev S1024x6400 : Shape := ⟨2, ![1024, 6400]⟩
abbrev S1024 : Shape := ⟨1, ![1024]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) (main_arg2 : FVec F S1024x6400 .f32) (main_arg3 : FVec F S1024 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S1024x6400 : Shape := ⟨2, ![1024, 6400]⟩
abbrev S1024 : Shape := ⟨1, ![1024]⟩
abbrev S1x1024 : Shape := ⟨2, ![1, 1024]⟩
abbrev S2048x50 : Shape := ⟨2, ![2048, 50]⟩
abbrev S50x2048 : Shape := ⟨2, ![50, 2048]⟩
abbrev S102400 : Shape := ⟨1, ![102400]⟩
abbrev S102400x128 : Shape := ⟨2, ![102400, 128]⟩
abbrev S320 : Shape := ⟨1, ![320]⟩
abbrev S320x128 : Shape := ⟨2, ![320, 128]⟩
abbrev S_ : Shape := ⟨0, ![]⟩
abbrev S50x2048x128 : Shape := ⟨3, ![50, 2048, 128]⟩
abbrev S4096x1024 : Shape := ⟨2, ![4096, 1024]⟩
abbrev S256x1024 : Shape := ⟨2, ![256, 1024]⟩
abbrev S256x6400 : Shape := ⟨2, ![256, 6400]⟩
abbrev S256x128 : Shape := ⟨2, ![256, 128]⟩
abbrev S1x256x128 : Shape := ⟨3, ![1, 256, 128]⟩

abbrev nBuf : Table → Nat
  | .hbm => 18
  | .local .tc .vmem => 12
  | .local .scVector .vmem => 12
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S1024x6400, .f32⟩
  | .hbm, ⟨3, _⟩ => ⟨S1024, .f32⟩
  | .hbm, ⟨4, _⟩ => ⟨S1024x6400, .bf16⟩
  | .hbm, ⟨5, _⟩ => ⟨S1x1024, .f32⟩
  | .hbm, ⟨6, _⟩ => ⟨S2048x50, .i32⟩
  | .hbm, ⟨7, _⟩ => ⟨S50x2048, .i32⟩
  | .hbm, ⟨8, _⟩ => ⟨S102400, .i32⟩
  | .hbm, ⟨9, _⟩ => ⟨S102400x128, .f32⟩
  | .hbm, ⟨10, _⟩ => ⟨S50x2048x128, .f32⟩
  | .hbm, ⟨11, _⟩ => ⟨S2048x50, .i32⟩
  | .hbm, ⟨12, _⟩ => ⟨S50x2048, .i32⟩
  | .hbm, ⟨13, _⟩ => ⟨S102400, .i32⟩
  | .hbm, ⟨14, _⟩ => ⟨S102400x128, .f32⟩
  | .hbm, ⟨15, _⟩ => ⟨S50x2048x128, .f32⟩
  | .hbm, ⟨16, _⟩ => ⟨S4096x1024, .f32⟩
  | .hbm, ⟨17, _⟩ => ⟨S4096x1024, .f32⟩
  | .local .tc .vmem, ⟨0, _⟩ => ⟨S1024x6400, .bf16⟩
  | .local .tc .vmem, ⟨1, _⟩ => ⟨S1x1024, .f32⟩
  | .local .tc .vmem, ⟨2, _⟩ => ⟨S256x1024, .f32⟩
  | .local .tc .vmem, ⟨3, _⟩ => ⟨S256x1024, .f32⟩
  | .local .tc .vmem, ⟨4, _⟩ => ⟨S256x6400, .f32⟩
  | .local .tc .vmem, ⟨5, _⟩ => ⟨S256x6400, .f32⟩
  | .local .tc .vmem, ⟨6, _⟩ => ⟨S1024x6400, .bf16⟩
  | .local .tc .vmem, ⟨7, _⟩ => ⟨S1x1024, .f32⟩
  | .local .tc .vmem, ⟨8, _⟩ => ⟨S256x1024, .f32⟩
  | .local .tc .vmem, ⟨9, _⟩ => ⟨S256x1024, .f32⟩
  | .local .tc .vmem, ⟨10, _⟩ => ⟨S256x6400, .f32⟩
  | .local .tc .vmem, ⟨11, _⟩ => ⟨S256x6400, .f32⟩
  | .local .scVector .vmem, ⟨0, _⟩ => ⟨S320, .i32⟩
  | .local .scVector .vmem, ⟨1, _⟩ => ⟨S320, .i32⟩
  | .local .scVector .vmem, ⟨2, _⟩ => ⟨S320, .i32⟩
  | .local .scVector .vmem, ⟨3, _⟩ => ⟨S320x128, .f32⟩
  | .local .scVector .vmem, ⟨4, _⟩ => ⟨S320x128, .f32⟩
  | .local .scVector .vmem, ⟨5, _⟩ => ⟨S320x128, .f32⟩
  | .local .scVector .vmem, ⟨6, _⟩ => ⟨S320, .i32⟩
  | .local .scVector .vmem, ⟨7, _⟩ => ⟨S320, .i32⟩
  | .local .scVector .vmem, ⟨8, _⟩ => ⟨S320, .i32⟩
  | .local .scVector .vmem, ⟨9, _⟩ => ⟨S320x128, .f32⟩
  | .local .scVector .vmem, ⟨10, _⟩ => ⟨S320x128, .f32⟩
  | .local .scVector .vmem, ⟨11, _⟩ => ⟨S320x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v4_scv : Ref sig .scVector := ⟨.hbm, 8, rfl⟩
abbrev main_arg1_scv : Ref sig .scVector := ⟨.hbm, 1, rfl⟩
abbrev main_v5_scv : Ref sig .scVector := ⟨.hbm, 9, rfl⟩
abbrev main_v9_scv : Ref sig .scVector := ⟨.hbm, 13, rfl⟩
abbrev main_v10_scv : Ref sig .scVector := ⟨.hbm, 14, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg2_1 : Ref sig .tc := ⟨.vmem, 3, rfl⟩
abbrev cc2_scratch0 : Ref sig .tc := ⟨.vmem, 4, rfl⟩
abbrev cc2_scratch1 : Ref sig .tc := ⟨.vmem, 5, rfl⟩
abbrev cc3_stg0_0 : Ref sig .tc := ⟨.vmem, 6, rfl⟩
abbrev cc3_stg1_0 : Ref sig .tc := ⟨.vmem, 7, rfl⟩
abbrev cc3_stg2_0 : Ref sig .tc := ⟨.vmem, 8, rfl⟩
abbrev cc3_stg2_1 : Ref sig .tc := ⟨.vmem, 9, rfl⟩
abbrev cc3_scratch0 : Ref sig .tc := ⟨.vmem, 10, rfl⟩
abbrev cc3_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_sem0_0 : DmaSem sig := 18
abbrev cc2_sem1_0 : DmaSem sig := 19
abbrev cc2_sem2_0 : DmaSem sig := 20
abbrev cc2_sem2_1 : DmaSem sig := 21
abbrev cc3_sem0_0 : DmaSem sig := 24
abbrev cc3_sem1_0 : DmaSem sig := 25
abbrev cc3_sem2_0 : DmaSem sig := 26
abbrev cc3_sem2_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v3 : BitVec 32 := Scalar.addi v2 c0_i32
  ![v3.toNat]
@[reducible] def k0_t1_loop : Scf.Loop 32 :=
  let c0_i32_7 : BitVec 32 := 0#32
  let c10_i32 : BitVec 32 := 10#32
  let v20 : BitVec 32 := Scalar.addi c0_i32_7 c10_i32
  let c1_i32 : BitVec 32 := 1#32
  ⟨c0_i32_7, v20, c1_i32⟩
def k0_cond1 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c3_i32 : BitVec 32 := 3#32
  let c0_i32_15 : BitVec 32 := 0#32
  let v30 : BitVec 1 := Scalar.cmpi .eq c3_i32 c0_i32_15
  let c1_i32_16 : BitVec 32 := 1#32
  let v31 : BitVec 32 := Scalar.select v30 c1_i32_16 c3_i32
  let v32 : BitVec 32 := Scalar.remsi arg20 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c0_i32_20 : BitVec 32 := 0#32
  let v40 : BitVec 1 := Scalar.cmpi .eq v39 c0_i32_20
  let v41 : BitVec 32 := Scalar.extui v40
  let c0_i32_21 : BitVec 32 := 0#32
  let v42 : BitVec 1 := Scalar.cmpi .ne v41 c0_i32_21
  v42

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c320_i32_40 : BitVec 32 := 320#32
  let v70 : BitVec 32 := Scalar.muli arg20 c320_i32_40
  let v71 : BitVec 32 := Scalar.addi v2 v70
  let c0_i32_41 : BitVec 32 := 0#32
  ![v71.toNat, 0]
def k0_cond2 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c2_i32_43 : BitVec 32 := 2#32
  let v74 : BitVec 32 := Scalar.addi arg20 c2_i32_43
  let c10_i32_44 : BitVec 32 := 10#32
  let v75 : BitVec 1 := Scalar.cmpi .slt v74 c10_i32_44
  let v76 : BitVec 32 := Scalar.extui v75
  let c0_i32_45 : BitVec 32 := 0#32
  let v77 : BitVec 1 := Scalar.cmpi .ne v76 c0_i32_45
  v77

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c2_i32_46 : BitVec 32 := 2#32
  let v78 : BitVec 32 := Scalar.addi arg20 c2_i32_46
  let c320_i32_47 : BitVec 32 := 320#32
  let v79 : BitVec 32 := Scalar.muli v78 c320_i32_47
  let v80 : BitVec 32 := Scalar.addi v2 v79
  ![v80.toNat]
def k0_cond3 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c1_i32_48 : BitVec 32 := 1#32
  let v83 : BitVec 1 := Scalar.cmpi .sge arg20 c1_i32_48
  let v84 : BitVec 32 := Scalar.extui v83
  let c0_i32_49 : BitVec 32 := 0#32
  let v85 : BitVec 1 := Scalar.cmpi .ne v84 c0_i32_49
  v85

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c1_i32_55 : BitVec 32 := 1#32
  let v91 : BitVec 32 := Scalar.subi arg20 c1_i32_55
  let c320_i32_56 : BitVec 32 := 320#32
  let v92 : BitVec 32 := Scalar.muli v91 c320_i32_56
  let v93 : BitVec 32 := Scalar.addi v2 v92
  let c0_i32_57 : BitVec 32 := 0#32
  ![v93.toNat, 0]
def k0_cond4 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c3_i32_52 : BitVec 32 := 3#32
  let v87 : BitVec 32 := Scalar.addi arg20 c3_i32_52
  let c10_i32_53 : BitVec 32 := 10#32
  let v88 : BitVec 1 := Scalar.cmpi .slt v87 c10_i32_53
  let v89 : BitVec 32 := Scalar.extui v88
  let c0_i32_54 : BitVec 32 := 0#32
  let v90 : BitVec 1 := Scalar.cmpi .ne v89 c0_i32_54
  v90

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c3_i32_55 : BitVec 32 := 3#32
  let v91 : BitVec 32 := Scalar.addi arg20 c3_i32_55
  let c320_i32_56 : BitVec 32 := 320#32
  let v92 : BitVec 32 := Scalar.muli v91 c320_i32_56
  let v93 : BitVec 32 := Scalar.addi v2 v92
  ![v93.toNat]
def k0_cond5 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c3_i32_22 : BitVec 32 := 3#32
  let c0_i32_23 : BitVec 32 := 0#32
  let v43 : BitVec 1 := Scalar.cmpi .eq c3_i32_22 c0_i32_23
  let c1_i32_24 : BitVec 32 := 1#32
  let v44 : BitVec 32 := Scalar.select v43 c1_i32_24 c3_i32_22
  let v45 : BitVec 32 := Scalar.remsi arg20 v44
  let c0_i32_26 : BitVec 32 := 0#32
  let v47 : BitVec 1 := Scalar.cmpi .slt v45 c0_i32_26
  let c0_i32_27 : BitVec 32 := 0#32
  let v48 : BitVec 1 := Scalar.cmpi .slt v44 c0_i32_27
  let v49 : BitVec 1 := Scalar.xori v47 v48
  let c0_i32_25 : BitVec 32 := 0#32
  let v46 : BitVec 1 := Scalar.cmpi .ne v45 c0_i32_25
  let v50 : BitVec 1 := Scalar.andi v49 v46
  let v51 : BitVec 32 := Scalar.addi v45 v44
  let v52 : BitVec 32 := Scalar.select v50 v51 v45
  let c1_i32_28 : BitVec 32 := 1#32
  let v53 : BitVec 1 := Scalar.cmpi .eq v52 c1_i32_28
  let v54 : BitVec 32 := Scalar.extui v53
  let c0_i32_29 : BitVec 32 := 0#32
  let v55 : BitVec 1 := Scalar.cmpi .ne v54 c0_i32_29
  v55

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c320_i32_40 : BitVec 32 := 320#32
  let v70 : BitVec 32 := Scalar.muli arg20 c320_i32_40
  let v71 : BitVec 32 := Scalar.addi v2 v70
  let c0_i32_41 : BitVec 32 := 0#32
  ![v71.toNat, 0]
def k0_cond6 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c2_i32_43 : BitVec 32 := 2#32
  let v74 : BitVec 32 := Scalar.addi arg20 c2_i32_43
  let c10_i32_44 : BitVec 32 := 10#32
  let v75 : BitVec 1 := Scalar.cmpi .slt v74 c10_i32_44
  let v76 : BitVec 32 := Scalar.extui v75
  let c0_i32_45 : BitVec 32 := 0#32
  let v77 : BitVec 1 := Scalar.cmpi .ne v76 c0_i32_45
  v77

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c2_i32_46 : BitVec 32 := 2#32
  let v78 : BitVec 32 := Scalar.addi arg20 c2_i32_46
  let c320_i32_47 : BitVec 32 := 320#32
  let v79 : BitVec 32 := Scalar.muli v78 c320_i32_47
  let v80 : BitVec 32 := Scalar.addi v2 v79
  ![v80.toNat]
def k0_cond7 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c1_i32_48 : BitVec 32 := 1#32
  let v83 : BitVec 1 := Scalar.cmpi .sge arg20 c1_i32_48
  let v84 : BitVec 32 := Scalar.extui v83
  let c0_i32_49 : BitVec 32 := 0#32
  let v85 : BitVec 1 := Scalar.cmpi .ne v84 c0_i32_49
  v85

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c1_i32_55 : BitVec 32 := 1#32
  let v91 : BitVec 32 := Scalar.subi arg20 c1_i32_55
  let c320_i32_56 : BitVec 32 := 320#32
  let v92 : BitVec 32 := Scalar.muli v91 c320_i32_56
  let v93 : BitVec 32 := Scalar.addi v2 v92
  let c0_i32_57 : BitVec 32 := 0#32
  ![v93.toNat, 0]
def k0_cond8 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c3_i32_52 : BitVec 32 := 3#32
  let v87 : BitVec 32 := Scalar.addi arg20 c3_i32_52
  let c10_i32_53 : BitVec 32 := 10#32
  let v88 : BitVec 1 := Scalar.cmpi .slt v87 c10_i32_53
  let v89 : BitVec 32 := Scalar.extui v88
  let c0_i32_54 : BitVec 32 := 0#32
  let v90 : BitVec 1 := Scalar.cmpi .ne v89 c0_i32_54
  v90

def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c3_i32_55 : BitVec 32 := 3#32
  let v91 : BitVec 32 := Scalar.addi arg20 c3_i32_55
  let c320_i32_56 : BitVec 32 := 320#32
  let v92 : BitVec 32 := Scalar.muli v91 c320_i32_56
  let v93 : BitVec 32 := Scalar.addi v2 v92
  ![v93.toNat]
def k0_cond9 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c3_i32_30 : BitVec 32 := 3#32
  let c0_i32_31 : BitVec 32 := 0#32
  let v56 : BitVec 1 := Scalar.cmpi .eq c3_i32_30 c0_i32_31
  let c1_i32_32 : BitVec 32 := 1#32
  let v57 : BitVec 32 := Scalar.select v56 c1_i32_32 c3_i32_30
  let v58 : BitVec 32 := Scalar.remsi arg20 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c2_i32_36 : BitVec 32 := 2#32
  let v66 : BitVec 1 := Scalar.cmpi .eq v65 c2_i32_36
  let v67 : BitVec 32 := Scalar.extui v66
  let c0_i32_37 : BitVec 32 := 0#32
  let v68 : BitVec 1 := Scalar.cmpi .ne v67 c0_i32_37
  v68

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c320_i32_40 : BitVec 32 := 320#32
  let v70 : BitVec 32 := Scalar.muli arg20 c320_i32_40
  let v71 : BitVec 32 := Scalar.addi v2 v70
  let c0_i32_41 : BitVec 32 := 0#32
  ![v71.toNat, 0]
def k0_cond10 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c2_i32_43 : BitVec 32 := 2#32
  let v74 : BitVec 32 := Scalar.addi arg20 c2_i32_43
  let c10_i32_44 : BitVec 32 := 10#32
  let v75 : BitVec 1 := Scalar.cmpi .slt v74 c10_i32_44
  let v76 : BitVec 32 := Scalar.extui v75
  let c0_i32_45 : BitVec 32 := 0#32
  let v77 : BitVec 1 := Scalar.cmpi .ne v76 c0_i32_45
  v77

def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c2_i32_46 : BitVec 32 := 2#32
  let v78 : BitVec 32 := Scalar.addi arg20 c2_i32_46
  let c320_i32_47 : BitVec 32 := 320#32
  let v79 : BitVec 32 := Scalar.muli v78 c320_i32_47
  let v80 : BitVec 32 := Scalar.addi v2 v79
  ![v80.toNat]
def k0_cond11 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c1_i32_48 : BitVec 32 := 1#32
  let v83 : BitVec 1 := Scalar.cmpi .sge arg20 c1_i32_48
  let v84 : BitVec 32 := Scalar.extui v83
  let c0_i32_49 : BitVec 32 := 0#32
  let v85 : BitVec 1 := Scalar.cmpi .ne v84 c0_i32_49
  v85

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c1_i32_55 : BitVec 32 := 1#32
  let v91 : BitVec 32 := Scalar.subi arg20 c1_i32_55
  let c320_i32_56 : BitVec 32 := 320#32
  let v92 : BitVec 32 := Scalar.muli v91 c320_i32_56
  let v93 : BitVec 32 := Scalar.addi v2 v92
  let c0_i32_57 : BitVec 32 := 0#32
  ![v93.toNat, 0]
def k0_cond12 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c3_i32_52 : BitVec 32 := 3#32
  let v87 : BitVec 32 := Scalar.addi arg20 c3_i32_52
  let c10_i32_53 : BitVec 32 := 10#32
  let v88 : BitVec 1 := Scalar.cmpi .slt v87 c10_i32_53
  let v89 : BitVec 32 := Scalar.extui v88
  let c0_i32_54 : BitVec 32 := 0#32
  let v90 : BitVec 1 := Scalar.cmpi .ne v89 c0_i32_54
  v90

def k0_off13 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k0_t1
  let c3_i32_55 : BitVec 32 := 3#32
  let v91 : BitVec 32 := Scalar.addi arg20 c3_i32_55
  let c320_i32_56 : BitVec 32 := 320#32
  let v92 : BitVec 32 := Scalar.muli v91 c320_i32_56
  let v93 : BitVec 32 := Scalar.addi v2 v92
  ![v93.toNat]
def k0_off14 (i : grid0.Coords) (c2240_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v21 : BitVec 32 := Scalar.addi v2 c2240_i32
  let c0_i32_9 : BitVec 32 := 0#32
  ![v21.toNat, 0]
abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v3 : BitVec 32 := Scalar.addi v2 c0_i32
  ![v3.toNat]
@[reducible] def k1_t1_loop : Scf.Loop 32 :=
  let c0_i32_7 : BitVec 32 := 0#32
  let c10_i32 : BitVec 32 := 10#32
  let v20 : BitVec 32 := Scalar.addi c0_i32_7 c10_i32
  let c1_i32 : BitVec 32 := 1#32
  ⟨c0_i32_7, v20, c1_i32⟩
def k1_cond1 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32 : BitVec 32 := 3#32
  let c0_i32_15 : BitVec 32 := 0#32
  let v30 : BitVec 1 := Scalar.cmpi .eq c3_i32 c0_i32_15
  let c1_i32_16 : BitVec 32 := 1#32
  let v31 : BitVec 32 := Scalar.select v30 c1_i32_16 c3_i32
  let v32 : BitVec 32 := Scalar.remsi arg20 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c0_i32_20 : BitVec 32 := 0#32
  let v40 : BitVec 1 := Scalar.cmpi .eq v39 c0_i32_20
  let v41 : BitVec 32 := Scalar.extui v40
  let c0_i32_21 : BitVec 32 := 0#32
  let v42 : BitVec 1 := Scalar.cmpi .ne v41 c0_i32_21
  v42

def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c320_i32_40 : BitVec 32 := 320#32
  let v70 : BitVec 32 := Scalar.muli arg20 c320_i32_40
  let v71 : BitVec 32 := Scalar.addi v2 v70
  let c0_i32_41 : BitVec 32 := 0#32
  ![v71.toNat, 0]
def k1_cond2 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c2_i32_43 : BitVec 32 := 2#32
  let v74 : BitVec 32 := Scalar.addi arg20 c2_i32_43
  let c10_i32_44 : BitVec 32 := 10#32
  let v75 : BitVec 1 := Scalar.cmpi .slt v74 c10_i32_44
  let v76 : BitVec 32 := Scalar.extui v75
  let c0_i32_45 : BitVec 32 := 0#32
  let v77 : BitVec 1 := Scalar.cmpi .ne v76 c0_i32_45
  v77

def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c2_i32_46 : BitVec 32 := 2#32
  let v78 : BitVec 32 := Scalar.addi arg20 c2_i32_46
  let c320_i32_47 : BitVec 32 := 320#32
  let v79 : BitVec 32 := Scalar.muli v78 c320_i32_47
  let v80 : BitVec 32 := Scalar.addi v2 v79
  ![v80.toNat]
def k1_cond3 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c1_i32_48 : BitVec 32 := 1#32
  let v83 : BitVec 1 := Scalar.cmpi .sge arg20 c1_i32_48
  let v84 : BitVec 32 := Scalar.extui v83
  let c0_i32_49 : BitVec 32 := 0#32
  let v85 : BitVec 1 := Scalar.cmpi .ne v84 c0_i32_49
  v85

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c1_i32_55 : BitVec 32 := 1#32
  let v91 : BitVec 32 := Scalar.subi arg20 c1_i32_55
  let c320_i32_56 : BitVec 32 := 320#32
  let v92 : BitVec 32 := Scalar.muli v91 c320_i32_56
  let v93 : BitVec 32 := Scalar.addi v2 v92
  let c0_i32_57 : BitVec 32 := 0#32
  ![v93.toNat, 0]
def k1_cond4 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32_52 : BitVec 32 := 3#32
  let v87 : BitVec 32 := Scalar.addi arg20 c3_i32_52
  let c10_i32_53 : BitVec 32 := 10#32
  let v88 : BitVec 1 := Scalar.cmpi .slt v87 c10_i32_53
  let v89 : BitVec 32 := Scalar.extui v88
  let c0_i32_54 : BitVec 32 := 0#32
  let v90 : BitVec 1 := Scalar.cmpi .ne v89 c0_i32_54
  v90

def k1_off5 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c3_i32_55 : BitVec 32 := 3#32
  let v91 : BitVec 32 := Scalar.addi arg20 c3_i32_55
  let c320_i32_56 : BitVec 32 := 320#32
  let v92 : BitVec 32 := Scalar.muli v91 c320_i32_56
  let v93 : BitVec 32 := Scalar.addi v2 v92
  ![v93.toNat]
def k1_cond5 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32_22 : BitVec 32 := 3#32
  let c0_i32_23 : BitVec 32 := 0#32
  let v43 : BitVec 1 := Scalar.cmpi .eq c3_i32_22 c0_i32_23
  let c1_i32_24 : BitVec 32 := 1#32
  let v44 : BitVec 32 := Scalar.select v43 c1_i32_24 c3_i32_22
  let v45 : BitVec 32 := Scalar.remsi arg20 v44
  let c0_i32_26 : BitVec 32 := 0#32
  let v47 : BitVec 1 := Scalar.cmpi .slt v45 c0_i32_26
  let c0_i32_27 : BitVec 32 := 0#32
  let v48 : BitVec 1 := Scalar.cmpi .slt v44 c0_i32_27
  let v49 : BitVec 1 := Scalar.xori v47 v48
  let c0_i32_25 : BitVec 32 := 0#32
  let v46 : BitVec 1 := Scalar.cmpi .ne v45 c0_i32_25
  let v50 : BitVec 1 := Scalar.andi v49 v46
  let v51 : BitVec 32 := Scalar.addi v45 v44
  let v52 : BitVec 32 := Scalar.select v50 v51 v45
  let c1_i32_28 : BitVec 32 := 1#32
  let v53 : BitVec 1 := Scalar.cmpi .eq v52 c1_i32_28
  let v54 : BitVec 32 := Scalar.extui v53
  let c0_i32_29 : BitVec 32 := 0#32
  let v55 : BitVec 1 := Scalar.cmpi .ne v54 c0_i32_29
  v55

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c320_i32_40 : BitVec 32 := 320#32
  let v70 : BitVec 32 := Scalar.muli arg20 c320_i32_40
  let v71 : BitVec 32 := Scalar.addi v2 v70
  let c0_i32_41 : BitVec 32 := 0#32
  ![v71.toNat, 0]
def k1_cond6 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c2_i32_43 : BitVec 32 := 2#32
  let v74 : BitVec 32 := Scalar.addi arg20 c2_i32_43
  let c10_i32_44 : BitVec 32 := 10#32
  let v75 : BitVec 1 := Scalar.cmpi .slt v74 c10_i32_44
  let v76 : BitVec 32 := Scalar.extui v75
  let c0_i32_45 : BitVec 32 := 0#32
  let v77 : BitVec 1 := Scalar.cmpi .ne v76 c0_i32_45
  v77

def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c2_i32_46 : BitVec 32 := 2#32
  let v78 : BitVec 32 := Scalar.addi arg20 c2_i32_46
  let c320_i32_47 : BitVec 32 := 320#32
  let v79 : BitVec 32 := Scalar.muli v78 c320_i32_47
  let v80 : BitVec 32 := Scalar.addi v2 v79
  ![v80.toNat]
def k1_cond7 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c1_i32_48 : BitVec 32 := 1#32
  let v83 : BitVec 1 := Scalar.cmpi .sge arg20 c1_i32_48
  let v84 : BitVec 32 := Scalar.extui v83
  let c0_i32_49 : BitVec 32 := 0#32
  let v85 : BitVec 1 := Scalar.cmpi .ne v84 c0_i32_49
  v85

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c1_i32_55 : BitVec 32 := 1#32
  let v91 : BitVec 32 := Scalar.subi arg20 c1_i32_55
  let c320_i32_56 : BitVec 32 := 320#32
  let v92 : BitVec 32 := Scalar.muli v91 c320_i32_56
  let v93 : BitVec 32 := Scalar.addi v2 v92
  let c0_i32_57 : BitVec 32 := 0#32
  ![v93.toNat, 0]
def k1_cond8 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32_52 : BitVec 32 := 3#32
  let v87 : BitVec 32 := Scalar.addi arg20 c3_i32_52
  let c10_i32_53 : BitVec 32 := 10#32
  let v88 : BitVec 1 := Scalar.cmpi .slt v87 c10_i32_53
  let v89 : BitVec 32 := Scalar.extui v88
  let c0_i32_54 : BitVec 32 := 0#32
  let v90 : BitVec 1 := Scalar.cmpi .ne v89 c0_i32_54
  v90

def k1_off9 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c3_i32_55 : BitVec 32 := 3#32
  let v91 : BitVec 32 := Scalar.addi arg20 c3_i32_55
  let c320_i32_56 : BitVec 32 := 320#32
  let v92 : BitVec 32 := Scalar.muli v91 c320_i32_56
  let v93 : BitVec 32 := Scalar.addi v2 v92
  ![v93.toNat]
def k1_cond9 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32_30 : BitVec 32 := 3#32
  let c0_i32_31 : BitVec 32 := 0#32
  let v56 : BitVec 1 := Scalar.cmpi .eq c3_i32_30 c0_i32_31
  let c1_i32_32 : BitVec 32 := 1#32
  let v57 : BitVec 32 := Scalar.select v56 c1_i32_32 c3_i32_30
  let v58 : BitVec 32 := Scalar.remsi arg20 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c2_i32_36 : BitVec 32 := 2#32
  let v66 : BitVec 1 := Scalar.cmpi .eq v65 c2_i32_36
  let v67 : BitVec 32 := Scalar.extui v66
  let c0_i32_37 : BitVec 32 := 0#32
  let v68 : BitVec 1 := Scalar.cmpi .ne v67 c0_i32_37
  v68

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c320_i32_40 : BitVec 32 := 320#32
  let v70 : BitVec 32 := Scalar.muli arg20 c320_i32_40
  let v71 : BitVec 32 := Scalar.addi v2 v70
  let c0_i32_41 : BitVec 32 := 0#32
  ![v71.toNat, 0]
def k1_cond10 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c2_i32_43 : BitVec 32 := 2#32
  let v74 : BitVec 32 := Scalar.addi arg20 c2_i32_43
  let c10_i32_44 : BitVec 32 := 10#32
  let v75 : BitVec 1 := Scalar.cmpi .slt v74 c10_i32_44
  let v76 : BitVec 32 := Scalar.extui v75
  let c0_i32_45 : BitVec 32 := 0#32
  let v77 : BitVec 1 := Scalar.cmpi .ne v76 c0_i32_45
  v77

def k1_off11 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c2_i32_46 : BitVec 32 := 2#32
  let v78 : BitVec 32 := Scalar.addi arg20 c2_i32_46
  let c320_i32_47 : BitVec 32 := 320#32
  let v79 : BitVec 32 := Scalar.muli v78 c320_i32_47
  let v80 : BitVec 32 := Scalar.addi v2 v79
  ![v80.toNat]
def k1_cond11 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c1_i32_48 : BitVec 32 := 1#32
  let v83 : BitVec 1 := Scalar.cmpi .sge arg20 c1_i32_48
  let v84 : BitVec 32 := Scalar.extui v83
  let c0_i32_49 : BitVec 32 := 0#32
  let v85 : BitVec 1 := Scalar.cmpi .ne v84 c0_i32_49
  v85

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c1_i32_55 : BitVec 32 := 1#32
  let v91 : BitVec 32 := Scalar.subi arg20 c1_i32_55
  let c320_i32_56 : BitVec 32 := 320#32
  let v92 : BitVec 32 := Scalar.muli v91 c320_i32_56
  let v93 : BitVec 32 := Scalar.addi v2 v92
  let c0_i32_57 : BitVec 32 := 0#32
  ![v93.toNat, 0]
def k1_cond12 (k1_t1 : Fin k1_t1_loop.trips) : BitVec 1 :=
  let c0_i32_7 : BitVec 32 := 0#32
  let c1_i32 : BitVec 32 := 1#32
  let arg20 : BitVec 32 := Scf.iv c0_i32_7 c1_i32 k1_t1
  let c3_i32_52 : BitVec 32 := 3#32
  let v87 : BitVec 32 := Scalar.addi arg20 c3_i32_52
  let c10_i32_53 : BitVec 32 := 10#32
  let v88 : BitVec 1 := Scalar.cmpi .slt v87 c10_i32_53
  let v89 : BitVec 32 := Scalar.extui v88
  let c0_i32_54 : BitVec 32 := 0#32
  let v90 : BitVec 1 := Scalar.cmpi .ne v89 c0_i32_54
  v90

def k1_off13 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32_7 : BitVec 32 := 0#32
  let c1_i32 : BitVec 32 := 1#32
  let arg20 : BitVec 32 := Scf.iv c0_i32_7 c1_i32 k1_t1
  let c3_i32_55 : BitVec 32 := 3#32
  let v91 : BitVec 32 := Scalar.addi arg20 c3_i32_55
  let c320_i32_56 : BitVec 32 := 320#32
  let v92 : BitVec 32 := Scalar.muli v91 c320_i32_56
  let v93 : BitVec 32 := Scalar.addi v2 v92
  ![v93.toNat]
def k1_off14 (i : grid1.Coords) (c2240_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v21 : BitVec 32 := Scalar.addi v2 c2240_i32
  let c0_i32_9 : BitVec 32 := 0#32
  ![v21.toNat, 0]
abbrev grid2 : Pipeline.Grid := ⟨1, ![8], ![false]⟩

def k2_cond2 (i : grid2.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k2_cond3 (i : grid2.Coords) : BitVec 1 :=
  let arg0 : BitVec 32 := BitVec.ofNat 32 (i 0).val
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi arg0 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c0_i32_23 : BitVec 32 := 0#32
  let v43 : BitVec 1 := Scalar.cmpi .eq v42 c0_i32_23
  let v44 : BitVec 32 := Scalar.extui v43
  let c0_i32_24 : BitVec 32 := 0#32
  let v45 : BitVec 1 := Scalar.cmpi .ne v44 c0_i32_24
  v45

def k2_off1 (i : grid2.Coords) : Fin 3 → Nat :=
  let c0_i32_34 : BitVec 32 := 0#32
  let arg0 : BitVec 32 := BitVec.ofNat 32 (i 0).val
  let c1_i32_33 : BitVec 32 := 1#32
  let v59 : BitVec 32 := Scalar.addi arg0 c1_i32_33
  let c256_i32 : BitVec 32 := 256#32
  let v60 : BitVec 32 := Scalar.muli v59 c256_i32
  let c0_i32_37 : BitVec 32 := 0#32
  ![0, v60.toNat, 0]
def k2_off2 (i : grid2.Coords) : Fin 3 → Nat :=
  let c1_i32_39 : BitVec 32 := 1#32
  let arg0 : BitVec 32 := BitVec.ofNat 32 (i 0).val
  let c1_i32_33 : BitVec 32 := 1#32
  let v59 : BitVec 32 := Scalar.addi arg0 c1_i32_33
  let c256_i32_38 : BitVec 32 := 256#32
  let v64 : BitVec 32 := Scalar.muli v59 c256_i32_38
  let c0_i32_41 : BitVec 32 := 0#32
  ![1, v64.toNat, 0]
def k2_off3 (i : grid2.Coords) : Fin 3 → Nat :=
  let c2_i32_43 : BitVec 32 := 2#32
  let arg0 : BitVec 32 := BitVec.ofNat 32 (i 0).val
  let c1_i32_33 : BitVec 32 := 1#32
  let v59 : BitVec 32 := Scalar.addi arg0 c1_i32_33
  let c256_i32_42 : BitVec 32 := 256#32
  let v68 : BitVec 32 := Scalar.muli v59 c256_i32_42
  let c0_i32_46 : BitVec 32 := 0#32
  ![2, v68.toNat, 0]
def k2_off4 (i : grid2.Coords) : Fin 3 → Nat :=
  let c3_i32 : BitVec 32 := 3#32
  let arg0 : BitVec 32 := BitVec.ofNat 32 (i 0).val
  let c1_i32_33 : BitVec 32 := 1#32
  let v59 : BitVec 32 := Scalar.addi arg0 c1_i32_33
  let c256_i32_47 : BitVec 32 := 256#32
  let v72 : BitVec 32 := Scalar.muli v59 c256_i32_47
  let c0_i32_49 : BitVec 32 := 0#32
  ![3, v72.toNat, 0]
def k2_off5 (i : grid2.Coords) : Fin 3 → Nat :=
  let c4_i32 : BitVec 32 := 4#32
  let arg0 : BitVec 32 := BitVec.ofNat 32 (i 0).val
  let c1_i32_33 : BitVec 32 := 1#32
  let v59 : BitVec 32 := Scalar.addi arg0 c1_i32_33
  let c256_i32_50 : BitVec 32 := 256#32
  let v76 : BitVec 32 := Scalar.muli v59 c256_i32_50
  let c0_i32_52 : BitVec 32 := 0#32
  ![4, v76.toNat, 0]
def k2_off6 (i : grid2.Coords) : Fin 3 → Nat :=
  let c5_i32 : BitVec 32 := 5#32
  let arg0 : BitVec 32 := BitVec.ofNat 32 (i 0).val
  let c1_i32_33 : BitVec 32 := 1#32
  let v59 : BitVec 32 := Scalar.addi arg0 c1_i32_33
  let c256_i32_53 : BitVec 32 := 256#32
  let v80 : BitVec 32 := Scalar.muli v59 c256_i32_53
  let c0_i32_55 : BitVec 32 := 0#32
  ![5, v80.toNat, 0]
def k2_off7 (i : grid2.Coords) : Fin 3 → Nat :=
  let c6_i32 : BitVec 32 := 6#32
  let arg0 : BitVec 32 := BitVec.ofNat 32 (i 0).val
  let c1_i32_33 : BitVec 32 := 1#32
  let v59 : BitVec 32 := Scalar.addi arg0 c1_i32_33
  let c256_i32_56 : BitVec 32 := 256#32
  let v84 : BitVec 32 := Scalar.muli v59 c256_i32_56
  let c0_i32_58 : BitVec 32 := 0#32
  ![6, v84.toNat, 0]
def k2_off8 (i : grid2.Coords) : Fin 3 → Nat :=
  let c7_i32 : BitVec 32 := 7#32
  let arg0 : BitVec 32 := BitVec.ofNat 32 (i 0).val
  let c1_i32_33 : BitVec 32 := 1#32
  let v59 : BitVec 32 := Scalar.addi arg0 c1_i32_33
  let c256_i32_59 : BitVec 32 := 256#32
  let v88 : BitVec 32 := Scalar.muli v59 c256_i32_59
  let c0_i32_61 : BitVec 32 := 0#32
  ![7, v88.toNat, 0]
def k2_off9 (i : grid2.Coords) : Fin 3 → Nat :=
  let c8_i32_63 : BitVec 32 := 8#32
  let arg0 : BitVec 32 := BitVec.ofNat 32 (i 0).val
  let c1_i32_33 : BitVec 32 := 1#32
  let v59 : BitVec 32 := Scalar.addi arg0 c1_i32_33
  let c256_i32_62 : BitVec 32 := 256#32
  let v92 : BitVec 32 := Scalar.muli v59 c256_i32_62
  let c0_i32_65 : BitVec 32 := 0#32
  ![8, v92.toNat, 0]
def k2_off10 (i : grid2.Coords) : Fin 3 → Nat :=
  let c9_i32 : BitVec 32 := 9#32
  let arg0 : BitVec 32 := BitVec.ofNat 32 (i 0).val
  let c1_i32_33 : BitVec 32 := 1#32
  let v59 : BitVec 32 := Scalar.addi arg0 c1_i32_33
  let c256_i32_66 : BitVec 32 := 256#32
  let v96 : BitVec 32 := Scalar.muli v59 c256_i32_66
  let c0_i32_68 : BitVec 32 := 0#32
  ![9, v96.toNat, 0]
def k2_off11 (i : grid2.Coords) : Fin 3 → Nat :=
  let c10_i32 : BitVec 32 := 10#32
  let arg0 : BitVec 32 := BitVec.ofNat 32 (i 0).val
  let c1_i32_33 : BitVec 32 := 1#32
  let v59 : BitVec 32 := Scalar.addi arg0 c1_i32_33
  let c256_i32_69 : BitVec 32 := 256#32
  let v100 : BitVec 32 := Scalar.muli v59 c256_i32_69
  let c0_i32_71 : BitVec 32 := 0#32
  ![10, v100.toNat, 0]
def k2_off12 (i : grid2.Coords) : Fin 3 → Nat :=
  let c11_i32 : BitVec 32 := 11#32
  let arg0 : BitVec 32 := BitVec.ofNat 32 (i 0).val
  let c1_i32_33 : BitVec 32 := 1#32
  let v59 : BitVec 32 := Scalar.addi arg0 c1_i32_33
  let c256_i32_72 : BitVec 32 := 256#32
  let v104 : BitVec 32 := Scalar.muli v59 c256_i32_72
  let c0_i32_74 : BitVec 32 := 0#32
  ![11, v104.toNat, 0]
def k2_off13 (i : grid2.Coords) : Fin 3 → Nat :=
  let c12_i32 : BitVec 32 := 12#32
  let arg0 : BitVec 32 := BitVec.ofNat 32 (i 0).val
  let c1_i32_33 : BitVec 32 := 1#32
  let v59 : BitVec 32 := Scalar.addi arg0 c1_i32_33
  let c256_i32_75 : BitVec 32 := 256#32
  let v108 : BitVec 32 := Scalar.muli v59 c256_i32_75
  let c0_i32_77 : BitVec 32 := 0#32
  ![12, v108.toNat, 0]
def k2_off14 (i : grid2.Coords) : Fin 3 → Nat :=
  let c13_i32 : BitVec 32 := 13#32
  let arg0 : BitVec 32 := BitVec.ofNat 32 (i 0).val
  let c1_i32_33 : BitVec 32 := 1#32
  let v59 : BitVec 32 := Scalar.addi arg0 c1_i32_33
  let c256_i32_78 : BitVec 32 := 256#32
  let v112 : BitVec 32 := Scalar.muli v59 c256_i32_78
  let c0_i32_80 : BitVec 32 := 0#32
  ![13, v112.toNat, 0]
def k2_off15 (i : grid2.Coords) : Fin 3 → Nat :=
  let c14_i32 : BitVec 32 := 14#32
  let arg0 : BitVec 32 := BitVec.ofNat 32 (i 0).val
  let c1_i32_33 : BitVec 32 := 1#32
  let v59 : BitVec 32 := Scalar.addi arg0 c1_i32_33
  let c256_i32_81 : BitVec 32 := 256#32
  let v116 : BitVec 32 := Scalar.muli v59 c256_i32_81
  let c0_i32_83 : BitVec 32 := 0#32
  ![14, v116.toNat, 0]
def k2_off16 (i : grid2.Coords) : Fin 3 → Nat :=
  let c15_i32 : BitVec 32 := 15#32
  let arg0 : BitVec 32 := BitVec.ofNat 32 (i 0).val
  let c1_i32_33 : BitVec 32 := 1#32
  let v59 : BitVec 32 := Scalar.addi arg0 c1_i32_33
  let c256_i32_84 : BitVec 32 := 256#32
  let v120 : BitVec 32 := Scalar.muli v59 c256_i32_84
  let c0_i32_86 : BitVec 32 := 0#32
  ![15, v120.toNat, 0]
def k2_off17 (i : grid2.Coords) : Fin 3 → Nat :=
  let c16_i32 : BitVec 32 := 16#32
  let arg0 : BitVec 32 := BitVec.ofNat 32 (i 0).val
  let c1_i32_33 : BitVec 32 := 1#32
  let v59 : BitVec 32 := Scalar.addi arg0 c1_i32_33
  let c256_i32_87 : BitVec 32 := 256#32
  let v124 : BitVec 32 := Scalar.muli v59 c256_i32_87
  let c0_i32_89 : BitVec 32 := 0#32
  ![16, v124.toNat, 0]
def k2_off18 (i : grid2.Coords) : Fin 3 → Nat :=
  let c17_i32 : BitVec 32 := 17#32
  let arg0 : BitVec 32 := BitVec.ofNat 32 (i 0).val
  let c1_i32_33 : BitVec 32 := 1#32
  let v59 : BitVec 32 := Scalar.addi arg0 c1_i32_33
  let c256_i32_90 : BitVec 32 := 256#32
  let v128 : BitVec 32 := Scalar.muli v59 c256_i32_90
  let c0_i32_92 : BitVec 32 := 0#32
  ![17, v128.toNat, 0]
def k2_off19 (i : grid2.Coords) : Fin 3 → Nat :=
  let c18_i32 : BitVec 32 := 18#32
  let arg0 : BitVec 32 := BitVec.ofNat 32 (i 0).val
  let c1_i32_33 : BitVec 32 := 1#32
  let v59 : BitVec 32 := Scalar.addi arg0 c1_i32_33
  let c256_i32_93 : BitVec 32 := 256#32
  let v132 : BitVec 32 := Scalar.muli v59 c256_i32_93
  let c0_i32_95 : BitVec 32 := 0#32
  ![18, v132.toNat, 0]
def k2_off20 (i : grid2.Coords) : Fin 3 → Nat :=
  let c19_i32 : BitVec 32 := 19#32
  let arg0 : BitVec 32 := BitVec.ofNat 32 (i 0).val
  let c1_i32_33 : BitVec 32 := 1#32
  let v59 : BitVec 32 := Scalar.addi arg0 c1_i32_33
  let c256_i32_96 : BitVec 32 := 256#32
  let v136 : BitVec 32 := Scalar.muli v59 c256_i32_96
  let c0_i32_98 : BitVec 32 := 0#32
  ![19, v136.toNat, 0]
def k2_off21 (i : grid2.Coords) : Fin 3 → Nat :=
  let c20_i32 : BitVec 32 := 20#32
  let arg0 : BitVec 32 := BitVec.ofNat 32 (i 0).val
  let c1_i32_33 : BitVec 32 := 1#32
  let v59 : BitVec 32 := Scalar.addi arg0 c1_i32_33
  let c256_i32_99 : BitVec 32 := 256#32
  let v140 : BitVec 32 := Scalar.muli v59 c256_i32_99
  let c0_i32_101 : BitVec 32 := 0#32
  ![20, v140.toNat, 0]
def k2_off22 (i : grid2.Coords) : Fin 3 → Nat :=
  let c21_i32 : BitVec 32 := 21#32
  let arg0 : BitVec 32 := BitVec.ofNat 32 (i 0).val
  let c1_i32_33 : BitVec 32 := 1#32
  let v59 : BitVec 32 := Scalar.addi arg0 c1_i32_33
  let c256_i32_102 : BitVec 32 := 256#32
  let v144 : BitVec 32 := Scalar.muli v59 c256_i32_102
  let c0_i32_104 : BitVec 32 := 0#32
  ![21, v144.toNat, 0]
def k2_off23 (i : grid2.Coords) : Fin 3 → Nat :=
  let c22_i32 : BitVec 32 := 22#32
  let arg0 : BitVec 32 := BitVec.ofNat 32 (i 0).val
  let c1_i32_33 : BitVec 32 := 1#32
  let v59 : BitVec 32 := Scalar.addi arg0 c1_i32_33
  let c256_i32_105 : BitVec 32 := 256#32
  let v148 : BitVec 32 := Scalar.muli v59 c256_i32_105
  let c0_i32_107 : BitVec 32 := 0#32
  ![22, v148.toNat, 0]
def k2_off24 (i : grid2.Coords) : Fin 3 → Nat :=
  let c23_i32 : BitVec 32 := 23#32
  let arg0 : BitVec 32 := BitVec.ofNat 32 (i 0).val
  let c1_i32_33 : BitVec 32 := 1#32
  let v59 : BitVec 32 := Scalar.addi arg0 c1_i32_33
  let c256_i32_108 : BitVec 32 := 256#32
  let v152 : BitVec 32 := Scalar.muli v59 c256_i32_108
  let c0_i32_110 : BitVec 32 := 0#32
  ![23, v152.toNat, 0]
def k2_off25 (i : grid2.Coords) : Fin 3 → Nat :=
  let c24_i32 : BitVec 32 := 24#32
  let arg0 : BitVec 32 := BitVec.ofNat 32 (i 0).val
  let c1_i32_33 : BitVec 32 := 1#32
  let v59 : BitVec 32 := Scalar.addi arg0 c1_i32_33
  let c256_i32_111 : BitVec 32 := 256#32
  let v156 : BitVec 32 := Scalar.muli v59 c256_i32_111
  let c0_i32_113 : BitVec 32 := 0#32
  ![24, v156.toNat, 0]
def k2_off26 (i : grid2.Coords) : Fin 3 → Nat :=
  let c25_i32 : BitVec 32 := 25#32
  let arg0 : BitVec 32 := BitVec.ofNat 32 (i 0).val
  let c1_i32_33 : BitVec 32 := 1#32
  let v59 : BitVec 32 := Scalar.addi arg0 c1_i32_33
  let c256_i32_114 : BitVec 32 := 256#32
  let v160 : BitVec 32 := Scalar.muli v59 c256_i32_114
  let c0_i32_116 : BitVec 32 := 0#32
  ![25, v160.toNat, 0]
def k2_off27 (i : grid2.Coords) : Fin 3 → Nat :=
  let c26_i32 : BitVec 32 := 26#32
  let arg0 : BitVec 32 := BitVec.ofNat 32 (i 0).val
  let c1_i32_33 : BitVec 32 := 1#32
  let v59 : BitVec 32 := Scalar.addi arg0 c1_i32_33
  let c256_i32_117 : BitVec 32 := 256#32
  let v164 : BitVec 32 := Scalar.muli v59 c256_i32_117
  let c0_i32_119 : BitVec 32 := 0#32
  ![26, v164.toNat, 0]
def k2_off28 (i : grid2.Coords) : Fin 3 → Nat :=
  let c27_i32 : BitVec 32 := 27#32
  let arg0 : BitVec 32 := BitVec.ofNat 32 (i 0).val
  let c1_i32_33 : BitVec 32 := 1#32
  let v59 : BitVec 32 := Scalar.addi arg0 c1_i32_33
  let c256_i32_120 : BitVec 32 := 256#32
  let v168 : BitVec 32 := Scalar.muli v59 c256_i32_120
  let c0_i32_122 : BitVec 32 := 0#32
  ![27, v168.toNat, 0]
def k2_off29 (i : grid2.Coords) : Fin 3 → Nat :=
  let c28_i32 : BitVec 32 := 28#32
  let arg0 : BitVec 32 := BitVec.ofNat 32 (i 0).val
  let c1_i32_33 : BitVec 32 := 1#32
  let v59 : BitVec 32 := Scalar.addi arg0 c1_i32_33
  let c256_i32_123 : BitVec 32 := 256#32
  let v172 : BitVec 32 := Scalar.muli v59 c256_i32_123
  let c0_i32_125 : BitVec 32 := 0#32
  ![28, v172.toNat, 0]
def k2_off30 (i : grid2.Coords) : Fin 3 → Nat :=
  let c29_i32 : BitVec 32 := 29#32
  let arg0 : BitVec 32 := BitVec.ofNat 32 (i 0).val
  let c1_i32_33 : BitVec 32 := 1#32
  let v59 : BitVec 32 := Scalar.addi arg0 c1_i32_33
  let c256_i32_126 : BitVec 32 := 256#32
  let v176 : BitVec 32 := Scalar.muli v59 c256_i32_126
  let c0_i32_128 : BitVec 32 := 0#32
  ![29, v176.toNat, 0]
def k2_off31 (i : grid2.Coords) : Fin 3 → Nat :=
  let c30_i32 : BitVec 32 := 30#32
  let arg0 : BitVec 32 := BitVec.ofNat 32 (i 0).val
  let c1_i32_33 : BitVec 32 := 1#32
  let v59 : BitVec 32 := Scalar.addi arg0 c1_i32_33
  let c256_i32_129 : BitVec 32 := 256#32
  let v180 : BitVec 32 := Scalar.muli v59 c256_i32_129
  let c0_i32_131 : BitVec 32 := 0#32
  ![30, v180.toNat, 0]
def k2_off32 (i : grid2.Coords) : Fin 3 → Nat :=
  let c31_i32 : BitVec 32 := 31#32
  let arg0 : BitVec 32 := BitVec.ofNat 32 (i 0).val
  let c1_i32_33 : BitVec 32 := 1#32
  let v59 : BitVec 32 := Scalar.addi arg0 c1_i32_33
  let c256_i32_132 : BitVec 32 := 256#32
  let v184 : BitVec 32 := Scalar.muli v59 c256_i32_132
  let c0_i32_134 : BitVec 32 := 0#32
  ![31, v184.toNat, 0]
def k2_off33 (i : grid2.Coords) : Fin 3 → Nat :=
  let c32_i32 : BitVec 32 := 32#32
  let arg0 : BitVec 32 := BitVec.ofNat 32 (i 0).val
  let c1_i32_33 : BitVec 32 := 1#32
  let v59 : BitVec 32 := Scalar.addi arg0 c1_i32_33
  let c256_i32_135 : BitVec 32 := 256#32
  let v188 : BitVec 32 := Scalar.muli v59 c256_i32_135
  let c0_i32_137 : BitVec 32 := 0#32
  ![32, v188.toNat, 0]
def k2_off34 (i : grid2.Coords) : Fin 3 → Nat :=
  let c33_i32 : BitVec 32 := 33#32
  let arg0 : BitVec 32 := BitVec.ofNat 32 (i 0).val
  let c1_i32_33 : BitVec 32 := 1#32
  let v59 : BitVec 32 := Scalar.addi arg0 c1_i32_33
  let c256_i32_138 : BitVec 32 := 256#32
  let v192 : BitVec 32 := Scalar.muli v59 c256_i32_138
  let c0_i32_140 : BitVec 32 := 0#32
  ![33, v192.toNat, 0]
def k2_off35 (i : grid2.Coords) : Fin 3 → Nat :=
  let c34_i32 : BitVec 32 := 34#32
  let arg0 : BitVec 32 := BitVec.ofNat 32 (i 0).val
  let c1_i32_33 : BitVec 32 := 1#32
  let v59 : BitVec 32 := Scalar.addi arg0 c1_i32_33
  let c256_i32_141 : BitVec 32 := 256#32
  let v196 : BitVec 32 := Scalar.muli v59 c256_i32_141
  let c0_i32_143 : BitVec 32 := 0#32
  ![34, v196.toNat, 0]
def k2_off36 (i : grid2.Coords) : Fin 3 → Nat :=
  let c35_i32 : BitVec 32 := 35#32
  let arg0 : BitVec 32 := BitVec.ofNat 32 (i 0).val
  let c1_i32_33 : BitVec 32 := 1#32
  let v59 : BitVec 32 := Scalar.addi arg0 c1_i32_33
  let c256_i32_144 : BitVec 32 := 256#32
  let v200 : BitVec 32 := Scalar.muli v59 c256_i32_144
  let c0_i32_146 : BitVec 32 := 0#32
  ![35, v200.toNat, 0]
def k2_off37 (i : grid2.Coords) : Fin 3 → Nat :=
  let c36_i32 : BitVec 32 := 36#32
  let arg0 : BitVec 32 := BitVec.ofNat 32 (i 0).val
  let c1_i32_33 : BitVec 32 := 1#32
  let v59 : BitVec 32 := Scalar.addi arg0 c1_i32_33
  let c256_i32_147 : BitVec 32 := 256#32
  let v204 : BitVec 32 := Scalar.muli v59 c256_i32_147
  let c0_i32_149 : BitVec 32 := 0#32
  ![36, v204.toNat, 0]
def k2_off38 (i : grid2.Coords) : Fin 3 → Nat :=
  let c37_i32 : BitVec 32 := 37#32
  let arg0 : BitVec 32 := BitVec.ofNat 32 (i 0).val
  let c1_i32_33 : BitVec 32 := 1#32
  let v59 : BitVec 32 := Scalar.addi arg0 c1_i32_33
  let c256_i32_150 : BitVec 32 := 256#32
  let v208 : BitVec 32 := Scalar.muli v59 c256_i32_150
  let c0_i32_152 : BitVec 32 := 0#32
  ![37, v208.toNat, 0]
def k2_off39 (i : grid2.Coords) : Fin 3 → Nat :=
  let c38_i32 : BitVec 32 := 38#32
  let arg0 : BitVec 32 := BitVec.ofNat 32 (i 0).val
  let c1_i32_33 : BitVec 32 := 1#32
  let v59 : BitVec 32 := Scalar.addi arg0 c1_i32_33
  let c256_i32_153 : BitVec 32 := 256#32
  let v212 : BitVec 32 := Scalar.muli v59 c256_i32_153
  let c0_i32_155 : BitVec 32 := 0#32
  ![38, v212.toNat, 0]
def k2_off40 (i : grid2.Coords) : Fin 3 → Nat :=
  let c39_i32 : BitVec 32 := 39#32
  let arg0 : BitVec 32 := BitVec.ofNat 32 (i 0).val
  let c1_i32_33 : BitVec 32 := 1#32
  let v59 : BitVec 32 := Scalar.addi arg0 c1_i32_33
  let c256_i32_156 : BitVec 32 := 256#32
  let v216 : BitVec 32 := Scalar.muli v59 c256_i32_156
  let c0_i32_158 : BitVec 32 := 0#32
  ![39, v216.toNat, 0]
def k2_off41 (i : grid2.Coords) : Fin 3 → Nat :=
  let c40_i32 : BitVec 32 := 40#32
  let arg0 : BitVec 32 := BitVec.ofNat 32 (i 0).val
  let c1_i32_33 : BitVec 32 := 1#32
  let v59 : BitVec 32 := Scalar.addi arg0 c1_i32_33
  let c256_i32_159 : BitVec 32 := 256#32
  let v220 : BitVec 32 := Scalar.muli v59 c256_i32_159
  let c0_i32_161 : BitVec 32 := 0#32
  ![40, v220.toNat, 0]
def k2_off42 (i : grid2.Coords) : Fin 3 → Nat :=
  let c41_i32 : BitVec 32 := 41#32
  let arg0 : BitVec 32 := BitVec.ofNat 32 (i 0).val
  let c1_i32_33 : BitVec 32 := 1#32
  let v59 : BitVec 32 := Scalar.addi arg0 c1_i32_33
  let c256_i32_162 : BitVec 32 := 256#32
  let v224 : BitVec 32 := Scalar.muli v59 c256_i32_162
  let c0_i32_164 : BitVec 32 := 0#32
  ![41, v224.toNat, 0]
def k2_off43 (i : grid2.Coords) : Fin 3 → Nat :=
  let c42_i32 : BitVec 32 := 42#32
  let arg0 : BitVec 32 := BitVec.ofNat 32 (i 0).val
  let c1_i32_33 : BitVec 32 := 1#32
  let v59 : BitVec 32 := Scalar.addi arg0 c1_i32_33
  let c256_i32_165 : BitVec 32 := 256#32
  let v228 : BitVec 32 := Scalar.muli v59 c256_i32_165
  let c0_i32_167 : BitVec 32 := 0#32
  ![42, v228.toNat, 0]
def k2_off44 (i : grid2.Coords) : Fin 3 → Nat :=
  let c43_i32 : BitVec 32 := 43#32
  let arg0 : BitVec 32 := BitVec.ofNat 32 (i 0).val
  let c1_i32_33 : BitVec 32 := 1#32
  let v59 : BitVec 32 := Scalar.addi arg0 c1_i32_33
  let c256_i32_168 : BitVec 32 := 256#32
  let v232 : BitVec 32 := Scalar.muli v59 c256_i32_168
  let c0_i32_170 : BitVec 32 := 0#32
  ![43, v232.toNat, 0]
def k2_off45 (i : grid2.Coords) : Fin 3 → Nat :=
  let c44_i32 : BitVec 32 := 44#32
  let arg0 : BitVec 32 := BitVec.ofNat 32 (i 0).val
  let c1_i32_33 : BitVec 32 := 1#32
  let v59 : BitVec 32 := Scalar.addi arg0 c1_i32_33
  let c256_i32_171 : BitVec 32 := 256#32
  let v236 : BitVec 32 := Scalar.muli v59 c256_i32_171
  let c0_i32_173 : BitVec 32 := 0#32
  ![44, v236.toNat, 0]
def k2_off46 (i : grid2.Coords) : Fin 3 → Nat :=
  let c45_i32 : BitVec 32 := 45#32
  let arg0 : BitVec 32 := BitVec.ofNat 32 (i 0).val
  let c1_i32_33 : BitVec 32 := 1#32
  let v59 : BitVec 32 := Scalar.addi arg0 c1_i32_33
  let c256_i32_174 : BitVec 32 := 256#32
  let v240 : BitVec 32 := Scalar.muli v59 c256_i32_174
  let c0_i32_176 : BitVec 32 := 0#32
  ![45, v240.toNat, 0]
def k2_off47 (i : grid2.Coords) : Fin 3 → Nat :=
  let c46_i32 : BitVec 32 := 46#32
  let arg0 : BitVec 32 := BitVec.ofNat 32 (i 0).val
  let c1_i32_33 : BitVec 32 := 1#32
  let v59 : BitVec 32 := Scalar.addi arg0 c1_i32_33
  let c256_i32_177 : BitVec 32 := 256#32
  let v244 : BitVec 32 := Scalar.muli v59 c256_i32_177
  let c0_i32_179 : BitVec 32 := 0#32
  ![46, v244.toNat, 0]
def k2_off48 (i : grid2.Coords) : Fin 3 → Nat :=
  let c47_i32 : BitVec 32 := 47#32
  let arg0 : BitVec 32 := BitVec.ofNat 32 (i 0).val
  let c1_i32_33 : BitVec 32 := 1#32
  let v59 : BitVec 32 := Scalar.addi arg0 c1_i32_33
  let c256_i32_180 : BitVec 32 := 256#32
  let v248 : BitVec 32 := Scalar.muli v59 c256_i32_180
  let c0_i32_182 : BitVec 32 := 0#32
  ![47, v248.toNat, 0]
def k2_off49 (i : grid2.Coords) : Fin 3 → Nat :=
  let c48_i32 : BitVec 32 := 48#32
  let arg0 : BitVec 32 := BitVec.ofNat 32 (i 0).val
  let c1_i32_33 : BitVec 32 := 1#32
  let v59 : BitVec 32 := Scalar.addi arg0 c1_i32_33
  let c256_i32_183 : BitVec 32 := 256#32
  let v252 : BitVec 32 := Scalar.muli v59 c256_i32_183
  let c0_i32_185 : BitVec 32 := 0#32
  ![48, v252.toNat, 0]
def k2_off50 (i : grid2.Coords) : Fin 3 → Nat :=
  let c49_i32 : BitVec 32 := 49#32
  let arg0 : BitVec 32 := BitVec.ofNat 32 (i 0).val
  let c1_i32_33 : BitVec 32 := 1#32
  let v59 : BitVec 32 := Scalar.addi arg0 c1_i32_33
  let c256_i32_186 : BitVec 32 := 256#32
  let v256 : BitVec 32 := Scalar.muli v59 c256_i32_186
  let c0_i32_188 : BitVec 32 := 0#32
  ![49, v256.toNat, 0]
def k2_cond4 (i : grid2.Coords) : BitVec 1 :=
  let arg0 : BitVec 32 := BitVec.ofNat 32 (i 0).val
  let c2_i32_25 : BitVec 32 := 2#32
  let c0_i32_26 : BitVec 32 := 0#32
  let v46 : BitVec 1 := Scalar.cmpi .eq c2_i32_25 c0_i32_26
  let c1_i32_27 : BitVec 32 := 1#32
  let v47 : BitVec 32 := Scalar.select v46 c1_i32_27 c2_i32_25
  let v48 : BitVec 32 := Scalar.remsi arg0 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c1_i32_31 : BitVec 32 := 1#32
  let v56 : BitVec 1 := Scalar.cmpi .eq v55 c1_i32_31
  let v57 : BitVec 32 := Scalar.extui v56
  let c0_i32_32 : BitVec 32 := 0#32
  let v58 : BitVec 1 := Scalar.cmpi .ne v57 c0_i32_32
  v58

def k2_off51 (i : grid2.Coords) : Fin 3 → Nat :=
  let c0_i32_34 : BitVec 32 := 0#32
  let arg0 : BitVec 32 := BitVec.ofNat 32 (i 0).val
  let c1_i32_33 : BitVec 32 := 1#32
  let v59 : BitVec 32 := Scalar.addi arg0 c1_i32_33
  let c256_i32 : BitVec 32 := 256#32
  let v60 : BitVec 32 := Scalar.muli v59 c256_i32
  let c0_i32_37 : BitVec 32 := 0#32
  ![0, v60.toNat, 0]
def k2_off52 (i : grid2.Coords) : Fin 3 → Nat :=
  let c1_i32_39 : BitVec 32 := 1#32
  let arg0 : BitVec 32 := BitVec.ofNat 32 (i 0).val
  let c1_i32_33 : BitVec 32 := 1#32
  let v59 : BitVec 32 := Scalar.addi arg0 c1_i32_33
  let c256_i32_38 : BitVec 32 := 256#32
  let v64 : BitVec 32 := Scalar.muli v59 c256_i32_38
  let c0_i32_41 : BitVec 32 := 0#32
  ![1, v64.toNat, 0]
def k2_off53 (i : grid2.Coords) : Fin 3 → Nat :=
  let c2_i32_43 : BitVec 32 := 2#32
  let arg0 : BitVec 32 := BitVec.ofNat 32 (i 0).val
  let c1_i32_33 : BitVec 32 := 1#32
  let v59 : BitVec 32 := Scalar.addi arg0 c1_i32_33
  let c256_i32_42 : BitVec 32 := 256#32
  let v68 : BitVec 32 := Scalar.muli v59 c256_i32_42
  let c0_i32_46 : BitVec 32 := 0#32
  ![2, v68.toNat, 0]
def k2_off54 (i : grid2.Coords) : Fin 3 → Nat :=
  let c3_i32 : BitVec 32 := 3#32
  let arg0 : BitVec 32 := BitVec.ofNat 32 (i 0).val
  let c1_i32_33 : BitVec 32 := 1#32
  let v59 : BitVec 32 := Scalar.addi arg0 c1_i32_33
  let c256_i32_47 : BitVec 32 := 256#32
  let v72 : BitVec 32 := Scalar.muli v59 c256_i32_47
  let c0_i32_49 : BitVec 32 := 0#32
  ![3, v72.toNat, 0]
def k2_off55 (i : grid2.Coords) : Fin 3 → Nat :=
  let c4_i32 : BitVec 32 := 4#32
  let arg0 : BitVec 32 := BitVec.ofNat 32 (i 0).val
  let c1_i32_33 : BitVec 32 := 1#32
  let v59 : BitVec 32 := Scalar.addi arg0 c1_i32_33
  let c256_i32_50 : BitVec 32 := 256#32
  let v76 : BitVec 32 := Scalar.muli v59 c256_i32_50
  let c0_i32_52 : BitVec 32 := 0#32
  ![4, v76.toNat, 0]
def k2_off56 (i : grid2.Coords) : Fin 3 → Nat :=
  let c5_i32 : BitVec 32 := 5#32
  let arg0 : BitVec 32 := BitVec.ofNat 32 (i 0).val
  let c1_i32_33 : BitVec 32 := 1#32
  let v59 : BitVec 32 := Scalar.addi arg0 c1_i32_33
  let c256_i32_53 : BitVec 32 := 256#32
  let v80 : BitVec 32 := Scalar.muli v59 c256_i32_53
  let c0_i32_55 : BitVec 32 := 0#32
  ![5, v80.toNat, 0]
def k2_off57 (i : grid2.Coords) : Fin 3 → Nat :=
  let c6_i32 : BitVec 32 := 6#32
  let arg0 : BitVec 32 := BitVec.ofNat 32 (i 0).val
  let c1_i32_33 : BitVec 32 := 1#32
  let v59 : BitVec 32 := Scalar.addi arg0 c1_i32_33
  let c256_i32_56 : BitVec 32 := 256#32
  let v84 : BitVec 32 := Scalar.muli v59 c256_i32_56
  let c0_i32_58 : BitVec 32 := 0#32
  ![6, v84.toNat, 0]
def k2_off58 (i : grid2.Coords) : Fin 3 → Nat :=
  let c7_i32 : BitVec 32 := 7#32
  let arg0 : BitVec 32 := BitVec.ofNat 32 (i 0).val
  let c1_i32_33 : BitVec 32 := 1#32
  let v59 : BitVec 32 := Scalar.addi arg0 c1_i32_33
  let c256_i32_59 : BitVec 32 := 256#32
  let v88 : BitVec 32 := Scalar.muli v59 c256_i32_59
  let c0_i32_61 : BitVec 32 := 0#32
  ![7, v88.toNat, 0]
def k2_off59 (i : grid2.Coords) : Fin 3 → Nat :=
  let c8_i32_63 : BitVec 32 := 8#32
  let arg0 : BitVec 32 := BitVec.ofNat 32 (i 0).val
  let c1_i32_33 : BitVec 32 := 1#32
  let v59 : BitVec 32 := Scalar.addi arg0 c1_i32_33
  let c256_i32_62 : BitVec 32 := 256#32
  let v92 : BitVec 32 := Scalar.muli v59 c256_i32_62
  let c0_i32_65 : BitVec 32 := 0#32
  ![8, v92.toNat, 0]
def k2_off60 (i : grid2.Coords) : Fin 3 → Nat :=
  let c9_i32 : BitVec 32 := 9#32
  let arg0 : BitVec 32 := BitVec.ofNat 32 (i 0).val
  let c1_i32_33 : BitVec 32 := 1#32
  let v59 : BitVec 32 := Scalar.addi arg0 c1_i32_33
  let c256_i32_66 : BitVec 32 := 256#32
  let v96 : BitVec 32 := Scalar.muli v59 c256_i32_66
  let c0_i32_68 : BitVec 32 := 0#32
  ![9, v96.toNat, 0]
def k2_off61 (i : grid2.Coords) : Fin 3 → Nat :=
  let c10_i32 : BitVec 32 := 10#32
  let arg0 : BitVec 32 := BitVec.ofNat 32 (i 0).val
  let c1_i32_33 : BitVec 32 := 1#32
  let v59 : BitVec 32 := Scalar.addi arg0 c1_i32_33
  let c256_i32_69 : BitVec 32 := 256#32
  let v100 : BitVec 32 := Scalar.muli v59 c256_i32_69
  let c0_i32_71 : BitVec 32 := 0#32
  ![10, v100.toNat, 0]
def k2_off62 (i : grid2.Coords) : Fin 3 → Nat :=
  let c11_i32 : BitVec 32 := 11#32
  let arg0 : BitVec 32 := BitVec.ofNat 32 (i 0).val
  let c1_i32_33 : BitVec 32 := 1#32
  let v59 : BitVec 32 := Scalar.addi arg0 c1_i32_33
  let c256_i32_72 : BitVec 32 := 256#32
  let v104 : BitVec 32 := Scalar.muli v59 c256_i32_72
  let c0_i32_74 : BitVec 32 := 0#32
  ![11, v104.toNat, 0]
def k2_off63 (i : grid2.Coords) : Fin 3 → Nat :=
  let c12_i32 : BitVec 32 := 12#32
  let arg0 : BitVec 32 := BitVec.ofNat 32 (i 0).val
  let c1_i32_33 : BitVec 32 := 1#32
  let v59 : BitVec 32 := Scalar.addi arg0 c1_i32_33
  let c256_i32_75 : BitVec 32 := 256#32
  let v108 : BitVec 32 := Scalar.muli v59 c256_i32_75
  let c0_i32_77 : BitVec 32 := 0#32
  ![12, v108.toNat, 0]
def k2_off64 (i : grid2.Coords) : Fin 3 → Nat :=
  let c13_i32 : BitVec 32 := 13#32
  let arg0 : BitVec 32 := BitVec.ofNat 32 (i 0).val
  let c1_i32_33 : BitVec 32 := 1#32
  let v59 : BitVec 32 := Scalar.addi arg0 c1_i32_33
  let c256_i32_78 : BitVec 32 := 256#32
  let v112 : BitVec 32 := Scalar.muli v59 c256_i32_78
  let c0_i32_80 : BitVec 32 := 0#32
  ![13, v112.toNat, 0]
def k2_off65 (i : grid2.Coords) : Fin 3 → Nat :=
  let c14_i32 : BitVec 32 := 14#32
  let arg0 : BitVec 32 := BitVec.ofNat 32 (i 0).val
  let c1_i32_33 : BitVec 32 := 1#32
  let v59 : BitVec 32 := Scalar.addi arg0 c1_i32_33
  let c256_i32_81 : BitVec 32 := 256#32
  let v116 : BitVec 32 := Scalar.muli v59 c256_i32_81
  let c0_i32_83 : BitVec 32 := 0#32
  ![14, v116.toNat, 0]
def k2_off66 (i : grid2.Coords) : Fin 3 → Nat :=
  let c15_i32 : BitVec 32 := 15#32
  let arg0 : BitVec 32 := BitVec.ofNat 32 (i 0).val
  let c1_i32_33 : BitVec 32 := 1#32
  let v59 : BitVec 32 := Scalar.addi arg0 c1_i32_33
  let c256_i32_84 : BitVec 32 := 256#32
  let v120 : BitVec 32 := Scalar.muli v59 c256_i32_84
  let c0_i32_86 : BitVec 32 := 0#32
  ![15, v120.toNat, 0]
def k2_off67 (i : grid2.Coords) : Fin 3 → Nat :=
  let c16_i32 : BitVec 32 := 16#32
  let arg0 : BitVec 32 := BitVec.ofNat 32 (i 0).val
  let c1_i32_33 : BitVec 32 := 1#32
  let v59 : BitVec 32 := Scalar.addi arg0 c1_i32_33
  let c256_i32_87 : BitVec 32 := 256#32
  let v124 : BitVec 32 := Scalar.muli v59 c256_i32_87
  let c0_i32_89 : BitVec 32 := 0#32
  ![16, v124.toNat, 0]
def k2_off68 (i : grid2.Coords) : Fin 3 → Nat :=
  let c17_i32 : BitVec 32 := 17#32
  let arg0 : BitVec 32 := BitVec.ofNat 32 (i 0).val
  let c1_i32_33 : BitVec 32 := 1#32
  let v59 : BitVec 32 := Scalar.addi arg0 c1_i32_33
  let c256_i32_90 : BitVec 32 := 256#32
  let v128 : BitVec 32 := Scalar.muli v59 c256_i32_90
  let c0_i32_92 : BitVec 32 := 0#32
  ![17, v128.toNat, 0]
def k2_off69 (i : grid2.Coords) : Fin 3 → Nat :=
  let c18_i32 : BitVec 32 := 18#32
  let arg0 : BitVec 32 := BitVec.ofNat 32 (i 0).val
  let c1_i32_33 : BitVec 32 := 1#32
  let v59 : BitVec 32 := Scalar.addi arg0 c1_i32_33
  let c256_i32_93 : BitVec 32 := 256#32
  let v132 : BitVec 32 := Scalar.muli v59 c256_i32_93
  let c0_i32_95 : BitVec 32 := 0#32
  ![18, v132.toNat, 0]
def k2_off70 (i : grid2.Coords) : Fin 3 → Nat :=
  let c19_i32 : BitVec 32 := 19#32
  let arg0 : BitVec 32 := BitVec.ofNat 32 (i 0).val
  let c1_i32_33 : BitVec 32 := 1#32
  let v59 : BitVec 32 := Scalar.addi arg0 c1_i32_33
  let c256_i32_96 : BitVec 32 := 256#32
  let v136 : BitVec 32 := Scalar.muli v59 c256_i32_96
  let c0_i32_98 : BitVec 32 := 0#32
  ![19, v136.toNat, 0]
def k2_off71 (i : grid2.Coords) : Fin 3 → Nat :=
  let c20_i32 : BitVec 32 := 20#32
  let arg0 : BitVec 32 := BitVec.ofNat 32 (i 0).val
  let c1_i32_33 : BitVec 32 := 1#32
  let v59 : BitVec 32 := Scalar.addi arg0 c1_i32_33
  let c256_i32_99 : BitVec 32 := 256#32
  let v140 : BitVec 32 := Scalar.muli v59 c256_i32_99
  let c0_i32_101 : BitVec 32 := 0#32
  ![20, v140.toNat, 0]
def k2_off72 (i : grid2.Coords) : Fin 3 → Nat :=
  let c21_i32 : BitVec 32 := 21#32
  let arg0 : BitVec 32 := BitVec.ofNat 32 (i 0).val
  let c1_i32_33 : BitVec 32 := 1#32
  let v59 : BitVec 32 := Scalar.addi arg0 c1_i32_33
  let c256_i32_102 : BitVec 32 := 256#32
  let v144 : BitVec 32 := Scalar.muli v59 c256_i32_102
  let c0_i32_104 : BitVec 32 := 0#32
  ![21, v144.toNat, 0]
def k2_off73 (i : grid2.Coords) : Fin 3 → Nat :=
  let c22_i32 : BitVec 32 := 22#32
  let arg0 : BitVec 32 := BitVec.ofNat 32 (i 0).val
  let c1_i32_33 : BitVec 32 := 1#32
  let v59 : BitVec 32 := Scalar.addi arg0 c1_i32_33
  let c256_i32_105 : BitVec 32 := 256#32
  let v148 : BitVec 32 := Scalar.muli v59 c256_i32_105
  let c0_i32_107 : BitVec 32 := 0#32
  ![22, v148.toNat, 0]
def k2_off74 (i : grid2.Coords) : Fin 3 → Nat :=
  let c23_i32 : BitVec 32 := 23#32
  let arg0 : BitVec 32 := BitVec.ofNat 32 (i 0).val
  let c1_i32_33 : BitVec 32 := 1#32
  let v59 : BitVec 32 := Scalar.addi arg0 c1_i32_33
  let c256_i32_108 : BitVec 32 := 256#32
  let v152 : BitVec 32 := Scalar.muli v59 c256_i32_108
  let c0_i32_110 : BitVec 32 := 0#32
  ![23, v152.toNat, 0]
def k2_off75 (i : grid2.Coords) : Fin 3 → Nat :=
  let c24_i32 : BitVec 32 := 24#32
  let arg0 : BitVec 32 := BitVec.ofNat 32 (i 0).val
  let c1_i32_33 : BitVec 32 := 1#32
  let v59 : BitVec 32 := Scalar.addi arg0 c1_i32_33
  let c256_i32_111 : BitVec 32 := 256#32
  let v156 : BitVec 32 := Scalar.muli v59 c256_i32_111
  let c0_i32_113 : BitVec 32 := 0#32
  ![24, v156.toNat, 0]
def k2_off76 (i : grid2.Coords) : Fin 3 → Nat :=
  let c25_i32 : BitVec 32 := 25#32
  let arg0 : BitVec 32 := BitVec.ofNat 32 (i 0).val
  let c1_i32_33 : BitVec 32 := 1#32
  let v59 : BitVec 32 := Scalar.addi arg0 c1_i32_33
  let c256_i32_114 : BitVec 32 := 256#32
  let v160 : BitVec 32 := Scalar.muli v59 c256_i32_114
  let c0_i32_116 : BitVec 32 := 0#32
  ![25, v160.toNat, 0]
def k2_off77 (i : grid2.Coords) : Fin 3 → Nat :=
  let c26_i32 : BitVec 32 := 26#32
  let arg0 : BitVec 32 := BitVec.ofNat 32 (i 0).val
  let c1_i32_33 : BitVec 32 := 1#32
  let v59 : BitVec 32 := Scalar.addi arg0 c1_i32_33
  let c256_i32_117 : BitVec 32 := 256#32
  let v164 : BitVec 32 := Scalar.muli v59 c256_i32_117
  let c0_i32_119 : BitVec 32 := 0#32
  ![26, v164.toNat, 0]
def k2_off78 (i : grid2.Coords) : Fin 3 → Nat :=
  let c27_i32 : BitVec 32 := 27#32
  let arg0 : BitVec 32 := BitVec.ofNat 32 (i 0).val
  let c1_i32_33 : BitVec 32 := 1#32
  let v59 : BitVec 32 := Scalar.addi arg0 c1_i32_33
  let c256_i32_120 : BitVec 32 := 256#32
  let v168 : BitVec 32 := Scalar.muli v59 c256_i32_120
  let c0_i32_122 : BitVec 32 := 0#32
  ![27, v168.toNat, 0]
def k2_off79 (i : grid2.Coords) : Fin 3 → Nat :=
  let c28_i32 : BitVec 32 := 28#32
  let arg0 : BitVec 32 := BitVec.ofNat 32 (i 0).val
  let c1_i32_33 : BitVec 32 := 1#32
  let v59 : BitVec 32 := Scalar.addi arg0 c1_i32_33
  let c256_i32_123 : BitVec 32 := 256#32
  let v172 : BitVec 32 := Scalar.muli v59 c256_i32_123
  let c0_i32_125 : BitVec 32 := 0#32
  ![28, v172.toNat, 0]
def k2_off80 (i : grid2.Coords) : Fin 3 → Nat :=
  let c29_i32 : BitVec 32 := 29#32
  let arg0 : BitVec 32 := BitVec.ofNat 32 (i 0).val
  let c1_i32_33 : BitVec 32 := 1#32
  let v59 : BitVec 32 := Scalar.addi arg0 c1_i32_33
  let c256_i32_126 : BitVec 32 := 256#32
  let v176 : BitVec 32 := Scalar.muli v59 c256_i32_126
  let c0_i32_128 : BitVec 32 := 0#32
  ![29, v176.toNat, 0]
def k2_off81 (i : grid2.Coords) : Fin 3 → Nat :=
  let c30_i32 : BitVec 32 := 30#32
  let arg0 : BitVec 32 := BitVec.ofNat 32 (i 0).val
  let c1_i32_33 : BitVec 32 := 1#32
  let v59 : BitVec 32 := Scalar.addi arg0 c1_i32_33
  let c256_i32_129 : BitVec 32 := 256#32
  let v180 : BitVec 32 := Scalar.muli v59 c256_i32_129
  let c0_i32_131 : BitVec 32 := 0#32
  ![30, v180.toNat, 0]
def k2_off82 (i : grid2.Coords) : Fin 3 → Nat :=
  let c31_i32 : BitVec 32 := 31#32
  let arg0 : BitVec 32 := BitVec.ofNat 32 (i 0).val
  let c1_i32_33 : BitVec 32 := 1#32
  let v59 : BitVec 32 := Scalar.addi arg0 c1_i32_33
  let c256_i32_132 : BitVec 32 := 256#32
  let v184 : BitVec 32 := Scalar.muli v59 c256_i32_132
  let c0_i32_134 : BitVec 32 := 0#32
  ![31, v184.toNat, 0]
def k2_off83 (i : grid2.Coords) : Fin 3 → Nat :=
  let c32_i32 : BitVec 32 := 32#32
  let arg0 : BitVec 32 := BitVec.ofNat 32 (i 0).val
  let c1_i32_33 : BitVec 32 := 1#32
  let v59 : BitVec 32 := Scalar.addi arg0 c1_i32_33
  let c256_i32_135 : BitVec 32 := 256#32
  let v188 : BitVec 32 := Scalar.muli v59 c256_i32_135
  let c0_i32_137 : BitVec 32 := 0#32
  ![32, v188.toNat, 0]
def k2_off84 (i : grid2.Coords) : Fin 3 → Nat :=
  let c33_i32 : BitVec 32 := 33#32
  let arg0 : BitVec 32 := BitVec.ofNat 32 (i 0).val
  let c1_i32_33 : BitVec 32 := 1#32
  let v59 : BitVec 32 := Scalar.addi arg0 c1_i32_33
  let c256_i32_138 : BitVec 32 := 256#32
  let v192 : BitVec 32 := Scalar.muli v59 c256_i32_138
  let c0_i32_140 : BitVec 32 := 0#32
  ![33, v192.toNat, 0]
def k2_off85 (i : grid2.Coords) : Fin 3 → Nat :=
  let c34_i32 : BitVec 32 := 34#32
  let arg0 : BitVec 32 := BitVec.ofNat 32 (i 0).val
  let c1_i32_33 : BitVec 32 := 1#32
  let v59 : BitVec 32 := Scalar.addi arg0 c1_i32_33
  let c256_i32_141 : BitVec 32 := 256#32
  let v196 : BitVec 32 := Scalar.muli v59 c256_i32_141
  let c0_i32_143 : BitVec 32 := 0#32
  ![34, v196.toNat, 0]
def k2_off86 (i : grid2.Coords) : Fin 3 → Nat :=
  let c35_i32 : BitVec 32 := 35#32
  let arg0 : BitVec 32 := BitVec.ofNat 32 (i 0).val
  let c1_i32_33 : BitVec 32 := 1#32
  let v59 : BitVec 32 := Scalar.addi arg0 c1_i32_33
  let c256_i32_144 : BitVec 32 := 256#32
  let v200 : BitVec 32 := Scalar.muli v59 c256_i32_144
  let c0_i32_146 : BitVec 32 := 0#32
  ![35, v200.toNat, 0]
def k2_off87 (i : grid2.Coords) : Fin 3 → Nat :=
  let c36_i32 : BitVec 32 := 36#32
  let arg0 : BitVec 32 := BitVec.ofNat 32 (i 0).val
  let c1_i32_33 : BitVec 32 := 1#32
  let v59 : BitVec 32 := Scalar.addi arg0 c1_i32_33
  let c256_i32_147 : BitVec 32 := 256#32
  let v204 : BitVec 32 := Scalar.muli v59 c256_i32_147
  let c0_i32_149 : BitVec 32 := 0#32
  ![36, v204.toNat, 0]
def k2_off88 (i : grid2.Coords) : Fin 3 → Nat :=
  let c37_i32 : BitVec 32 := 37#32
  let arg0 : BitVec 32 := BitVec.ofNat 32 (i 0).val
  let c1_i32_33 : BitVec 32 := 1#32
  let v59 : BitVec 32 := Scalar.addi arg0 c1_i32_33
  let c256_i32_150 : BitVec 32 := 256#32
  let v208 : BitVec 32 := Scalar.muli v59 c256_i32_150
  let c0_i32_152 : BitVec 32 := 0#32
  ![37, v208.toNat, 0]
def k2_off89 (i : grid2.Coords) : Fin 3 → Nat :=
  let c38_i32 : BitVec 32 := 38#32
  let arg0 : BitVec 32 := BitVec.ofNat 32 (i 0).val
  let c1_i32_33 : BitVec 32 := 1#32
  let v59 : BitVec 32 := Scalar.addi arg0 c1_i32_33
  let c256_i32_153 : BitVec 32 := 256#32
  let v212 : BitVec 32 := Scalar.muli v59 c256_i32_153
  let c0_i32_155 : BitVec 32 := 0#32
  ![38, v212.toNat, 0]
def k2_off90 (i : grid2.Coords) : Fin 3 → Nat :=
  let c39_i32 : BitVec 32 := 39#32
  let arg0 : BitVec 32 := BitVec.ofNat 32 (i 0).val
  let c1_i32_33 : BitVec 32 := 1#32
  let v59 : BitVec 32 := Scalar.addi arg0 c1_i32_33
  let c256_i32_156 : BitVec 32 := 256#32
  let v216 : BitVec 32 := Scalar.muli v59 c256_i32_156
  let c0_i32_158 : BitVec 32 := 0#32
  ![39, v216.toNat, 0]
def k2_off91 (i : grid2.Coords) : Fin 3 → Nat :=
  let c40_i32 : BitVec 32 := 40#32
  let arg0 : BitVec 32 := BitVec.ofNat 32 (i 0).val
  let c1_i32_33 : BitVec 32 := 1#32
  let v59 : BitVec 32 := Scalar.addi arg0 c1_i32_33
  let c256_i32_159 : BitVec 32 := 256#32
  let v220 : BitVec 32 := Scalar.muli v59 c256_i32_159
  let c0_i32_161 : BitVec 32 := 0#32
  ![40, v220.toNat, 0]
def k2_off92 (i : grid2.Coords) : Fin 3 → Nat :=
  let c41_i32 : BitVec 32 := 41#32
  let arg0 : BitVec 32 := BitVec.ofNat 32 (i 0).val
  let c1_i32_33 : BitVec 32 := 1#32
  let v59 : BitVec 32 := Scalar.addi arg0 c1_i32_33
  let c256_i32_162 : BitVec 32 := 256#32
  let v224 : BitVec 32 := Scalar.muli v59 c256_i32_162
  let c0_i32_164 : BitVec 32 := 0#32
  ![41, v224.toNat, 0]
def k2_off93 (i : grid2.Coords) : Fin 3 → Nat :=
  let c42_i32 : BitVec 32 := 42#32
  let arg0 : BitVec 32 := BitVec.ofNat 32 (i 0).val
  let c1_i32_33 : BitVec 32 := 1#32
  let v59 : BitVec 32 := Scalar.addi arg0 c1_i32_33
  let c256_i32_165 : BitVec 32 := 256#32
  let v228 : BitVec 32 := Scalar.muli v59 c256_i32_165
  let c0_i32_167 : BitVec 32 := 0#32
  ![42, v228.toNat, 0]
def k2_off94 (i : grid2.Coords) : Fin 3 → Nat :=
  let c43_i32 : BitVec 32 := 43#32
  let arg0 : BitVec 32 := BitVec.ofNat 32 (i 0).val
  let c1_i32_33 : BitVec 32 := 1#32
  let v59 : BitVec 32 := Scalar.addi arg0 c1_i32_33
  let c256_i32_168 : BitVec 32 := 256#32
  let v232 : BitVec 32 := Scalar.muli v59 c256_i32_168
  let c0_i32_170 : BitVec 32 := 0#32
  ![43, v232.toNat, 0]
def k2_off95 (i : grid2.Coords) : Fin 3 → Nat :=
  let c44_i32 : BitVec 32 := 44#32
  let arg0 : BitVec 32 := BitVec.ofNat 32 (i 0).val
  let c1_i32_33 : BitVec 32 := 1#32
  let v59 : BitVec 32 := Scalar.addi arg0 c1_i32_33
  let c256_i32_171 : BitVec 32 := 256#32
  let v236 : BitVec 32 := Scalar.muli v59 c256_i32_171
  let c0_i32_173 : BitVec 32 := 0#32
  ![44, v236.toNat, 0]
def k2_off96 (i : grid2.Coords) : Fin 3 → Nat :=
  let c45_i32 : BitVec 32 := 45#32
  let arg0 : BitVec 32 := BitVec.ofNat 32 (i 0).val
  let c1_i32_33 : BitVec 32 := 1#32
  let v59 : BitVec 32 := Scalar.addi arg0 c1_i32_33
  let c256_i32_174 : BitVec 32 := 256#32
  let v240 : BitVec 32 := Scalar.muli v59 c256_i32_174
  let c0_i32_176 : BitVec 32 := 0#32
  ![45, v240.toNat, 0]
def k2_off97 (i : grid2.Coords) : Fin 3 → Nat :=
  let c46_i32 : BitVec 32 := 46#32
  let arg0 : BitVec 32 := BitVec.ofNat 32 (i 0).val
  let c1_i32_33 : BitVec 32 := 1#32
  let v59 : BitVec 32 := Scalar.addi arg0 c1_i32_33
  let c256_i32_177 : BitVec 32 := 256#32
  let v244 : BitVec 32 := Scalar.muli v59 c256_i32_177
  let c0_i32_179 : BitVec 32 := 0#32
  ![46, v244.toNat, 0]
def k2_off98 (i : grid2.Coords) : Fin 3 → Nat :=
  let c47_i32 : BitVec 32 := 47#32
  let arg0 : BitVec 32 := BitVec.ofNat 32 (i 0).val
  let c1_i32_33 : BitVec 32 := 1#32
  let v59 : BitVec 32 := Scalar.addi arg0 c1_i32_33
  let c256_i32_180 : BitVec 32 := 256#32
  let v248 : BitVec 32 := Scalar.muli v59 c256_i32_180
  let c0_i32_182 : BitVec 32 := 0#32
  ![47, v248.toNat, 0]
def k2_off99 (i : grid2.Coords) : Fin 3 → Nat :=
  let c48_i32 : BitVec 32 := 48#32
  let arg0 : BitVec 32 := BitVec.ofNat 32 (i 0).val
  let c1_i32_33 : BitVec 32 := 1#32
  let v59 : BitVec 32 := Scalar.addi arg0 c1_i32_33
  let c256_i32_183 : BitVec 32 := 256#32
  let v252 : BitVec 32 := Scalar.muli v59 c256_i32_183
  let c0_i32_185 : BitVec 32 := 0#32
  ![48, v252.toNat, 0]
def k2_off100 (i : grid2.Coords) : Fin 3 → Nat :=
  let c49_i32 : BitVec 32 := 49#32
  let arg0 : BitVec 32 := BitVec.ofNat 32 (i 0).val
  let c1_i32_33 : BitVec 32 := 1#32
  let v59 : BitVec 32 := Scalar.addi arg0 c1_i32_33
  let c256_i32_186 : BitVec 32 := 256#32
  let v256 : BitVec 32 := Scalar.muli v59 c256_i32_186
  let c0_i32_188 : BitVec 32 := 0#32
  ![49, v256.toNat, 0]
def k2_cond5 (i : grid2.Coords) : BitVec 1 :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let v17 : BitVec 1 := Scalar.cmpi .eq v16 c0_i32_7
  let v18 : BitVec 32 := Scalar.extui v17
  let c0_i32_8 : BitVec 32 := 0#32
  let v19 : BitVec 1 := Scalar.cmpi .ne v18 c0_i32_8
  v19

def k2_off101 (i : grid2.Coords) : Fin 3 → Nat :=
  let c0_i32_17 : BitVec 32 := 0#32
  let arg0 : BitVec 32 := BitVec.ofNat 32 (i 0).val
  let c256_i32 : BitVec 32 := 256#32
  let v33 : BitVec 32 := Scalar.muli arg0 c256_i32
  let c0_i32_20 : BitVec 32 := 0#32
  ![0, v33.toNat, 0]
def k2_off102 (i : grid2.Coords) : Fin 3 → Nat :=
  let c1_i32_22 : BitVec 32 := 1#32
  let arg0 : BitVec 32 := BitVec.ofNat 32 (i 0).val
  let c256_i32_21 : BitVec 32 := 256#32
  let v37 : BitVec 32 := Scalar.muli arg0 c256_i32_21
  let c0_i32_24 : BitVec 32 := 0#32
  ![1, v37.toNat, 0]
def k2_off103 (i : grid2.Coords) : Fin 3 → Nat :=
  let c2_i32_26 : BitVec 32 := 2#32
  let arg0 : BitVec 32 := BitVec.ofNat 32 (i 0).val
  let c256_i32_25 : BitVec 32 := 256#32
  let v41 : BitVec 32 := Scalar.muli arg0 c256_i32_25
  let c0_i32_29 : BitVec 32 := 0#32
  ![2, v41.toNat, 0]
def k2_off104 (i : grid2.Coords) : Fin 3 → Nat :=
  let c3_i32 : BitVec 32 := 3#32
  let arg0 : BitVec 32 := BitVec.ofNat 32 (i 0).val
  let c256_i32_30 : BitVec 32 := 256#32
  let v45 : BitVec 32 := Scalar.muli arg0 c256_i32_30
  let c0_i32_32 : BitVec 32 := 0#32
  ![3, v45.toNat, 0]
def k2_off105 (i : grid2.Coords) : Fin 3 → Nat :=
  let c4_i32 : BitVec 32 := 4#32
  let arg0 : BitVec 32 := BitVec.ofNat 32 (i 0).val
  let c256_i32_33 : BitVec 32 := 256#32
  let v49 : BitVec 32 := Scalar.muli arg0 c256_i32_33
  let c0_i32_35 : BitVec 32 := 0#32
  ![4, v49.toNat, 0]
def k2_off106 (i : grid2.Coords) : Fin 3 → Nat :=
  let c5_i32 : BitVec 32 := 5#32
  let arg0 : BitVec 32 := BitVec.ofNat 32 (i 0).val
  let c256_i32_36 : BitVec 32 := 256#32
  let v53 : BitVec 32 := Scalar.muli arg0 c256_i32_36
  let c0_i32_38 : BitVec 32 := 0#32
  ![5, v53.toNat, 0]
def k2_off107 (i : grid2.Coords) : Fin 3 → Nat :=
  let c6_i32 : BitVec 32 := 6#32
  let arg0 : BitVec 32 := BitVec.ofNat 32 (i 0).val
  let c256_i32_39 : BitVec 32 := 256#32
  let v57 : BitVec 32 := Scalar.muli arg0 c256_i32_39
  let c0_i32_41 : BitVec 32 := 0#32
  ![6, v57.toNat, 0]
def k2_off108 (i : grid2.Coords) : Fin 3 → Nat :=
  let c7_i32 : BitVec 32 := 7#32
  let arg0 : BitVec 32 := BitVec.ofNat 32 (i 0).val
  let c256_i32_42 : BitVec 32 := 256#32
  let v61 : BitVec 32 := Scalar.muli arg0 c256_i32_42
  let c0_i32_44 : BitVec 32 := 0#32
  ![7, v61.toNat, 0]
def k2_off109 (i : grid2.Coords) : Fin 3 → Nat :=
  let c8_i32_46 : BitVec 32 := 8#32
  let arg0 : BitVec 32 := BitVec.ofNat 32 (i 0).val
  let c256_i32_45 : BitVec 32 := 256#32
  let v65 : BitVec 32 := Scalar.muli arg0 c256_i32_45
  let c0_i32_48 : BitVec 32 := 0#32
  ![8, v65.toNat, 0]
def k2_off110 (i : grid2.Coords) : Fin 3 → Nat :=
  let c9_i32 : BitVec 32 := 9#32
  let arg0 : BitVec 32 := BitVec.ofNat 32 (i 0).val
  let c256_i32_49 : BitVec 32 := 256#32
  let v69 : BitVec 32 := Scalar.muli arg0 c256_i32_49
  let c0_i32_51 : BitVec 32 := 0#32
  ![9, v69.toNat, 0]
def k2_off111 (i : grid2.Coords) : Fin 3 → Nat :=
  let c10_i32 : BitVec 32 := 10#32
  let arg0 : BitVec 32 := BitVec.ofNat 32 (i 0).val
  let c256_i32_52 : BitVec 32 := 256#32
  let v73 : BitVec 32 := Scalar.muli arg0 c256_i32_52
  let c0_i32_54 : BitVec 32 := 0#32
  ![10, v73.toNat, 0]
def k2_off112 (i : grid2.Coords) : Fin 3 → Nat :=
  let c11_i32 : BitVec 32 := 11#32
  let arg0 : BitVec 32 := BitVec.ofNat 32 (i 0).val
  let c256_i32_55 : BitVec 32 := 256#32
  let v77 : BitVec 32 := Scalar.muli arg0 c256_i32_55
  let c0_i32_57 : BitVec 32 := 0#32
  ![11, v77.toNat, 0]
def k2_off113 (i : grid2.Coords) : Fin 3 → Nat :=
  let c12_i32 : BitVec 32 := 12#32
  let arg0 : BitVec 32 := BitVec.ofNat 32 (i 0).val
  let c256_i32_58 : BitVec 32 := 256#32
  let v81 : BitVec 32 := Scalar.muli arg0 c256_i32_58
  let c0_i32_60 : BitVec 32 := 0#32
  ![12, v81.toNat, 0]
def k2_off114 (i : grid2.Coords) : Fin 3 → Nat :=
  let c13_i32 : BitVec 32 := 13#32
  let arg0 : BitVec 32 := BitVec.ofNat 32 (i 0).val
  let c256_i32_61 : BitVec 32 := 256#32
  let v85 : BitVec 32 := Scalar.muli arg0 c256_i32_61
  let c0_i32_63 : BitVec 32 := 0#32
  ![13, v85.toNat, 0]
def k2_off115 (i : grid2.Coords) : Fin 3 → Nat :=
  let c14_i32 : BitVec 32 := 14#32
  let arg0 : BitVec 32 := BitVec.ofNat 32 (i 0).val
  let c256_i32_64 : BitVec 32 := 256#32
  let v89 : BitVec 32 := Scalar.muli arg0 c256_i32_64
  let c0_i32_66 : BitVec 32 := 0#32
  ![14, v89.toNat, 0]
def k2_off116 (i : grid2.Coords) : Fin 3 → Nat :=
  let c15_i32 : BitVec 32 := 15#32
  let arg0 : BitVec 32 := BitVec.ofNat 32 (i 0).val
  let c256_i32_67 : BitVec 32 := 256#32
  let v93 : BitVec 32 := Scalar.muli arg0 c256_i32_67
  let c0_i32_69 : BitVec 32 := 0#32
  ![15, v93.toNat, 0]
def k2_off117 (i : grid2.Coords) : Fin 3 → Nat :=
  let c16_i32 : BitVec 32 := 16#32
  let arg0 : BitVec 32 := BitVec.ofNat 32 (i 0).val
  let c256_i32_70 : BitVec 32 := 256#32
  let v97 : BitVec 32 := Scalar.muli arg0 c256_i32_70
  let c0_i32_72 : BitVec 32 := 0#32
  ![16, v97.toNat, 0]
def k2_off118 (i : grid2.Coords) : Fin 3 → Nat :=
  let c17_i32 : BitVec 32 := 17#32
  let arg0 : BitVec 32 := BitVec.ofNat 32 (i 0).val
  let c256_i32_73 : BitVec 32 := 256#32
  let v101 : BitVec 32 := Scalar.muli arg0 c256_i32_73
  let c0_i32_75 : BitVec 32 := 0#32
  ![17, v101.toNat, 0]
def k2_off119 (i : grid2.Coords) : Fin 3 → Nat :=
  let c18_i32 : BitVec 32 := 18#32
  let arg0 : BitVec 32 := BitVec.ofNat 32 (i 0).val
  let c256_i32_76 : BitVec 32 := 256#32
  let v105 : BitVec 32 := Scalar.muli arg0 c256_i32_76
  let c0_i32_78 : BitVec 32 := 0#32
  ![18, v105.toNat, 0]
def k2_off120 (i : grid2.Coords) : Fin 3 → Nat :=
  let c19_i32 : BitVec 32 := 19#32
  let arg0 : BitVec 32 := BitVec.ofNat 32 (i 0).val
  let c256_i32_79 : BitVec 32 := 256#32
  let v109 : BitVec 32 := Scalar.muli arg0 c256_i32_79
  let c0_i32_81 : BitVec 32 := 0#32
  ![19, v109.toNat, 0]
def k2_off121 (i : grid2.Coords) : Fin 3 → Nat :=
  let c20_i32 : BitVec 32 := 20#32
  let arg0 : BitVec 32 := BitVec.ofNat 32 (i 0).val
  let c256_i32_82 : BitVec 32 := 256#32
  let v113 : BitVec 32 := Scalar.muli arg0 c256_i32_82
  let c0_i32_84 : BitVec 32 := 0#32
  ![20, v113.toNat, 0]
def k2_off122 (i : grid2.Coords) : Fin 3 → Nat :=
  let c21_i32 : BitVec 32 := 21#32
  let arg0 : BitVec 32 := BitVec.ofNat 32 (i 0).val
  let c256_i32_85 : BitVec 32 := 256#32
  let v117 : BitVec 32 := Scalar.muli arg0 c256_i32_85
  let c0_i32_87 : BitVec 32 := 0#32
  ![21, v117.toNat, 0]
def k2_off123 (i : grid2.Coords) : Fin 3 → Nat :=
  let c22_i32 : BitVec 32 := 22#32
  let arg0 : BitVec 32 := BitVec.ofNat 32 (i 0).val
  let c256_i32_88 : BitVec 32 := 256#32
  let v121 : BitVec 32 := Scalar.muli arg0 c256_i32_88
  let c0_i32_90 : BitVec 32 := 0#32
  ![22, v121.toNat, 0]
def k2_off124 (i : grid2.Coords) : Fin 3 → Nat :=
  let c23_i32 : BitVec 32 := 23#32
  let arg0 : BitVec 32 := BitVec.ofNat 32 (i 0).val
  let c256_i32_91 : BitVec 32 := 256#32
  let v125 : BitVec 32 := Scalar.muli arg0 c256_i32_91
  let c0_i32_93 : BitVec 32 := 0#32
  ![23, v125.toNat, 0]
def k2_off125 (i : grid2.Coords) : Fin 3 → Nat :=
  let c24_i32 : BitVec 32 := 24#32
  let arg0 : BitVec 32 := BitVec.ofNat 32 (i 0).val
  let c256_i32_94 : BitVec 32 := 256#32
  let v129 : BitVec 32 := Scalar.muli arg0 c256_i32_94
  let c0_i32_96 : BitVec 32 := 0#32
  ![24, v129.toNat, 0]
def k2_off126 (i : grid2.Coords) : Fin 3 → Nat :=
  let c25_i32 : BitVec 32 := 25#32
  let arg0 : BitVec 32 := BitVec.ofNat 32 (i 0).val
  let c256_i32_97 : BitVec 32 := 256#32
  let v133 : BitVec 32 := Scalar.muli arg0 c256_i32_97
  let c0_i32_99 : BitVec 32 := 0#32
  ![25, v133.toNat, 0]
def k2_off127 (i : grid2.Coords) : Fin 3 → Nat :=
  let c26_i32 : BitVec 32 := 26#32
  let arg0 : BitVec 32 := BitVec.ofNat 32 (i 0).val
  let c256_i32_100 : BitVec 32 := 256#32
  let v137 : BitVec 32 := Scalar.muli arg0 c256_i32_100
  let c0_i32_102 : BitVec 32 := 0#32
  ![26, v137.toNat, 0]
def k2_off128 (i : grid2.Coords) : Fin 3 → Nat :=
  let c27_i32 : BitVec 32 := 27#32
  let arg0 : BitVec 32 := BitVec.ofNat 32 (i 0).val
  let c256_i32_103 : BitVec 32 := 256#32
  let v141 : BitVec 32 := Scalar.muli arg0 c256_i32_103
  let c0_i32_105 : BitVec 32 := 0#32
  ![27, v141.toNat, 0]
def k2_off129 (i : grid2.Coords) : Fin 3 → Nat :=
  let c28_i32 : BitVec 32 := 28#32
  let arg0 : BitVec 32 := BitVec.ofNat 32 (i 0).val
  let c256_i32_106 : BitVec 32 := 256#32
  let v145 : BitVec 32 := Scalar.muli arg0 c256_i32_106
  let c0_i32_108 : BitVec 32 := 0#32
  ![28, v145.toNat, 0]
def k2_off130 (i : grid2.Coords) : Fin 3 → Nat :=
  let c29_i32 : BitVec 32 := 29#32
  let arg0 : BitVec 32 := BitVec.ofNat 32 (i 0).val
  let c256_i32_109 : BitVec 32 := 256#32
  let v149 : BitVec 32 := Scalar.muli arg0 c256_i32_109
  let c0_i32_111 : BitVec 32 := 0#32
  ![29, v149.toNat, 0]
def k2_off131 (i : grid2.Coords) : Fin 3 → Nat :=
  let c30_i32 : BitVec 32 := 30#32
  let arg0 : BitVec 32 := BitVec.ofNat 32 (i 0).val
  let c256_i32_112 : BitVec 32 := 256#32
  let v153 : BitVec 32 := Scalar.muli arg0 c256_i32_112
  let c0_i32_114 : BitVec 32 := 0#32
  ![30, v153.toNat, 0]
def k2_off132 (i : grid2.Coords) : Fin 3 → Nat :=
  let c31_i32 : BitVec 32 := 31#32
  let arg0 : BitVec 32 := BitVec.ofNat 32 (i 0).val
  let c256_i32_115 : BitVec 32 := 256#32
  let v157 : BitVec 32 := Scalar.muli arg0 c256_i32_115
  let c0_i32_117 : BitVec 32 := 0#32
  ![31, v157.toNat, 0]
def k2_off133 (i : grid2.Coords) : Fin 3 → Nat :=
  let c32_i32 : BitVec 32 := 32#32
  let arg0 : BitVec 32 := BitVec.ofNat 32 (i 0).val
  let c256_i32_118 : BitVec 32 := 256#32
  let v161 : BitVec 32 := Scalar.muli arg0 c256_i32_118
  let c0_i32_120 : BitVec 32 := 0#32
  ![32, v161.toNat, 0]
def k2_off134 (i : grid2.Coords) : Fin 3 → Nat :=
  let c33_i32 : BitVec 32 := 33#32
  let arg0 : BitVec 32 := BitVec.ofNat 32 (i 0).val
  let c256_i32_121 : BitVec 32 := 256#32
  let v165 : BitVec 32 := Scalar.muli arg0 c256_i32_121
  let c0_i32_123 : BitVec 32 := 0#32
  ![33, v165.toNat, 0]
def k2_off135 (i : grid2.Coords) : Fin 3 → Nat :=
  let c34_i32 : BitVec 32 := 34#32
  let arg0 : BitVec 32 := BitVec.ofNat 32 (i 0).val
  let c256_i32_124 : BitVec 32 := 256#32
  let v169 : BitVec 32 := Scalar.muli arg0 c256_i32_124
  let c0_i32_126 : BitVec 32 := 0#32
  ![34, v169.toNat, 0]
def k2_off136 (i : grid2.Coords) : Fin 3 → Nat :=
  let c35_i32 : BitVec 32 := 35#32
  let arg0 : BitVec 32 := BitVec.ofNat 32 (i 0).val
  let c256_i32_127 : BitVec 32 := 256#32
  let v173 : BitVec 32 := Scalar.muli arg0 c256_i32_127
  let c0_i32_129 : BitVec 32 := 0#32
  ![35, v173.toNat, 0]
def k2_off137 (i : grid2.Coords) : Fin 3 → Nat :=
  let c36_i32 : BitVec 32 := 36#32
  let arg0 : BitVec 32 := BitVec.ofNat 32 (i 0).val
  let c256_i32_130 : BitVec 32 := 256#32
  let v177 : BitVec 32 := Scalar.muli arg0 c256_i32_130
  let c0_i32_132 : BitVec 32 := 0#32
  ![36, v177.toNat, 0]
def k2_off138 (i : grid2.Coords) : Fin 3 → Nat :=
  let c37_i32 : BitVec 32 := 37#32
  let arg0 : BitVec 32 := BitVec.ofNat 32 (i 0).val
  let c256_i32_133 : BitVec 32 := 256#32
  let v181 : BitVec 32 := Scalar.muli arg0 c256_i32_133
  let c0_i32_135 : BitVec 32 := 0#32
  ![37, v181.toNat, 0]
def k2_off139 (i : grid2.Coords) : Fin 3 → Nat :=
  let c38_i32 : BitVec 32 := 38#32
  let arg0 : BitVec 32 := BitVec.ofNat 32 (i 0).val
  let c256_i32_136 : BitVec 32 := 256#32
  let v185 : BitVec 32 := Scalar.muli arg0 c256_i32_136
  let c0_i32_138 : BitVec 32 := 0#32
  ![38, v185.toNat, 0]
def k2_off140 (i : grid2.Coords) : Fin 3 → Nat :=
  let c39_i32 : BitVec 32 := 39#32
  let arg0 : BitVec 32 := BitVec.ofNat 32 (i 0).val
  let c256_i32_139 : BitVec 32 := 256#32
  let v189 : BitVec 32 := Scalar.muli arg0 c256_i32_139
  let c0_i32_141 : BitVec 32 := 0#32
  ![39, v189.toNat, 0]
def k2_off141 (i : grid2.Coords) : Fin 3 → Nat :=
  let c40_i32 : BitVec 32 := 40#32
  let arg0 : BitVec 32 := BitVec.ofNat 32 (i 0).val
  let c256_i32_142 : BitVec 32 := 256#32
  let v193 : BitVec 32 := Scalar.muli arg0 c256_i32_142
  let c0_i32_144 : BitVec 32 := 0#32
  ![40, v193.toNat, 0]
def k2_off142 (i : grid2.Coords) : Fin 3 → Nat :=
  let c41_i32 : BitVec 32 := 41#32
  let arg0 : BitVec 32 := BitVec.ofNat 32 (i 0).val
  let c256_i32_145 : BitVec 32 := 256#32
  let v197 : BitVec 32 := Scalar.muli arg0 c256_i32_145
  let c0_i32_147 : BitVec 32 := 0#32
  ![41, v197.toNat, 0]
def k2_off143 (i : grid2.Coords) : Fin 3 → Nat :=
  let c42_i32 : BitVec 32 := 42#32
  let arg0 : BitVec 32 := BitVec.ofNat 32 (i 0).val
  let c256_i32_148 : BitVec 32 := 256#32
  let v201 : BitVec 32 := Scalar.muli arg0 c256_i32_148
  let c0_i32_150 : BitVec 32 := 0#32
  ![42, v201.toNat, 0]
def k2_off144 (i : grid2.Coords) : Fin 3 → Nat :=
  let c43_i32 : BitVec 32 := 43#32
  let arg0 : BitVec 32 := BitVec.ofNat 32 (i 0).val
  let c256_i32_151 : BitVec 32 := 256#32
  let v205 : BitVec 32 := Scalar.muli arg0 c256_i32_151
  let c0_i32_153 : BitVec 32 := 0#32
  ![43, v205.toNat, 0]
def k2_off145 (i : grid2.Coords) : Fin 3 → Nat :=
  let c44_i32 : BitVec 32 := 44#32
  let arg0 : BitVec 32 := BitVec.ofNat 32 (i 0).val
  let c256_i32_154 : BitVec 32 := 256#32
  let v209 : BitVec 32 := Scalar.muli arg0 c256_i32_154
  let c0_i32_156 : BitVec 32 := 0#32
  ![44, v209.toNat, 0]
def k2_off146 (i : grid2.Coords) : Fin 3 → Nat :=
  let c45_i32 : BitVec 32 := 45#32
  let arg0 : BitVec 32 := BitVec.ofNat 32 (i 0).val
  let c256_i32_157 : BitVec 32 := 256#32
  let v213 : BitVec 32 := Scalar.muli arg0 c256_i32_157
  let c0_i32_159 : BitVec 32 := 0#32
  ![45, v213.toNat, 0]
def k2_off147 (i : grid2.Coords) : Fin 3 → Nat :=
  let c46_i32 : BitVec 32 := 46#32
  let arg0 : BitVec 32 := BitVec.ofNat 32 (i 0).val
  let c256_i32_160 : BitVec 32 := 256#32
  let v217 : BitVec 32 := Scalar.muli arg0 c256_i32_160
  let c0_i32_162 : BitVec 32 := 0#32
  ![46, v217.toNat, 0]
def k2_off148 (i : grid2.Coords) : Fin 3 → Nat :=
  let c47_i32 : BitVec 32 := 47#32
  let arg0 : BitVec 32 := BitVec.ofNat 32 (i 0).val
  let c256_i32_163 : BitVec 32 := 256#32
  let v221 : BitVec 32 := Scalar.muli arg0 c256_i32_163
  let c0_i32_165 : BitVec 32 := 0#32
  ![47, v221.toNat, 0]
def k2_off149 (i : grid2.Coords) : Fin 3 → Nat :=
  let c48_i32 : BitVec 32 := 48#32
  let arg0 : BitVec 32 := BitVec.ofNat 32 (i 0).val
  let c256_i32_166 : BitVec 32 := 256#32
  let v225 : BitVec 32 := Scalar.muli arg0 c256_i32_166
  let c0_i32_168 : BitVec 32 := 0#32
  ![48, v225.toNat, 0]
def k2_off150 (i : grid2.Coords) : Fin 3 → Nat :=
  let c49_i32 : BitVec 32 := 49#32
  let arg0 : BitVec 32 := BitVec.ofNat 32 (i 0).val
  let c256_i32_169 : BitVec 32 := 256#32
  let v229 : BitVec 32 := Scalar.muli arg0 c256_i32_169
  let c0_i32_171 : BitVec 32 := 0#32
  ![49, v229.toNat, 0]
def k2_cond6 (i : grid2.Coords) : BitVec 1 :=
  let arg0 : BitVec 32 := BitVec.ofNat 32 (i 0).val
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi arg0 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 32 := Scalar.extui v30
  let c0_i32_16 : BitVec 32 := 0#32
  let v32 : BitVec 1 := Scalar.cmpi .ne v31 c0_i32_16
  v32

def k2_off151 (i : grid2.Coords) : Fin 3 → Nat :=
  let c0_i32_17 : BitVec 32 := 0#32
  let arg0 : BitVec 32 := BitVec.ofNat 32 (i 0).val
  let c256_i32 : BitVec 32 := 256#32
  let v33 : BitVec 32 := Scalar.muli arg0 c256_i32
  let c0_i32_20 : BitVec 32 := 0#32
  ![0, v33.toNat, 0]
def k2_off152 (i : grid2.Coords) : Fin 3 → Nat :=
  let c1_i32_22 : BitVec 32 := 1#32
  let arg0 : BitVec 32 := BitVec.ofNat 32 (i 0).val
  let c256_i32_21 : BitVec 32 := 256#32
  let v37 : BitVec 32 := Scalar.muli arg0 c256_i32_21
  let c0_i32_24 : BitVec 32 := 0#32
  ![1, v37.toNat, 0]
def k2_off153 (i : grid2.Coords) : Fin 3 → Nat :=
  let c2_i32_26 : BitVec 32 := 2#32
  let arg0 : BitVec 32 := BitVec.ofNat 32 (i 0).val
  let c256_i32_25 : BitVec 32 := 256#32
  let v41 : BitVec 32 := Scalar.muli arg0 c256_i32_25
  let c0_i32_29 : BitVec 32 := 0#32
  ![2, v41.toNat, 0]
def k2_off154 (i : grid2.Coords) : Fin 3 → Nat :=
  let c3_i32 : BitVec 32 := 3#32
  let arg0 : BitVec 32 := BitVec.ofNat 32 (i 0).val
  let c256_i32_30 : BitVec 32 := 256#32
  let v45 : BitVec 32 := Scalar.muli arg0 c256_i32_30
  let c0_i32_32 : BitVec 32 := 0#32
  ![3, v45.toNat, 0]
def k2_off155 (i : grid2.Coords) : Fin 3 → Nat :=
  let c4_i32 : BitVec 32 := 4#32
  let arg0 : BitVec 32 := BitVec.ofNat 32 (i 0).val
  let c256_i32_33 : BitVec 32 := 256#32
  let v49 : BitVec 32 := Scalar.muli arg0 c256_i32_33
  let c0_i32_35 : BitVec 32 := 0#32
  ![4, v49.toNat, 0]
def k2_off156 (i : grid2.Coords) : Fin 3 → Nat :=
  let c5_i32 : BitVec 32 := 5#32
  let arg0 : BitVec 32 := BitVec.ofNat 32 (i 0).val
  let c256_i32_36 : BitVec 32 := 256#32
  let v53 : BitVec 32 := Scalar.muli arg0 c256_i32_36
  let c0_i32_38 : BitVec 32 := 0#32
  ![5, v53.toNat, 0]
def k2_off157 (i : grid2.Coords) : Fin 3 → Nat :=
  let c6_i32 : BitVec 32 := 6#32
  let arg0 : BitVec 32 := BitVec.ofNat 32 (i 0).val
  let c256_i32_39 : BitVec 32 := 256#32
  let v57 : BitVec 32 := Scalar.muli arg0 c256_i32_39
  let c0_i32_41 : BitVec 32 := 0#32
  ![6, v57.toNat, 0]
def k2_off158 (i : grid2.Coords) : Fin 3 → Nat :=
  let c7_i32 : BitVec 32 := 7#32
  let arg0 : BitVec 32 := BitVec.ofNat 32 (i 0).val
  let c256_i32_42 : BitVec 32 := 256#32
  let v61 : BitVec 32 := Scalar.muli arg0 c256_i32_42
  let c0_i32_44 : BitVec 32 := 0#32
  ![7, v61.toNat, 0]
def k2_off159 (i : grid2.Coords) : Fin 3 → Nat :=
  let c8_i32_46 : BitVec 32 := 8#32
  let arg0 : BitVec 32 := BitVec.ofNat 32 (i 0).val
  let c256_i32_45 : BitVec 32 := 256#32
  let v65 : BitVec 32 := Scalar.muli arg0 c256_i32_45
  let c0_i32_48 : BitVec 32 := 0#32
  ![8, v65.toNat, 0]
def k2_off160 (i : grid2.Coords) : Fin 3 → Nat :=
  let c9_i32 : BitVec 32 := 9#32
  let arg0 : BitVec 32 := BitVec.ofNat 32 (i 0).val
  let c256_i32_49 : BitVec 32 := 256#32
  let v69 : BitVec 32 := Scalar.muli arg0 c256_i32_49
  let c0_i32_51 : BitVec 32 := 0#32
  ![9, v69.toNat, 0]
def k2_off161 (i : grid2.Coords) : Fin 3 → Nat :=
  let c10_i32 : BitVec 32 := 10#32
  let arg0 : BitVec 32 := BitVec.ofNat 32 (i 0).val
  let c256_i32_52 : BitVec 32 := 256#32
  let v73 : BitVec 32 := Scalar.muli arg0 c256_i32_52
  let c0_i32_54 : BitVec 32 := 0#32
  ![10, v73.toNat, 0]
def k2_off162 (i : grid2.Coords) : Fin 3 → Nat :=
  let c11_i32 : BitVec 32 := 11#32
  let arg0 : BitVec 32 := BitVec.ofNat 32 (i 0).val
  let c256_i32_55 : BitVec 32 := 256#32
  let v77 : BitVec 32 := Scalar.muli arg0 c256_i32_55
  let c0_i32_57 : BitVec 32 := 0#32
  ![11, v77.toNat, 0]
def k2_off163 (i : grid2.Coords) : Fin 3 → Nat :=
  let c12_i32 : BitVec 32 := 12#32
  let arg0 : BitVec 32 := BitVec.ofNat 32 (i 0).val
  let c256_i32_58 : BitVec 32 := 256#32
  let v81 : BitVec 32 := Scalar.muli arg0 c256_i32_58
  let c0_i32_60 : BitVec 32 := 0#32
  ![12, v81.toNat, 0]
def k2_off164 (i : grid2.Coords) : Fin 3 → Nat :=
  let c13_i32 : BitVec 32 := 13#32
  let arg0 : BitVec 32 := BitVec.ofNat 32 (i 0).val
  let c256_i32_61 : BitVec 32 := 256#32
  let v85 : BitVec 32 := Scalar.muli arg0 c256_i32_61
  let c0_i32_63 : BitVec 32 := 0#32
  ![13, v85.toNat, 0]
def k2_off165 (i : grid2.Coords) : Fin 3 → Nat :=
  let c14_i32 : BitVec 32 := 14#32
  let arg0 : BitVec 32 := BitVec.ofNat 32 (i 0).val
  let c256_i32_64 : BitVec 32 := 256#32
  let v89 : BitVec 32 := Scalar.muli arg0 c256_i32_64
  let c0_i32_66 : BitVec 32 := 0#32
  ![14, v89.toNat, 0]
def k2_off166 (i : grid2.Coords) : Fin 3 → Nat :=
  let c15_i32 : BitVec 32 := 15#32
  let arg0 : BitVec 32 := BitVec.ofNat 32 (i 0).val
  let c256_i32_67 : BitVec 32 := 256#32
  let v93 : BitVec 32 := Scalar.muli arg0 c256_i32_67
  let c0_i32_69 : BitVec 32 := 0#32
  ![15, v93.toNat, 0]
def k2_off167 (i : grid2.Coords) : Fin 3 → Nat :=
  let c16_i32 : BitVec 32 := 16#32
  let arg0 : BitVec 32 := BitVec.ofNat 32 (i 0).val
  let c256_i32_70 : BitVec 32 := 256#32
  let v97 : BitVec 32 := Scalar.muli arg0 c256_i32_70
  let c0_i32_72 : BitVec 32 := 0#32
  ![16, v97.toNat, 0]
def k2_off168 (i : grid2.Coords) : Fin 3 → Nat :=
  let c17_i32 : BitVec 32 := 17#32
  let arg0 : BitVec 32 := BitVec.ofNat 32 (i 0).val
  let c256_i32_73 : BitVec 32 := 256#32
  let v101 : BitVec 32 := Scalar.muli arg0 c256_i32_73
  let c0_i32_75 : BitVec 32 := 0#32
  ![17, v101.toNat, 0]
def k2_off169 (i : grid2.Coords) : Fin 3 → Nat :=
  let c18_i32 : BitVec 32 := 18#32
  let arg0 : BitVec 32 := BitVec.ofNat 32 (i 0).val
  let c256_i32_76 : BitVec 32 := 256#32
  let v105 : BitVec 32 := Scalar.muli arg0 c256_i32_76
  let c0_i32_78 : BitVec 32 := 0#32
  ![18, v105.toNat, 0]
def k2_off170 (i : grid2.Coords) : Fin 3 → Nat :=
  let c19_i32 : BitVec 32 := 19#32
  let arg0 : BitVec 32 := BitVec.ofNat 32 (i 0).val
  let c256_i32_79 : BitVec 32 := 256#32
  let v109 : BitVec 32 := Scalar.muli arg0 c256_i32_79
  let c0_i32_81 : BitVec 32 := 0#32
  ![19, v109.toNat, 0]
def k2_off171 (i : grid2.Coords) : Fin 3 → Nat :=
  let c20_i32 : BitVec 32 := 20#32
  let arg0 : BitVec 32 := BitVec.ofNat 32 (i 0).val
  let c256_i32_82 : BitVec 32 := 256#32
  let v113 : BitVec 32 := Scalar.muli arg0 c256_i32_82
  let c0_i32_84 : BitVec 32 := 0#32
  ![20, v113.toNat, 0]
def k2_off172 (i : grid2.Coords) : Fin 3 → Nat :=
  let c21_i32 : BitVec 32 := 21#32
  let arg0 : BitVec 32 := BitVec.ofNat 32 (i 0).val
  let c256_i32_85 : BitVec 32 := 256#32
  let v117 : BitVec 32 := Scalar.muli arg0 c256_i32_85
  let c0_i32_87 : BitVec 32 := 0#32
  ![21, v117.toNat, 0]
def k2_off173 (i : grid2.Coords) : Fin 3 → Nat :=
  let c22_i32 : BitVec 32 := 22#32
  let arg0 : BitVec 32 := BitVec.ofNat 32 (i 0).val
  let c256_i32_88 : BitVec 32 := 256#32
  let v121 : BitVec 32 := Scalar.muli arg0 c256_i32_88
  let c0_i32_90 : BitVec 32 := 0#32
  ![22, v121.toNat, 0]
def k2_off174 (i : grid2.Coords) : Fin 3 → Nat :=
  let c23_i32 : BitVec 32 := 23#32
  let arg0 : BitVec 32 := BitVec.ofNat 32 (i 0).val
  let c256_i32_91 : BitVec 32 := 256#32
  let v125 : BitVec 32 := Scalar.muli arg0 c256_i32_91
  let c0_i32_93 : BitVec 32 := 0#32
  ![23, v125.toNat, 0]
def k2_off175 (i : grid2.Coords) : Fin 3 → Nat :=
  let c24_i32 : BitVec 32 := 24#32
  let arg0 : BitVec 32 := BitVec.ofNat 32 (i 0).val
  let c256_i32_94 : BitVec 32 := 256#32
  let v129 : BitVec 32 := Scalar.muli arg0 c256_i32_94
  let c0_i32_96 : BitVec 32 := 0#32
  ![24, v129.toNat, 0]
def k2_off176 (i : grid2.Coords) : Fin 3 → Nat :=
  let c25_i32 : BitVec 32 := 25#32
  let arg0 : BitVec 32 := BitVec.ofNat 32 (i 0).val
  let c256_i32_97 : BitVec 32 := 256#32
  let v133 : BitVec 32 := Scalar.muli arg0 c256_i32_97
  let c0_i32_99 : BitVec 32 := 0#32
  ![25, v133.toNat, 0]
def k2_off177 (i : grid2.Coords) : Fin 3 → Nat :=
  let c26_i32 : BitVec 32 := 26#32
  let arg0 : BitVec 32 := BitVec.ofNat 32 (i 0).val
  let c256_i32_100 : BitVec 32 := 256#32
  let v137 : BitVec 32 := Scalar.muli arg0 c256_i32_100
  let c0_i32_102 : BitVec 32 := 0#32
  ![26, v137.toNat, 0]
def k2_off178 (i : grid2.Coords) : Fin 3 → Nat :=
  let c27_i32 : BitVec 32 := 27#32
  let arg0 : BitVec 32 := BitVec.ofNat 32 (i 0).val
  let c256_i32_103 : BitVec 32 := 256#32
  let v141 : BitVec 32 := Scalar.muli arg0 c256_i32_103
  let c0_i32_105 : BitVec 32 := 0#32
  ![27, v141.toNat, 0]
def k2_off179 (i : grid2.Coords) : Fin 3 → Nat :=
  let c28_i32 : BitVec 32 := 28#32
  let arg0 : BitVec 32 := BitVec.ofNat 32 (i 0).val
  let c256_i32_106 : BitVec 32 := 256#32
  let v145 : BitVec 32 := Scalar.muli arg0 c256_i32_106
  let c0_i32_108 : BitVec 32 := 0#32
  ![28, v145.toNat, 0]
def k2_off180 (i : grid2.Coords) : Fin 3 → Nat :=
  let c29_i32 : BitVec 32 := 29#32
  let arg0 : BitVec 32 := BitVec.ofNat 32 (i 0).val
  let c256_i32_109 : BitVec 32 := 256#32
  let v149 : BitVec 32 := Scalar.muli arg0 c256_i32_109
  let c0_i32_111 : BitVec 32 := 0#32
  ![29, v149.toNat, 0]
def k2_off181 (i : grid2.Coords) : Fin 3 → Nat :=
  let c30_i32 : BitVec 32 := 30#32
  let arg0 : BitVec 32 := BitVec.ofNat 32 (i 0).val
  let c256_i32_112 : BitVec 32 := 256#32
  let v153 : BitVec 32 := Scalar.muli arg0 c256_i32_112
  let c0_i32_114 : BitVec 32 := 0#32
  ![30, v153.toNat, 0]
def k2_off182 (i : grid2.Coords) : Fin 3 → Nat :=
  let c31_i32 : BitVec 32 := 31#32
  let arg0 : BitVec 32 := BitVec.ofNat 32 (i 0).val
  let c256_i32_115 : BitVec 32 := 256#32
  let v157 : BitVec 32 := Scalar.muli arg0 c256_i32_115
  let c0_i32_117 : BitVec 32 := 0#32
  ![31, v157.toNat, 0]
def k2_off183 (i : grid2.Coords) : Fin 3 → Nat :=
  let c32_i32 : BitVec 32 := 32#32
  let arg0 : BitVec 32 := BitVec.ofNat 32 (i 0).val
  let c256_i32_118 : BitVec 32 := 256#32
  let v161 : BitVec 32 := Scalar.muli arg0 c256_i32_118
  let c0_i32_120 : BitVec 32 := 0#32
  ![32, v161.toNat, 0]
def k2_off184 (i : grid2.Coords) : Fin 3 → Nat :=
  let c33_i32 : BitVec 32 := 33#32
  let arg0 : BitVec 32 := BitVec.ofNat 32 (i 0).val
  let c256_i32_121 : BitVec 32 := 256#32
  let v165 : BitVec 32 := Scalar.muli arg0 c256_i32_121
  let c0_i32_123 : BitVec 32 := 0#32
  ![33, v165.toNat, 0]
def k2_off185 (i : grid2.Coords) : Fin 3 → Nat :=
  let c34_i32 : BitVec 32 := 34#32
  let arg0 : BitVec 32 := BitVec.ofNat 32 (i 0).val
  let c256_i32_124 : BitVec 32 := 256#32
  let v169 : BitVec 32 := Scalar.muli arg0 c256_i32_124
  let c0_i32_126 : BitVec 32 := 0#32
  ![34, v169.toNat, 0]
def k2_off186 (i : grid2.Coords) : Fin 3 → Nat :=
  let c35_i32 : BitVec 32 := 35#32
  let arg0 : BitVec 32 := BitVec.ofNat 32 (i 0).val
  let c256_i32_127 : BitVec 32 := 256#32
  let v173 : BitVec 32 := Scalar.muli arg0 c256_i32_127
  let c0_i32_129 : BitVec 32 := 0#32
  ![35, v173.toNat, 0]
def k2_off187 (i : grid2.Coords) : Fin 3 → Nat :=
  let c36_i32 : BitVec 32 := 36#32
  let arg0 : BitVec 32 := BitVec.ofNat 32 (i 0).val
  let c256_i32_130 : BitVec 32 := 256#32
  let v177 : BitVec 32 := Scalar.muli arg0 c256_i32_130
  let c0_i32_132 : BitVec 32 := 0#32
  ![36, v177.toNat, 0]
def k2_off188 (i : grid2.Coords) : Fin 3 → Nat :=
  let c37_i32 : BitVec 32 := 37#32
  let arg0 : BitVec 32 := BitVec.ofNat 32 (i 0).val
  let c256_i32_133 : BitVec 32 := 256#32
  let v181 : BitVec 32 := Scalar.muli arg0 c256_i32_133
  let c0_i32_135 : BitVec 32 := 0#32
  ![37, v181.toNat, 0]
def k2_off189 (i : grid2.Coords) : Fin 3 → Nat :=
  let c38_i32 : BitVec 32 := 38#32
  let arg0 : BitVec 32 := BitVec.ofNat 32 (i 0).val
  let c256_i32_136 : BitVec 32 := 256#32
  let v185 : BitVec 32 := Scalar.muli arg0 c256_i32_136
  let c0_i32_138 : BitVec 32 := 0#32
  ![38, v185.toNat, 0]
def k2_off190 (i : grid2.Coords) : Fin 3 → Nat :=
  let c39_i32 : BitVec 32 := 39#32
  let arg0 : BitVec 32 := BitVec.ofNat 32 (i 0).val
  let c256_i32_139 : BitVec 32 := 256#32
  let v189 : BitVec 32 := Scalar.muli arg0 c256_i32_139
  let c0_i32_141 : BitVec 32 := 0#32
  ![39, v189.toNat, 0]
def k2_off191 (i : grid2.Coords) : Fin 3 → Nat :=
  let c40_i32 : BitVec 32 := 40#32
  let arg0 : BitVec 32 := BitVec.ofNat 32 (i 0).val
  let c256_i32_142 : BitVec 32 := 256#32
  let v193 : BitVec 32 := Scalar.muli arg0 c256_i32_142
  let c0_i32_144 : BitVec 32 := 0#32
  ![40, v193.toNat, 0]
def k2_off192 (i : grid2.Coords) : Fin 3 → Nat :=
  let c41_i32 : BitVec 32 := 41#32
  let arg0 : BitVec 32 := BitVec.ofNat 32 (i 0).val
  let c256_i32_145 : BitVec 32 := 256#32
  let v197 : BitVec 32 := Scalar.muli arg0 c256_i32_145
  let c0_i32_147 : BitVec 32 := 0#32
  ![41, v197.toNat, 0]
def k2_off193 (i : grid2.Coords) : Fin 3 → Nat :=
  let c42_i32 : BitVec 32 := 42#32
  let arg0 : BitVec 32 := BitVec.ofNat 32 (i 0).val
  let c256_i32_148 : BitVec 32 := 256#32
  let v201 : BitVec 32 := Scalar.muli arg0 c256_i32_148
  let c0_i32_150 : BitVec 32 := 0#32
  ![42, v201.toNat, 0]
def k2_off194 (i : grid2.Coords) : Fin 3 → Nat :=
  let c43_i32 : BitVec 32 := 43#32
  let arg0 : BitVec 32 := BitVec.ofNat 32 (i 0).val
  let c256_i32_151 : BitVec 32 := 256#32
  let v205 : BitVec 32 := Scalar.muli arg0 c256_i32_151
  let c0_i32_153 : BitVec 32 := 0#32
  ![43, v205.toNat, 0]
def k2_off195 (i : grid2.Coords) : Fin 3 → Nat :=
  let c44_i32 : BitVec 32 := 44#32
  let arg0 : BitVec 32 := BitVec.ofNat 32 (i 0).val
  let c256_i32_154 : BitVec 32 := 256#32
  let v209 : BitVec 32 := Scalar.muli arg0 c256_i32_154
  let c0_i32_156 : BitVec 32 := 0#32
  ![44, v209.toNat, 0]
def k2_off196 (i : grid2.Coords) : Fin 3 → Nat :=
  let c45_i32 : BitVec 32 := 45#32
  let arg0 : BitVec 32 := BitVec.ofNat 32 (i 0).val
  let c256_i32_157 : BitVec 32 := 256#32
  let v213 : BitVec 32 := Scalar.muli arg0 c256_i32_157
  let c0_i32_159 : BitVec 32 := 0#32
  ![45, v213.toNat, 0]
def k2_off197 (i : grid2.Coords) : Fin 3 → Nat :=
  let c46_i32 : BitVec 32 := 46#32
  let arg0 : BitVec 32 := BitVec.ofNat 32 (i 0).val
  let c256_i32_160 : BitVec 32 := 256#32
  let v217 : BitVec 32 := Scalar.muli arg0 c256_i32_160
  let c0_i32_162 : BitVec 32 := 0#32
  ![46, v217.toNat, 0]
def k2_off198 (i : grid2.Coords) : Fin 3 → Nat :=
  let c47_i32 : BitVec 32 := 47#32
  let arg0 : BitVec 32 := BitVec.ofNat 32 (i 0).val
  let c256_i32_163 : BitVec 32 := 256#32
  let v221 : BitVec 32 := Scalar.muli arg0 c256_i32_163
  let c0_i32_165 : BitVec 32 := 0#32
  ![47, v221.toNat, 0]
def k2_off199 (i : grid2.Coords) : Fin 3 → Nat :=
  let c48_i32 : BitVec 32 := 48#32
  let arg0 : BitVec 32 := BitVec.ofNat 32 (i 0).val
  let c256_i32_166 : BitVec 32 := 256#32
  let v225 : BitVec 32 := Scalar.muli arg0 c256_i32_166
  let c0_i32_168 : BitVec 32 := 0#32
  ![48, v225.toNat, 0]
def k2_off200 (i : grid2.Coords) : Fin 3 → Nat :=
  let c49_i32 : BitVec 32 := 49#32
  let arg0 : BitVec 32 := BitVec.ofNat 32 (i 0).val
  let c256_i32_169 : BitVec 32 := 256#32
  let v229 : BitVec 32 := Scalar.muli arg0 c256_i32_169
  let c0_i32_171 : BitVec 32 := 0#32
  ![49, v229.toNat, 0]
def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 1 → Memref sig .tc .vmem S1024x6400 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def k3_cond2 (i : grid3.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k3_cond3 (i : grid3.Coords) : BitVec 1 :=
  let arg0 : BitVec 32 := BitVec.ofNat 32 (i 0).val
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi arg0 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c0_i32_23 : BitVec 32 := 0#32
  let v43 : BitVec 1 := Scalar.cmpi .eq v42 c0_i32_23
  let v44 : BitVec 32 := Scalar.extui v43
  let c0_i32_24 : BitVec 32 := 0#32
  let v45 : BitVec 1 := Scalar.cmpi .ne v44 c0_i32_24
  v45

def k3_off1 (i : grid3.Coords) : Fin 3 → Nat :=
  let c0_i32_34 : BitVec 32 := 0#32
  let arg0 : BitVec 32 := BitVec.ofNat 32 (i 0).val
  let c1_i32_33 : BitVec 32 := 1#32
  let v59 : BitVec 32 := Scalar.addi arg0 c1_i32_33
  let c256_i32 : BitVec 32 := 256#32
  let v60 : BitVec 32 := Scalar.muli v59 c256_i32
  let c0_i32_37 : BitVec 32 := 0#32
  ![0, v60.toNat, 0]
def k3_off2 (i : grid3.Coords) : Fin 3 → Nat :=
  let c1_i32_39 : BitVec 32 := 1#32
  let arg0 : BitVec 32 := BitVec.ofNat 32 (i 0).val
  let c1_i32_33 : BitVec 32 := 1#32
  let v59 : BitVec 32 := Scalar.addi arg0 c1_i32_33
  let c256_i32_38 : BitVec 32 := 256#32
  let v64 : BitVec 32 := Scalar.muli v59 c256_i32_38
  let c0_i32_41 : BitVec 32 := 0#32
  ![1, v64.toNat, 0]
def k3_off3 (i : grid3.Coords) : Fin 3 → Nat :=
  let c2_i32_43 : BitVec 32 := 2#32
  let arg0 : BitVec 32 := BitVec.ofNat 32 (i 0).val
  let c1_i32_33 : BitVec 32 := 1#32
  let v59 : BitVec 32 := Scalar.addi arg0 c1_i32_33
  let c256_i32_42 : BitVec 32 := 256#32
  let v68 : BitVec 32 := Scalar.muli v59 c256_i32_42
  let c0_i32_46 : BitVec 32 := 0#32
  ![2, v68.toNat, 0]
def k3_off4 (i : grid3.Coords) : Fin 3 → Nat :=
  let c3_i32 : BitVec 32 := 3#32
  let arg0 : BitVec 32 := BitVec.ofNat 32 (i 0).val
  let c1_i32_33 : BitVec 32 := 1#32
  let v59 : BitVec 32 := Scalar.addi arg0 c1_i32_33
  let c256_i32_47 : BitVec 32 := 256#32
  let v72 : BitVec 32 := Scalar.muli v59 c256_i32_47
  let c0_i32_49 : BitVec 32 := 0#32
  ![3, v72.toNat, 0]
def k3_off5 (i : grid3.Coords) : Fin 3 → Nat :=
  let c4_i32 : BitVec 32 := 4#32
  let arg0 : BitVec 32 := BitVec.ofNat 32 (i 0).val
  let c1_i32_33 : BitVec 32 := 1#32
  let v59 : BitVec 32 := Scalar.addi arg0 c1_i32_33
  let c256_i32_50 : BitVec 32 := 256#32
  let v76 : BitVec 32 := Scalar.muli v59 c256_i32_50
  let c0_i32_52 : BitVec 32 := 0#32
  ![4, v76.toNat, 0]
def k3_off6 (i : grid3.Coords) : Fin 3 → Nat :=
  let c5_i32 : BitVec 32 := 5#32
  let arg0 : BitVec 32 := BitVec.ofNat 32 (i 0).val
  let c1_i32_33 : BitVec 32 := 1#32
  let v59 : BitVec 32 := Scalar.addi arg0 c1_i32_33
  let c256_i32_53 : BitVec 32 := 256#32
  let v80 : BitVec 32 := Scalar.muli v59 c256_i32_53
  let c0_i32_55 : BitVec 32 := 0#32
  ![5, v80.toNat, 0]
def k3_off7 (i : grid3.Coords) : Fin 3 → Nat :=
  let c6_i32 : BitVec 32 := 6#32
  let arg0 : BitVec 32 := BitVec.ofNat 32 (i 0).val
  let c1_i32_33 : BitVec 32 := 1#32
  let v59 : BitVec 32 := Scalar.addi arg0 c1_i32_33
  let c256_i32_56 : BitVec 32 := 256#32
  let v84 : BitVec 32 := Scalar.muli v59 c256_i32_56
  let c0_i32_58 : BitVec 32 := 0#32
  ![6, v84.toNat, 0]
def k3_off8 (i : grid3.Coords) : Fin 3 → Nat :=
  let c7_i32 : BitVec 32 := 7#32
  let arg0 : BitVec 32 := BitVec.ofNat 32 (i 0).val
  let c1_i32_33 : BitVec 32 := 1#32
  let v59 : BitVec 32 := Scalar.addi arg0 c1_i32_33
  let c256_i32_59 : BitVec 32 := 256#32
  let v88 : BitVec 32 := Scalar.muli v59 c256_i32_59
  let c0_i32_61 : BitVec 32 := 0#32
  ![7, v88.toNat, 0]
def k3_off9 (i : grid3.Coords) : Fin 3 → Nat :=
  let c8_i32_63 : BitVec 32 := 8#32
  let arg0 : BitVec 32 := BitVec.ofNat 32 (i 0).val
  let c1_i32_33 : BitVec 32 := 1#32
  let v59 : BitVec 32 := Scalar.addi arg0 c1_i32_33
  let c256_i32_62 : BitVec 32 := 256#32
  let v92 : BitVec 32 := Scalar.muli v59 c256_i32_62
  let c0_i32_65 : BitVec 32 := 0#32
  ![8, v92.toNat, 0]
def k3_off10 (i : grid3.Coords) : Fin 3 → Nat :=
  let c9_i32 : BitVec 32 := 9#32
  let arg0 : BitVec 32 := BitVec.ofNat 32 (i 0).val
  let c1_i32_33 : BitVec 32 := 1#32
  let v59 : BitVec 32 := Scalar.addi arg0 c1_i32_33
  let c256_i32_66 : BitVec 32 := 256#32
  let v96 : BitVec 32 := Scalar.muli v59 c256_i32_66
  let c0_i32_68 : BitVec 32 := 0#32
  ![9, v96.toNat, 0]
def k3_off11 (i : grid3.Coords) : Fin 3 → Nat :=
  let c10_i32 : BitVec 32 := 10#32
  let arg0 : BitVec 32 := BitVec.ofNat 32 (i 0).val
  let c1_i32_33 : BitVec 32 := 1#32
  let v59 : BitVec 32 := Scalar.addi arg0 c1_i32_33
  let c256_i32_69 : BitVec 32 := 256#32
  let v100 : BitVec 32 := Scalar.muli v59 c256_i32_69
  let c0_i32_71 : BitVec 32 := 0#32
  ![10, v100.toNat, 0]
def k3_off12 (i : grid3.Coords) : Fin 3 → Nat :=
  let c11_i32 : BitVec 32 := 11#32
  let arg0 : BitVec 32 := BitVec.ofNat 32 (i 0).val
  let c1_i32_33 : BitVec 32 := 1#32
  let v59 : BitVec 32 := Scalar.addi arg0 c1_i32_33
  let c256_i32_72 : BitVec 32 := 256#32
  let v104 : BitVec 32 := Scalar.muli v59 c256_i32_72
  let c0_i32_74 : BitVec 32 := 0#32
  ![11, v104.toNat, 0]
def k3_off13 (i : grid3.Coords) : Fin 3 → Nat :=
  let c12_i32 : BitVec 32 := 12#32
  let arg0 : BitVec 32 := BitVec.ofNat 32 (i 0).val
  let c1_i32_33 : BitVec 32 := 1#32
  let v59 : BitVec 32 := Scalar.addi arg0 c1_i32_33
  let c256_i32_75 : BitVec 32 := 256#32
  let v108 : BitVec 32 := Scalar.muli v59 c256_i32_75
  let c0_i32_77 : BitVec 32 := 0#32
  ![12, v108.toNat, 0]
def k3_off14 (i : grid3.Coords) : Fin 3 → Nat :=
  let c13_i32 : BitVec 32 := 13#32
  let arg0 : BitVec 32 := BitVec.ofNat 32 (i 0).val
  let c1_i32_33 : BitVec 32 := 1#32
  let v59 : BitVec 32 := Scalar.addi arg0 c1_i32_33
  let c256_i32_78 : BitVec 32 := 256#32
  let v112 : BitVec 32 := Scalar.muli v59 c256_i32_78
  let c0_i32_80 : BitVec 32 := 0#32
  ![13, v112.toNat, 0]
def k3_off15 (i : grid3.Coords) : Fin 3 → Nat :=
  let c14_i32 : BitVec 32 := 14#32
  let arg0 : BitVec 32 := BitVec.ofNat 32 (i 0).val
  let c1_i32_33 : BitVec 32 := 1#32
  let v59 : BitVec 32 := Scalar.addi arg0 c1_i32_33
  let c256_i32_81 : BitVec 32 := 256#32
  let v116 : BitVec 32 := Scalar.muli v59 c256_i32_81
  let c0_i32_83 : BitVec 32 := 0#32
  ![14, v116.toNat, 0]
def k3_off16 (i : grid3.Coords) : Fin 3 → Nat :=
  let c15_i32 : BitVec 32 := 15#32
  let arg0 : BitVec 32 := BitVec.ofNat 32 (i 0).val
  let c1_i32_33 : BitVec 32 := 1#32
  let v59 : BitVec 32 := Scalar.addi arg0 c1_i32_33
  let c256_i32_84 : BitVec 32 := 256#32
  let v120 : BitVec 32 := Scalar.muli v59 c256_i32_84
  let c0_i32_86 : BitVec 32 := 0#32
  ![15, v120.toNat, 0]
def k3_off17 (i : grid3.Coords) : Fin 3 → Nat :=
  let c16_i32 : BitVec 32 := 16#32
  let arg0 : BitVec 32 := BitVec.ofNat 32 (i 0).val
  let c1_i32_33 : BitVec 32 := 1#32
  let v59 : BitVec 32 := Scalar.addi arg0 c1_i32_33
  let c256_i32_87 : BitVec 32 := 256#32
  let v124 : BitVec 32 := Scalar.muli v59 c256_i32_87
  let c0_i32_89 : BitVec 32 := 0#32
  ![16, v124.toNat, 0]
def k3_off18 (i : grid3.Coords) : Fin 3 → Nat :=
  let c17_i32 : BitVec 32 := 17#32
  let arg0 : BitVec 32 := BitVec.ofNat 32 (i 0).val
  let c1_i32_33 : BitVec 32 := 1#32
  let v59 : BitVec 32 := Scalar.addi arg0 c1_i32_33
  let c256_i32_90 : BitVec 32 := 256#32
  let v128 : BitVec 32 := Scalar.muli v59 c256_i32_90
  let c0_i32_92 : BitVec 32 := 0#32
  ![17, v128.toNat, 0]
def k3_off19 (i : grid3.Coords) : Fin 3 → Nat :=
  let c18_i32 : BitVec 32 := 18#32
  let arg0 : BitVec 32 := BitVec.ofNat 32 (i 0).val
  let c1_i32_33 : BitVec 32 := 1#32
  let v59 : BitVec 32 := Scalar.addi arg0 c1_i32_33
  let c256_i32_93 : BitVec 32 := 256#32
  let v132 : BitVec 32 := Scalar.muli v59 c256_i32_93
  let c0_i32_95 : BitVec 32 := 0#32
  ![18, v132.toNat, 0]
def k3_off20 (i : grid3.Coords) : Fin 3 → Nat :=
  let c19_i32 : BitVec 32 := 19#32
  let arg0 : BitVec 32 := BitVec.ofNat 32 (i 0).val
  let c1_i32_33 : BitVec 32 := 1#32
  let v59 : BitVec 32 := Scalar.addi arg0 c1_i32_33
  let c256_i32_96 : BitVec 32 := 256#32
  let v136 : BitVec 32 := Scalar.muli v59 c256_i32_96
  let c0_i32_98 : BitVec 32 := 0#32
  ![19, v136.toNat, 0]
def k3_off21 (i : grid3.Coords) : Fin 3 → Nat :=
  let c20_i32 : BitVec 32 := 20#32
  let arg0 : BitVec 32 := BitVec.ofNat 32 (i 0).val
  let c1_i32_33 : BitVec 32 := 1#32
  let v59 : BitVec 32 := Scalar.addi arg0 c1_i32_33
  let c256_i32_99 : BitVec 32 := 256#32
  let v140 : BitVec 32 := Scalar.muli v59 c256_i32_99
  let c0_i32_101 : BitVec 32 := 0#32
  ![20, v140.toNat, 0]
def k3_off22 (i : grid3.Coords) : Fin 3 → Nat :=
  let c21_i32 : BitVec 32 := 21#32
  let arg0 : BitVec 32 := BitVec.ofNat 32 (i 0).val
  let c1_i32_33 : BitVec 32 := 1#32
  let v59 : BitVec 32 := Scalar.addi arg0 c1_i32_33
  let c256_i32_102 : BitVec 32 := 256#32
  let v144 : BitVec 32 := Scalar.muli v59 c256_i32_102
  let c0_i32_104 : BitVec 32 := 0#32
  ![21, v144.toNat, 0]
def k3_off23 (i : grid3.Coords) : Fin 3 → Nat :=
  let c22_i32 : BitVec 32 := 22#32
  let arg0 : BitVec 32 := BitVec.ofNat 32 (i 0).val
  let c1_i32_33 : BitVec 32 := 1#32
  let v59 : BitVec 32 := Scalar.addi arg0 c1_i32_33
  let c256_i32_105 : BitVec 32 := 256#32
  let v148 : BitVec 32 := Scalar.muli v59 c256_i32_105
  let c0_i32_107 : BitVec 32 := 0#32
  ![22, v148.toNat, 0]
def k3_off24 (i : grid3.Coords) : Fin 3 → Nat :=
  let c23_i32 : BitVec 32 := 23#32
  let arg0 : BitVec 32 := BitVec.ofNat 32 (i 0).val
  let c1_i32_33 : BitVec 32 := 1#32
  let v59 : BitVec 32 := Scalar.addi arg0 c1_i32_33
  let c256_i32_108 : BitVec 32 := 256#32
  let v152 : BitVec 32 := Scalar.muli v59 c256_i32_108
  let c0_i32_110 : BitVec 32 := 0#32
  ![23, v152.toNat, 0]
def k3_off25 (i : grid3.Coords) : Fin 3 → Nat :=
  let c24_i32 : BitVec 32 := 24#32
  let arg0 : BitVec 32 := BitVec.ofNat 32 (i 0).val
  let c1_i32_33 : BitVec 32 := 1#32
  let v59 : BitVec 32 := Scalar.addi arg0 c1_i32_33
  let c256_i32_111 : BitVec 32 := 256#32
  let v156 : BitVec 32 := Scalar.muli v59 c256_i32_111
  let c0_i32_113 : BitVec 32 := 0#32
  ![24, v156.toNat, 0]
def k3_off26 (i : grid3.Coords) : Fin 3 → Nat :=
  let c25_i32 : BitVec 32 := 25#32
  let arg0 : BitVec 32 := BitVec.ofNat 32 (i 0).val
  let c1_i32_33 : BitVec 32 := 1#32
  let v59 : BitVec 32 := Scalar.addi arg0 c1_i32_33
  let c256_i32_114 : BitVec 32 := 256#32
  let v160 : BitVec 32 := Scalar.muli v59 c256_i32_114
  let c0_i32_116 : BitVec 32 := 0#32
  ![25, v160.toNat, 0]
def k3_off27 (i : grid3.Coords) : Fin 3 → Nat :=
  let c26_i32 : BitVec 32 := 26#32
  let arg0 : BitVec 32 := BitVec.ofNat 32 (i 0).val
  let c1_i32_33 : BitVec 32 := 1#32
  let v59 : BitVec 32 := Scalar.addi arg0 c1_i32_33
  let c256_i32_117 : BitVec 32 := 256#32
  let v164 : BitVec 32 := Scalar.muli v59 c256_i32_117
  let c0_i32_119 : BitVec 32 := 0#32
  ![26, v164.toNat, 0]
def k3_off28 (i : grid3.Coords) : Fin 3 → Nat :=
  let c27_i32 : BitVec 32 := 27#32
  let arg0 : BitVec 32 := BitVec.ofNat 32 (i 0).val
  let c1_i32_33 : BitVec 32 := 1#32
  let v59 : BitVec 32 := Scalar.addi arg0 c1_i32_33
  let c256_i32_120 : BitVec 32 := 256#32
  let v168 : BitVec 32 := Scalar.muli v59 c256_i32_120
  let c0_i32_122 : BitVec 32 := 0#32
  ![27, v168.toNat, 0]
def k3_off29 (i : grid3.Coords) : Fin 3 → Nat :=
  let c28_i32 : BitVec 32 := 28#32
  let arg0 : BitVec 32 := BitVec.ofNat 32 (i 0).val
  let c1_i32_33 : BitVec 32 := 1#32
  let v59 : BitVec 32 := Scalar.addi arg0 c1_i32_33
  let c256_i32_123 : BitVec 32 := 256#32
  let v172 : BitVec 32 := Scalar.muli v59 c256_i32_123
  let c0_i32_125 : BitVec 32 := 0#32
  ![28, v172.toNat, 0]
def k3_off30 (i : grid3.Coords) : Fin 3 → Nat :=
  let c29_i32 : BitVec 32 := 29#32
  let arg0 : BitVec 32 := BitVec.ofNat 32 (i 0).val
  let c1_i32_33 : BitVec 32 := 1#32
  let v59 : BitVec 32 := Scalar.addi arg0 c1_i32_33
  let c256_i32_126 : BitVec 32 := 256#32
  let v176 : BitVec 32 := Scalar.muli v59 c256_i32_126
  let c0_i32_128 : BitVec 32 := 0#32
  ![29, v176.toNat, 0]
def k3_off31 (i : grid3.Coords) : Fin 3 → Nat :=
  let c30_i32 : BitVec 32 := 30#32
  let arg0 : BitVec 32 := BitVec.ofNat 32 (i 0).val
  let c1_i32_33 : BitVec 32 := 1#32
  let v59 : BitVec 32 := Scalar.addi arg0 c1_i32_33
  let c256_i32_129 : BitVec 32 := 256#32
  let v180 : BitVec 32 := Scalar.muli v59 c256_i32_129
  let c0_i32_131 : BitVec 32 := 0#32
  ![30, v180.toNat, 0]
def k3_off32 (i : grid3.Coords) : Fin 3 → Nat :=
  let c31_i32 : BitVec 32 := 31#32
  let arg0 : BitVec 32 := BitVec.ofNat 32 (i 0).val
  let c1_i32_33 : BitVec 32 := 1#32
  let v59 : BitVec 32 := Scalar.addi arg0 c1_i32_33
  let c256_i32_132 : BitVec 32 := 256#32
  let v184 : BitVec 32 := Scalar.muli v59 c256_i32_132
  let c0_i32_134 : BitVec 32 := 0#32
  ![31, v184.toNat, 0]
def k3_off33 (i : grid3.Coords) : Fin 3 → Nat :=
  let c32_i32 : BitVec 32 := 32#32
  let arg0 : BitVec 32 := BitVec.ofNat 32 (i 0).val
  let c1_i32_33 : BitVec 32 := 1#32
  let v59 : BitVec 32 := Scalar.addi arg0 c1_i32_33
  let c256_i32_135 : BitVec 32 := 256#32
  let v188 : BitVec 32 := Scalar.muli v59 c256_i32_135
  let c0_i32_137 : BitVec 32 := 0#32
  ![32, v188.toNat, 0]
def k3_off34 (i : grid3.Coords) : Fin 3 → Nat :=
  let c33_i32 : BitVec 32 := 33#32
  let arg0 : BitVec 32 := BitVec.ofNat 32 (i 0).val
  let c1_i32_33 : BitVec 32 := 1#32
  let v59 : BitVec 32 := Scalar.addi arg0 c1_i32_33
  let c256_i32_138 : BitVec 32 := 256#32
  let v192 : BitVec 32 := Scalar.muli v59 c256_i32_138
  let c0_i32_140 : BitVec 32 := 0#32
  ![33, v192.toNat, 0]
def k3_off35 (i : grid3.Coords) : Fin 3 → Nat :=
  let c34_i32 : BitVec 32 := 34#32
  let arg0 : BitVec 32 := BitVec.ofNat 32 (i 0).val
  let c1_i32_33 : BitVec 32 := 1#32
  let v59 : BitVec 32 := Scalar.addi arg0 c1_i32_33
  let c256_i32_141 : BitVec 32 := 256#32
  let v196 : BitVec 32 := Scalar.muli v59 c256_i32_141
  let c0_i32_143 : BitVec 32 := 0#32
  ![34, v196.toNat, 0]
def k3_off36 (i : grid3.Coords) : Fin 3 → Nat :=
  let c35_i32 : BitVec 32 := 35#32
  let arg0 : BitVec 32 := BitVec.ofNat 32 (i 0).val
  let c1_i32_33 : BitVec 32 := 1#32
  let v59 : BitVec 32 := Scalar.addi arg0 c1_i32_33
  let c256_i32_144 : BitVec 32 := 256#32
  let v200 : BitVec 32 := Scalar.muli v59 c256_i32_144
  let c0_i32_146 : BitVec 32 := 0#32
  ![35, v200.toNat, 0]
def k3_off37 (i : grid3.Coords) : Fin 3 → Nat :=
  let c36_i32 : BitVec 32 := 36#32
  let arg0 : BitVec 32 := BitVec.ofNat 32 (i 0).val
  let c1_i32_33 : BitVec 32 := 1#32
  let v59 : BitVec 32 := Scalar.addi arg0 c1_i32_33
  let c256_i32_147 : BitVec 32 := 256#32
  let v204 : BitVec 32 := Scalar.muli v59 c256_i32_147
  let c0_i32_149 : BitVec 32 := 0#32
  ![36, v204.toNat, 0]
def k3_off38 (i : grid3.Coords) : Fin 3 → Nat :=
  let c37_i32 : BitVec 32 := 37#32
  let arg0 : BitVec 32 := BitVec.ofNat 32 (i 0).val
  let c1_i32_33 : BitVec 32 := 1#32
  let v59 : BitVec 32 := Scalar.addi arg0 c1_i32_33
  let c256_i32_150 : BitVec 32 := 256#32
  let v208 : BitVec 32 := Scalar.muli v59 c256_i32_150
  let c0_i32_152 : BitVec 32 := 0#32
  ![37, v208.toNat, 0]
def k3_off39 (i : grid3.Coords) : Fin 3 → Nat :=
  let c38_i32 : BitVec 32 := 38#32
  let arg0 : BitVec 32 := BitVec.ofNat 32 (i 0).val
  let c1_i32_33 : BitVec 32 := 1#32
  let v59 : BitVec 32 := Scalar.addi arg0 c1_i32_33
  let c256_i32_153 : BitVec 32 := 256#32
  let v212 : BitVec 32 := Scalar.muli v59 c256_i32_153
  let c0_i32_155 : BitVec 32 := 0#32
  ![38, v212.toNat, 0]
def k3_off40 (i : grid3.Coords) : Fin 3 → Nat :=
  let c39_i32 : BitVec 32 := 39#32
  let arg0 : BitVec 32 := BitVec.ofNat 32 (i 0).val
  let c1_i32_33 : BitVec 32 := 1#32
  let v59 : BitVec 32 := Scalar.addi arg0 c1_i32_33
  let c256_i32_156 : BitVec 32 := 256#32
  let v216 : BitVec 32 := Scalar.muli v59 c256_i32_156
  let c0_i32_158 : BitVec 32 := 0#32
  ![39, v216.toNat, 0]
def k3_off41 (i : grid3.Coords) : Fin 3 → Nat :=
  let c40_i32 : BitVec 32 := 40#32
  let arg0 : BitVec 32 := BitVec.ofNat 32 (i 0).val
  let c1_i32_33 : BitVec 32 := 1#32
  let v59 : BitVec 32 := Scalar.addi arg0 c1_i32_33
  let c256_i32_159 : BitVec 32 := 256#32
  let v220 : BitVec 32 := Scalar.muli v59 c256_i32_159
  let c0_i32_161 : BitVec 32 := 0#32
  ![40, v220.toNat, 0]
def k3_off42 (i : grid3.Coords) : Fin 3 → Nat :=
  let c41_i32 : BitVec 32 := 41#32
  let arg0 : BitVec 32 := BitVec.ofNat 32 (i 0).val
  let c1_i32_33 : BitVec 32 := 1#32
  let v59 : BitVec 32 := Scalar.addi arg0 c1_i32_33
  let c256_i32_162 : BitVec 32 := 256#32
  let v224 : BitVec 32 := Scalar.muli v59 c256_i32_162
  let c0_i32_164 : BitVec 32 := 0#32
  ![41, v224.toNat, 0]
def k3_off43 (i : grid3.Coords) : Fin 3 → Nat :=
  let c42_i32 : BitVec 32 := 42#32
  let arg0 : BitVec 32 := BitVec.ofNat 32 (i 0).val
  let c1_i32_33 : BitVec 32 := 1#32
  let v59 : BitVec 32 := Scalar.addi arg0 c1_i32_33
  let c256_i32_165 : BitVec 32 := 256#32
  let v228 : BitVec 32 := Scalar.muli v59 c256_i32_165
  let c0_i32_167 : BitVec 32 := 0#32
  ![42, v228.toNat, 0]
def k3_off44 (i : grid3.Coords) : Fin 3 → Nat :=
  let c43_i32 : BitVec 32 := 43#32
  let arg0 : BitVec 32 := BitVec.ofNat 32 (i 0).val
  let c1_i32_33 : BitVec 32 := 1#32
  let v59 : BitVec 32 := Scalar.addi arg0 c1_i32_33
  let c256_i32_168 : BitVec 32 := 256#32
  let v232 : BitVec 32 := Scalar.muli v59 c256_i32_168
  let c0_i32_170 : BitVec 32 := 0#32
  ![43, v232.toNat, 0]
def k3_off45 (i : grid3.Coords) : Fin 3 → Nat :=
  let c44_i32 : BitVec 32 := 44#32
  let arg0 : BitVec 32 := BitVec.ofNat 32 (i 0).val
  let c1_i32_33 : BitVec 32 := 1#32
  let v59 : BitVec 32 := Scalar.addi arg0 c1_i32_33
  let c256_i32_171 : BitVec 32 := 256#32
  let v236 : BitVec 32 := Scalar.muli v59 c256_i32_171
  let c0_i32_173 : BitVec 32 := 0#32
  ![44, v236.toNat, 0]
def k3_off46 (i : grid3.Coords) : Fin 3 → Nat :=
  let c45_i32 : BitVec 32 := 45#32
  let arg0 : BitVec 32 := BitVec.ofNat 32 (i 0).val
  let c1_i32_33 : BitVec 32 := 1#32
  let v59 : BitVec 32 := Scalar.addi arg0 c1_i32_33
  let c256_i32_174 : BitVec 32 := 256#32
  let v240 : BitVec 32 := Scalar.muli v59 c256_i32_174
  let c0_i32_176 : BitVec 32 := 0#32
  ![45, v240.toNat, 0]
def k3_off47 (i : grid3.Coords) : Fin 3 → Nat :=
  let c46_i32 : BitVec 32 := 46#32
  let arg0 : BitVec 32 := BitVec.ofNat 32 (i 0).val
  let c1_i32_33 : BitVec 32 := 1#32
  let v59 : BitVec 32 := Scalar.addi arg0 c1_i32_33
  let c256_i32_177 : BitVec 32 := 256#32
  let v244 : BitVec 32 := Scalar.muli v59 c256_i32_177
  let c0_i32_179 : BitVec 32 := 0#32
  ![46, v244.toNat, 0]
def k3_off48 (i : grid3.Coords) : Fin 3 → Nat :=
  let c47_i32 : BitVec 32 := 47#32
  let arg0 : BitVec 32 := BitVec.ofNat 32 (i 0).val
  let c1_i32_33 : BitVec 32 := 1#32
  let v59 : BitVec 32 := Scalar.addi arg0 c1_i32_33
  let c256_i32_180 : BitVec 32 := 256#32
  let v248 : BitVec 32 := Scalar.muli v59 c256_i32_180
  let c0_i32_182 : BitVec 32 := 0#32
  ![47, v248.toNat, 0]
def k3_off49 (i : grid3.Coords) : Fin 3 → Nat :=
  let c48_i32 : BitVec 32 := 48#32
  let arg0 : BitVec 32 := BitVec.ofNat 32 (i 0).val
  let c1_i32_33 : BitVec 32 := 1#32
  let v59 : BitVec 32 := Scalar.addi arg0 c1_i32_33
  let c256_i32_183 : BitVec 32 := 256#32
  let v252 : BitVec 32 := Scalar.muli v59 c256_i32_183
  let c0_i32_185 : BitVec 32 := 0#32
  ![48, v252.toNat, 0]
def k3_off50 (i : grid3.Coords) : Fin 3 → Nat :=
  let c49_i32 : BitVec 32 := 49#32
  let arg0 : BitVec 32 := BitVec.ofNat 32 (i 0).val
  let c1_i32_33 : BitVec 32 := 1#32
  let v59 : BitVec 32 := Scalar.addi arg0 c1_i32_33
  let c256_i32_186 : BitVec 32 := 256#32
  let v256 : BitVec 32 := Scalar.muli v59 c256_i32_186
  let c0_i32_188 : BitVec 32 := 0#32
  ![49, v256.toNat, 0]
def k3_cond4 (i : grid3.Coords) : BitVec 1 :=
  let arg0 : BitVec 32 := BitVec.ofNat 32 (i 0).val
  let c2_i32_25 : BitVec 32 := 2#32
  let c0_i32_26 : BitVec 32 := 0#32
  let v46 : BitVec 1 := Scalar.cmpi .eq c2_i32_25 c0_i32_26
  let c1_i32_27 : BitVec 32 := 1#32
  let v47 : BitVec 32 := Scalar.select v46 c1_i32_27 c2_i32_25
  let v48 : BitVec 32 := Scalar.remsi arg0 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c1_i32_31 : BitVec 32 := 1#32
  let v56 : BitVec 1 := Scalar.cmpi .eq v55 c1_i32_31
  let v57 : BitVec 32 := Scalar.extui v56
  let c0_i32_32 : BitVec 32 := 0#32
  let v58 : BitVec 1 := Scalar.cmpi .ne v57 c0_i32_32
  v58

def k3_off51 (i : grid3.Coords) : Fin 3 → Nat :=
  let c0_i32_34 : BitVec 32 := 0#32
  let arg0 : BitVec 32 := BitVec.ofNat 32 (i 0).val
  let c1_i32_33 : BitVec 32 := 1#32
  let v59 : BitVec 32 := Scalar.addi arg0 c1_i32_33
  let c256_i32 : BitVec 32 := 256#32
  let v60 : BitVec 32 := Scalar.muli v59 c256_i32
  let c0_i32_37 : BitVec 32 := 0#32
  ![0, v60.toNat, 0]
def k3_off52 (i : grid3.Coords) : Fin 3 → Nat :=
  let c1_i32_39 : BitVec 32 := 1#32
  let arg0 : BitVec 32 := BitVec.ofNat 32 (i 0).val
  let c1_i32_33 : BitVec 32 := 1#32
  let v59 : BitVec 32 := Scalar.addi arg0 c1_i32_33
  let c256_i32_38 : BitVec 32 := 256#32
  let v64 : BitVec 32 := Scalar.muli v59 c256_i32_38
  let c0_i32_41 : BitVec 32 := 0#32
  ![1, v64.toNat, 0]
def k3_off53 (i : grid3.Coords) : Fin 3 → Nat :=
  let c2_i32_43 : BitVec 32 := 2#32
  let arg0 : BitVec 32 := BitVec.ofNat 32 (i 0).val
  let c1_i32_33 : BitVec 32 := 1#32
  let v59 : BitVec 32 := Scalar.addi arg0 c1_i32_33
  let c256_i32_42 : BitVec 32 := 256#32
  let v68 : BitVec 32 := Scalar.muli v59 c256_i32_42
  let c0_i32_46 : BitVec 32 := 0#32
  ![2, v68.toNat, 0]
def k3_off54 (i : grid3.Coords) : Fin 3 → Nat :=
  let c3_i32 : BitVec 32 := 3#32
  let arg0 : BitVec 32 := BitVec.ofNat 32 (i 0).val
  let c1_i32_33 : BitVec 32 := 1#32
  let v59 : BitVec 32 := Scalar.addi arg0 c1_i32_33
  let c256_i32_47 : BitVec 32 := 256#32
  let v72 : BitVec 32 := Scalar.muli v59 c256_i32_47
  let c0_i32_49 : BitVec 32 := 0#32
  ![3, v72.toNat, 0]
def k3_off55 (i : grid3.Coords) : Fin 3 → Nat :=
  let c4_i32 : BitVec 32 := 4#32
  let arg0 : BitVec 32 := BitVec.ofNat 32 (i 0).val
  let c1_i32_33 : BitVec 32 := 1#32
  let v59 : BitVec 32 := Scalar.addi arg0 c1_i32_33
  let c256_i32_50 : BitVec 32 := 256#32
  let v76 : BitVec 32 := Scalar.muli v59 c256_i32_50
  let c0_i32_52 : BitVec 32 := 0#32
  ![4, v76.toNat, 0]
def k3_off56 (i : grid3.Coords) : Fin 3 → Nat :=
  let c5_i32 : BitVec 32 := 5#32
  let arg0 : BitVec 32 := BitVec.ofNat 32 (i 0).val
  let c1_i32_33 : BitVec 32 := 1#32
  let v59 : BitVec 32 := Scalar.addi arg0 c1_i32_33
  let c256_i32_53 : BitVec 32 := 256#32
  let v80 : BitVec 32 := Scalar.muli v59 c256_i32_53
  let c0_i32_55 : BitVec 32 := 0#32
  ![5, v80.toNat, 0]
def k3_off57 (i : grid3.Coords) : Fin 3 → Nat :=
  let c6_i32 : BitVec 32 := 6#32
  let arg0 : BitVec 32 := BitVec.ofNat 32 (i 0).val
  let c1_i32_33 : BitVec 32 := 1#32
  let v59 : BitVec 32 := Scalar.addi arg0 c1_i32_33
  let c256_i32_56 : BitVec 32 := 256#32
  let v84 : BitVec 32 := Scalar.muli v59 c256_i32_56
  let c0_i32_58 : BitVec 32 := 0#32
  ![6, v84.toNat, 0]
def k3_off58 (i : grid3.Coords) : Fin 3 → Nat :=
  let c7_i32 : BitVec 32 := 7#32
  let arg0 : BitVec 32 := BitVec.ofNat 32 (i 0).val
  let c1_i32_33 : BitVec 32 := 1#32
  let v59 : BitVec 32 := Scalar.addi arg0 c1_i32_33
  let c256_i32_59 : BitVec 32 := 256#32
  let v88 : BitVec 32 := Scalar.muli v59 c256_i32_59
  let c0_i32_61 : BitVec 32 := 0#32
  ![7, v88.toNat, 0]
def k3_off59 (i : grid3.Coords) : Fin 3 → Nat :=
  let c8_i32_63 : BitVec 32 := 8#32
  let arg0 : BitVec 32 := BitVec.ofNat 32 (i 0).val
  let c1_i32_33 : BitVec 32 := 1#32
  let v59 : BitVec 32 := Scalar.addi arg0 c1_i32_33
  let c256_i32_62 : BitVec 32 := 256#32
  let v92 : BitVec 32 := Scalar.muli v59 c256_i32_62
  let c0_i32_65 : BitVec 32 := 0#32
  ![8, v92.toNat, 0]
def k3_off60 (i : grid3.Coords) : Fin 3 → Nat :=
  let c9_i32 : BitVec 32 := 9#32
  let arg0 : BitVec 32 := BitVec.ofNat 32 (i 0).val
  let c1_i32_33 : BitVec 32 := 1#32
  let v59 : BitVec 32 := Scalar.addi arg0 c1_i32_33
  let c256_i32_66 : BitVec 32 := 256#32
  let v96 : BitVec 32 := Scalar.muli v59 c256_i32_66
  let c0_i32_68 : BitVec 32 := 0#32
  ![9, v96.toNat, 0]
def k3_off61 (i : grid3.Coords) : Fin 3 → Nat :=
  let c10_i32 : BitVec 32 := 10#32
  let arg0 : BitVec 32 := BitVec.ofNat 32 (i 0).val
  let c1_i32_33 : BitVec 32 := 1#32
  let v59 : BitVec 32 := Scalar.addi arg0 c1_i32_33
  let c256_i32_69 : BitVec 32 := 256#32
  let v100 : BitVec 32 := Scalar.muli v59 c256_i32_69
  let c0_i32_71 : BitVec 32 := 0#32
  ![10, v100.toNat, 0]
def k3_off62 (i : grid3.Coords) : Fin 3 → Nat :=
  let c11_i32 : BitVec 32 := 11#32
  let arg0 : BitVec 32 := BitVec.ofNat 32 (i 0).val
  let c1_i32_33 : BitVec 32 := 1#32
  let v59 : BitVec 32 := Scalar.addi arg0 c1_i32_33
  let c256_i32_72 : BitVec 32 := 256#32
  let v104 : BitVec 32 := Scalar.muli v59 c256_i32_72
  let c0_i32_74 : BitVec 32 := 0#32
  ![11, v104.toNat, 0]
def k3_off63 (i : grid3.Coords) : Fin 3 → Nat :=
  let c12_i32 : BitVec 32 := 12#32
  let arg0 : BitVec 32 := BitVec.ofNat 32 (i 0).val
  let c1_i32_33 : BitVec 32 := 1#32
  let v59 : BitVec 32 := Scalar.addi arg0 c1_i32_33
  let c256_i32_75 : BitVec 32 := 256#32
  let v108 : BitVec 32 := Scalar.muli v59 c256_i32_75
  let c0_i32_77 : BitVec 32 := 0#32
  ![12, v108.toNat, 0]
def k3_off64 (i : grid3.Coords) : Fin 3 → Nat :=
  let c13_i32 : BitVec 32 := 13#32
  let arg0 : BitVec 32 := BitVec.ofNat 32 (i 0).val
  let c1_i32_33 : BitVec 32 := 1#32
  let v59 : BitVec 32 := Scalar.addi arg0 c1_i32_33
  let c256_i32_78 : BitVec 32 := 256#32
  let v112 : BitVec 32 := Scalar.muli v59 c256_i32_78
  let c0_i32_80 : BitVec 32 := 0#32
  ![13, v112.toNat, 0]
def k3_off65 (i : grid3.Coords) : Fin 3 → Nat :=
  let c14_i32 : BitVec 32 := 14#32
  let arg0 : BitVec 32 := BitVec.ofNat 32 (i 0).val
  let c1_i32_33 : BitVec 32 := 1#32
  let v59 : BitVec 32 := Scalar.addi arg0 c1_i32_33
  let c256_i32_81 : BitVec 32 := 256#32
  let v116 : BitVec 32 := Scalar.muli v59 c256_i32_81
  let c0_i32_83 : BitVec 32 := 0#32
  ![14, v116.toNat, 0]
def k3_off66 (i : grid3.Coords) : Fin 3 → Nat :=
  let c15_i32 : BitVec 32 := 15#32
  let arg0 : BitVec 32 := BitVec.ofNat 32 (i 0).val
  let c1_i32_33 : BitVec 32 := 1#32
  let v59 : BitVec 32 := Scalar.addi arg0 c1_i32_33
  let c256_i32_84 : BitVec 32 := 256#32
  let v120 : BitVec 32 := Scalar.muli v59 c256_i32_84
  let c0_i32_86 : BitVec 32 := 0#32
  ![15, v120.toNat, 0]
def k3_off67 (i : grid3.Coords) : Fin 3 → Nat :=
  let c16_i32 : BitVec 32 := 16#32
  let arg0 : BitVec 32 := BitVec.ofNat 32 (i 0).val
  let c1_i32_33 : BitVec 32 := 1#32
  let v59 : BitVec 32 := Scalar.addi arg0 c1_i32_33
  let c256_i32_87 : BitVec 32 := 256#32
  let v124 : BitVec 32 := Scalar.muli v59 c256_i32_87
  let c0_i32_89 : BitVec 32 := 0#32
  ![16, v124.toNat, 0]
def k3_off68 (i : grid3.Coords) : Fin 3 → Nat :=
  let c17_i32 : BitVec 32 := 17#32
  let arg0 : BitVec 32 := BitVec.ofNat 32 (i 0).val
  let c1_i32_33 : BitVec 32 := 1#32
  let v59 : BitVec 32 := Scalar.addi arg0 c1_i32_33
  let c256_i32_90 : BitVec 32 := 256#32
  let v128 : BitVec 32 := Scalar.muli v59 c256_i32_90
  let c0_i32_92 : BitVec 32 := 0#32
  ![17, v128.toNat, 0]
def k3_off69 (i : grid3.Coords) : Fin 3 → Nat :=
  let c18_i32 : BitVec 32 := 18#32
  let arg0 : BitVec 32 := BitVec.ofNat 32 (i 0).val
  let c1_i32_33 : BitVec 32 := 1#32
  let v59 : BitVec 32 := Scalar.addi arg0 c1_i32_33
  let c256_i32_93 : BitVec 32 := 256#32
  let v132 : BitVec 32 := Scalar.muli v59 c256_i32_93
  let c0_i32_95 : BitVec 32 := 0#32
  ![18, v132.toNat, 0]
def k3_off70 (i : grid3.Coords) : Fin 3 → Nat :=
  let c19_i32 : BitVec 32 := 19#32
  let arg0 : BitVec 32 := BitVec.ofNat 32 (i 0).val
  let c1_i32_33 : BitVec 32 := 1#32
  let v59 : BitVec 32 := Scalar.addi arg0 c1_i32_33
  let c256_i32_96 : BitVec 32 := 256#32
  let v136 : BitVec 32 := Scalar.muli v59 c256_i32_96
  let c0_i32_98 : BitVec 32 := 0#32
  ![19, v136.toNat, 0]
def k3_off71 (i : grid3.Coords) : Fin 3 → Nat :=
  let c20_i32 : BitVec 32 := 20#32
  let arg0 : BitVec 32 := BitVec.ofNat 32 (i 0).val
  let c1_i32_33 : BitVec 32 := 1#32
  let v59 : BitVec 32 := Scalar.addi arg0 c1_i32_33
  let c256_i32_99 : BitVec 32 := 256#32
  let v140 : BitVec 32 := Scalar.muli v59 c256_i32_99
  let c0_i32_101 : BitVec 32 := 0#32
  ![20, v140.toNat, 0]
def k3_off72 (i : grid3.Coords) : Fin 3 → Nat :=
  let c21_i32 : BitVec 32 := 21#32
  let arg0 : BitVec 32 := BitVec.ofNat 32 (i 0).val
  let c1_i32_33 : BitVec 32 := 1#32
  let v59 : BitVec 32 := Scalar.addi arg0 c1_i32_33
  let c256_i32_102 : BitVec 32 := 256#32
  let v144 : BitVec 32 := Scalar.muli v59 c256_i32_102
  let c0_i32_104 : BitVec 32 := 0#32
  ![21, v144.toNat, 0]
def k3_off73 (i : grid3.Coords) : Fin 3 → Nat :=
  let c22_i32 : BitVec 32 := 22#32
  let arg0 : BitVec 32 := BitVec.ofNat 32 (i 0).val
  let c1_i32_33 : BitVec 32 := 1#32
  let v59 : BitVec 32 := Scalar.addi arg0 c1_i32_33
  let c256_i32_105 : BitVec 32 := 256#32
  let v148 : BitVec 32 := Scalar.muli v59 c256_i32_105
  let c0_i32_107 : BitVec 32 := 0#32
  ![22, v148.toNat, 0]
def k3_off74 (i : grid3.Coords) : Fin 3 → Nat :=
  let c23_i32 : BitVec 32 := 23#32
  let arg0 : BitVec 32 := BitVec.ofNat 32 (i 0).val
  let c1_i32_33 : BitVec 32 := 1#32
  let v59 : BitVec 32 := Scalar.addi arg0 c1_i32_33
  let c256_i32_108 : BitVec 32 := 256#32
  let v152 : BitVec 32 := Scalar.muli v59 c256_i32_108
  let c0_i32_110 : BitVec 32 := 0#32
  ![23, v152.toNat, 0]
def k3_off75 (i : grid3.Coords) : Fin 3 → Nat :=
  let c24_i32 : BitVec 32 := 24#32
  let arg0 : BitVec 32 := BitVec.ofNat 32 (i 0).val
  let c1_i32_33 : BitVec 32 := 1#32
  let v59 : BitVec 32 := Scalar.addi arg0 c1_i32_33
  let c256_i32_111 : BitVec 32 := 256#32
  let v156 : BitVec 32 := Scalar.muli v59 c256_i32_111
  let c0_i32_113 : BitVec 32 := 0#32
  ![24, v156.toNat, 0]
def k3_off76 (i : grid3.Coords) : Fin 3 → Nat :=
  let c25_i32 : BitVec 32 := 25#32
  let arg0 : BitVec 32 := BitVec.ofNat 32 (i 0).val
  let c1_i32_33 : BitVec 32 := 1#32
  let v59 : BitVec 32 := Scalar.addi arg0 c1_i32_33
  let c256_i32_114 : BitVec 32 := 256#32
  let v160 : BitVec 32 := Scalar.muli v59 c256_i32_114
  let c0_i32_116 : BitVec 32 := 0#32
  ![25, v160.toNat, 0]
def k3_off77 (i : grid3.Coords) : Fin 3 → Nat :=
  let c26_i32 : BitVec 32 := 26#32
  let arg0 : BitVec 32 := BitVec.ofNat 32 (i 0).val
  let c1_i32_33 : BitVec 32 := 1#32
  let v59 : BitVec 32 := Scalar.addi arg0 c1_i32_33
  let c256_i32_117 : BitVec 32 := 256#32
  let v164 : BitVec 32 := Scalar.muli v59 c256_i32_117
  let c0_i32_119 : BitVec 32 := 0#32
  ![26, v164.toNat, 0]
def k3_off78 (i : grid3.Coords) : Fin 3 → Nat :=
  let c27_i32 : BitVec 32 := 27#32
  let arg0 : BitVec 32 := BitVec.ofNat 32 (i 0).val
  let c1_i32_33 : BitVec 32 := 1#32
  let v59 : BitVec 32 := Scalar.addi arg0 c1_i32_33
  let c256_i32_120 : BitVec 32 := 256#32
  let v168 : BitVec 32 := Scalar.muli v59 c256_i32_120
  let c0_i32_122 : BitVec 32 := 0#32
  ![27, v168.toNat, 0]
def k3_off79 (i : grid3.Coords) : Fin 3 → Nat :=
  let c28_i32 : BitVec 32 := 28#32
  let arg0 : BitVec 32 := BitVec.ofNat 32 (i 0).val
  let c1_i32_33 : BitVec 32 := 1#32
  let v59 : BitVec 32 := Scalar.addi arg0 c1_i32_33
  let c256_i32_123 : BitVec 32 := 256#32
  let v172 : BitVec 32 := Scalar.muli v59 c256_i32_123
  let c0_i32_125 : BitVec 32 := 0#32
  ![28, v172.toNat, 0]
def k3_off80 (i : grid3.Coords) : Fin 3 → Nat :=
  let c29_i32 : BitVec 32 := 29#32
  let arg0 : BitVec 32 := BitVec.ofNat 32 (i 0).val
  let c1_i32_33 : BitVec 32 := 1#32
  let v59 : BitVec 32 := Scalar.addi arg0 c1_i32_33
  let c256_i32_126 : BitVec 32 := 256#32
  let v176 : BitVec 32 := Scalar.muli v59 c256_i32_126
  let c0_i32_128 : BitVec 32 := 0#32
  ![29, v176.toNat, 0]
def k3_off81 (i : grid3.Coords) : Fin 3 → Nat :=
  let c30_i32 : BitVec 32 := 30#32
  let arg0 : BitVec 32 := BitVec.ofNat 32 (i 0).val
  let c1_i32_33 : BitVec 32 := 1#32
  let v59 : BitVec 32 := Scalar.addi arg0 c1_i32_33
  let c256_i32_129 : BitVec 32 := 256#32
  let v180 : BitVec 32 := Scalar.muli v59 c256_i32_129
  let c0_i32_131 : BitVec 32 := 0#32
  ![30, v180.toNat, 0]
def k3_off82 (i : grid3.Coords) : Fin 3 → Nat :=
  let c31_i32 : BitVec 32 := 31#32
  let arg0 : BitVec 32 := BitVec.ofNat 32 (i 0).val
  let c1_i32_33 : BitVec 32 := 1#32
  let v59 : BitVec 32 := Scalar.addi arg0 c1_i32_33
  let c256_i32_132 : BitVec 32 := 256#32
  let v184 : BitVec 32 := Scalar.muli v59 c256_i32_132
  let c0_i32_134 : BitVec 32 := 0#32
  ![31, v184.toNat, 0]
def k3_off83 (i : grid3.Coords) : Fin 3 → Nat :=
  let c32_i32 : BitVec 32 := 32#32
  let arg0 : BitVec 32 := BitVec.ofNat 32 (i 0).val
  let c1_i32_33 : BitVec 32 := 1#32
  let v59 : BitVec 32 := Scalar.addi arg0 c1_i32_33
  let c256_i32_135 : BitVec 32 := 256#32
  let v188 : BitVec 32 := Scalar.muli v59 c256_i32_135
  let c0_i32_137 : BitVec 32 := 0#32
  ![32, v188.toNat, 0]
def k3_off84 (i : grid3.Coords) : Fin 3 → Nat :=
  let c33_i32 : BitVec 32 := 33#32
  let arg0 : BitVec 32 := BitVec.ofNat 32 (i 0).val
  let c1_i32_33 : BitVec 32 := 1#32
  let v59 : BitVec 32 := Scalar.addi arg0 c1_i32_33
  let c256_i32_138 : BitVec 32 := 256#32
  let v192 : BitVec 32 := Scalar.muli v59 c256_i32_138
  let c0_i32_140 : BitVec 32 := 0#32
  ![33, v192.toNat, 0]
def k3_off85 (i : grid3.Coords) : Fin 3 → Nat :=
  let c34_i32 : BitVec 32 := 34#32
  let arg0 : BitVec 32 := BitVec.ofNat 32 (i 0).val
  let c1_i32_33 : BitVec 32 := 1#32
  let v59 : BitVec 32 := Scalar.addi arg0 c1_i32_33
  let c256_i32_141 : BitVec 32 := 256#32
  let v196 : BitVec 32 := Scalar.muli v59 c256_i32_141
  let c0_i32_143 : BitVec 32 := 0#32
  ![34, v196.toNat, 0]
def k3_off86 (i : grid3.Coords) : Fin 3 → Nat :=
  let c35_i32 : BitVec 32 := 35#32
  let arg0 : BitVec 32 := BitVec.ofNat 32 (i 0).val
  let c1_i32_33 : BitVec 32 := 1#32
  let v59 : BitVec 32 := Scalar.addi arg0 c1_i32_33
  let c256_i32_144 : BitVec 32 := 256#32
  let v200 : BitVec 32 := Scalar.muli v59 c256_i32_144
  let c0_i32_146 : BitVec 32 := 0#32
  ![35, v200.toNat, 0]
def k3_off87 (i : grid3.Coords) : Fin 3 → Nat :=
  let c36_i32 : BitVec 32 := 36#32
  let arg0 : BitVec 32 := BitVec.ofNat 32 (i 0).val
  let c1_i32_33 : BitVec 32 := 1#32
  let v59 : BitVec 32 := Scalar.addi arg0 c1_i32_33
  let c256_i32_147 : BitVec 32 := 256#32
  let v204 : BitVec 32 := Scalar.muli v59 c256_i32_147
  let c0_i32_149 : BitVec 32 := 0#32
  ![36, v204.toNat, 0]
def k3_off88 (i : grid3.Coords) : Fin 3 → Nat :=
  let c37_i32 : BitVec 32 := 37#32
  let arg0 : BitVec 32 := BitVec.ofNat 32 (i 0).val
  let c1_i32_33 : BitVec 32 := 1#32
  let v59 : BitVec 32 := Scalar.addi arg0 c1_i32_33
  let c256_i32_150 : BitVec 32 := 256#32
  let v208 : BitVec 32 := Scalar.muli v59 c256_i32_150
  let c0_i32_152 : BitVec 32 := 0#32
  ![37, v208.toNat, 0]
def k3_off89 (i : grid3.Coords) : Fin 3 → Nat :=
  let c38_i32 : BitVec 32 := 38#32
  let arg0 : BitVec 32 := BitVec.ofNat 32 (i 0).val
  let c1_i32_33 : BitVec 32 := 1#32
  let v59 : BitVec 32 := Scalar.addi arg0 c1_i32_33
  let c256_i32_153 : BitVec 32 := 256#32
  let v212 : BitVec 32 := Scalar.muli v59 c256_i32_153
  let c0_i32_155 : BitVec 32 := 0#32
  ![38, v212.toNat, 0]
def k3_off90 (i : grid3.Coords) : Fin 3 → Nat :=
  let c39_i32 : BitVec 32 := 39#32
  let arg0 : BitVec 32 := BitVec.ofNat 32 (i 0).val
  let c1_i32_33 : BitVec 32 := 1#32
  let v59 : BitVec 32 := Scalar.addi arg0 c1_i32_33
  let c256_i32_156 : BitVec 32 := 256#32
  let v216 : BitVec 32 := Scalar.muli v59 c256_i32_156
  let c0_i32_158 : BitVec 32 := 0#32
  ![39, v216.toNat, 0]
def k3_off91 (i : grid3.Coords) : Fin 3 → Nat :=
  let c40_i32 : BitVec 32 := 40#32
  let arg0 : BitVec 32 := BitVec.ofNat 32 (i 0).val
  let c1_i32_33 : BitVec 32 := 1#32
  let v59 : BitVec 32 := Scalar.addi arg0 c1_i32_33
  let c256_i32_159 : BitVec 32 := 256#32
  let v220 : BitVec 32 := Scalar.muli v59 c256_i32_159
  let c0_i32_161 : BitVec 32 := 0#32
  ![40, v220.toNat, 0]
def k3_off92 (i : grid3.Coords) : Fin 3 → Nat :=
  let c41_i32 : BitVec 32 := 41#32
  let arg0 : BitVec 32 := BitVec.ofNat 32 (i 0).val
  let c1_i32_33 : BitVec 32 := 1#32
  let v59 : BitVec 32 := Scalar.addi arg0 c1_i32_33
  let c256_i32_162 : BitVec 32 := 256#32
  let v224 : BitVec 32 := Scalar.muli v59 c256_i32_162
  let c0_i32_164 : BitVec 32 := 0#32
  ![41, v224.toNat, 0]
def k3_off93 (i : grid3.Coords) : Fin 3 → Nat :=
  let c42_i32 : BitVec 32 := 42#32
  let arg0 : BitVec 32 := BitVec.ofNat 32 (i 0).val
  let c1_i32_33 : BitVec 32 := 1#32
  let v59 : BitVec 32 := Scalar.addi arg0 c1_i32_33
  let c256_i32_165 : BitVec 32 := 256#32
  let v228 : BitVec 32 := Scalar.muli v59 c256_i32_165
  let c0_i32_167 : BitVec 32 := 0#32
  ![42, v228.toNat, 0]
def k3_off94 (i : grid3.Coords) : Fin 3 → Nat :=
  let c43_i32 : BitVec 32 := 43#32
  let arg0 : BitVec 32 := BitVec.ofNat 32 (i 0).val
  let c1_i32_33 : BitVec 32 := 1#32
  let v59 : BitVec 32 := Scalar.addi arg0 c1_i32_33
  let c256_i32_168 : BitVec 32 := 256#32
  let v232 : BitVec 32 := Scalar.muli v59 c256_i32_168
  let c0_i32_170 : BitVec 32 := 0#32
  ![43, v232.toNat, 0]
def k3_off95 (i : grid3.Coords) : Fin 3 → Nat :=
  let c44_i32 : BitVec 32 := 44#32
  let arg0 : BitVec 32 := BitVec.ofNat 32 (i 0).val
  let c1_i32_33 : BitVec 32 := 1#32
  let v59 : BitVec 32 := Scalar.addi arg0 c1_i32_33
  let c256_i32_171 : BitVec 32 := 256#32
  let v236 : BitVec 32 := Scalar.muli v59 c256_i32_171
  let c0_i32_173 : BitVec 32 := 0#32
  ![44, v236.toNat, 0]
def k3_off96 (i : grid3.Coords) : Fin 3 → Nat :=
  let c45_i32 : BitVec 32 := 45#32
  let arg0 : BitVec 32 := BitVec.ofNat 32 (i 0).val
  let c1_i32_33 : BitVec 32 := 1#32
  let v59 : BitVec 32 := Scalar.addi arg0 c1_i32_33
  let c256_i32_174 : BitVec 32 := 256#32
  let v240 : BitVec 32 := Scalar.muli v59 c256_i32_174
  let c0_i32_176 : BitVec 32 := 0#32
  ![45, v240.toNat, 0]
def k3_off97 (i : grid3.Coords) : Fin 3 → Nat :=
  let c46_i32 : BitVec 32 := 46#32
  let arg0 : BitVec 32 := BitVec.ofNat 32 (i 0).val
  let c1_i32_33 : BitVec 32 := 1#32
  let v59 : BitVec 32 := Scalar.addi arg0 c1_i32_33
  let c256_i32_177 : BitVec 32 := 256#32
  let v244 : BitVec 32 := Scalar.muli v59 c256_i32_177
  let c0_i32_179 : BitVec 32 := 0#32
  ![46, v244.toNat, 0]
def k3_off98 (i : grid3.Coords) : Fin 3 → Nat :=
  let c47_i32 : BitVec 32 := 47#32
  let arg0 : BitVec 32 := BitVec.ofNat 32 (i 0).val
  let c1_i32_33 : BitVec 32 := 1#32
  let v59 : BitVec 32 := Scalar.addi arg0 c1_i32_33
  let c256_i32_180 : BitVec 32 := 256#32
  let v248 : BitVec 32 := Scalar.muli v59 c256_i32_180
  let c0_i32_182 : BitVec 32 := 0#32
  ![47, v248.toNat, 0]
def k3_off99 (i : grid3.Coords) : Fin 3 → Nat :=
  let c48_i32 : BitVec 32 := 48#32
  let arg0 : BitVec 32 := BitVec.ofNat 32 (i 0).val
  let c1_i32_33 : BitVec 32 := 1#32
  let v59 : BitVec 32 := Scalar.addi arg0 c1_i32_33
  let c256_i32_183 : BitVec 32 := 256#32
  let v252 : BitVec 32 := Scalar.muli v59 c256_i32_183
  let c0_i32_185 : BitVec 32 := 0#32
  ![48, v252.toNat, 0]
def k3_off100 (i : grid3.Coords) : Fin 3 → Nat :=
  let c49_i32 : BitVec 32 := 49#32
  let arg0 : BitVec 32 := BitVec.ofNat 32 (i 0).val
  let c1_i32_33 : BitVec 32 := 1#32
  let v59 : BitVec 32 := Scalar.addi arg0 c1_i32_33
  let c256_i32_186 : BitVec 32 := 256#32
  let v256 : BitVec 32 := Scalar.muli v59 c256_i32_186
  let c0_i32_188 : BitVec 32 := 0#32
  ![49, v256.toNat, 0]
def k3_cond5 (i : grid3.Coords) : BitVec 1 :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let v17 : BitVec 1 := Scalar.cmpi .eq v16 c0_i32_7
  let v18 : BitVec 32 := Scalar.extui v17
  let c0_i32_8 : BitVec 32 := 0#32
  let v19 : BitVec 1 := Scalar.cmpi .ne v18 c0_i32_8
  v19

def k3_off101 (i : grid3.Coords) : Fin 3 → Nat :=
  let c0_i32_17 : BitVec 32 := 0#32
  let arg0 : BitVec 32 := BitVec.ofNat 32 (i 0).val
  let c256_i32 : BitVec 32 := 256#32
  let v33 : BitVec 32 := Scalar.muli arg0 c256_i32
  let c0_i32_20 : BitVec 32 := 0#32
  ![0, v33.toNat, 0]
def k3_off102 (i : grid3.Coords) : Fin 3 → Nat :=
  let c1_i32_22 : BitVec 32 := 1#32
  let arg0 : BitVec 32 := BitVec.ofNat 32 (i 0).val
  let c256_i32_21 : BitVec 32 := 256#32
  let v37 : BitVec 32 := Scalar.muli arg0 c256_i32_21
  let c0_i32_24 : BitVec 32 := 0#32
  ![1, v37.toNat, 0]
def k3_off103 (i : grid3.Coords) : Fin 3 → Nat :=
  let c2_i32_26 : BitVec 32 := 2#32
  let arg0 : BitVec 32 := BitVec.ofNat 32 (i 0).val
  let c256_i32_25 : BitVec 32 := 256#32
  let v41 : BitVec 32 := Scalar.muli arg0 c256_i32_25
  let c0_i32_29 : BitVec 32 := 0#32
  ![2, v41.toNat, 0]
def k3_off104 (i : grid3.Coords) : Fin 3 → Nat :=
  let c3_i32 : BitVec 32 := 3#32
  let arg0 : BitVec 32 := BitVec.ofNat 32 (i 0).val
  let c256_i32_30 : BitVec 32 := 256#32
  let v45 : BitVec 32 := Scalar.muli arg0 c256_i32_30
  let c0_i32_32 : BitVec 32 := 0#32
  ![3, v45.toNat, 0]
def k3_off105 (i : grid3.Coords) : Fin 3 → Nat :=
  let c4_i32 : BitVec 32 := 4#32
  let arg0 : BitVec 32 := BitVec.ofNat 32 (i 0).val
  let c256_i32_33 : BitVec 32 := 256#32
  let v49 : BitVec 32 := Scalar.muli arg0 c256_i32_33
  let c0_i32_35 : BitVec 32 := 0#32
  ![4, v49.toNat, 0]
def k3_off106 (i : grid3.Coords) : Fin 3 → Nat :=
  let c5_i32 : BitVec 32 := 5#32
  let arg0 : BitVec 32 := BitVec.ofNat 32 (i 0).val
  let c256_i32_36 : BitVec 32 := 256#32
  let v53 : BitVec 32 := Scalar.muli arg0 c256_i32_36
  let c0_i32_38 : BitVec 32 := 0#32
  ![5, v53.toNat, 0]
def k3_off107 (i : grid3.Coords) : Fin 3 → Nat :=
  let c6_i32 : BitVec 32 := 6#32
  let arg0 : BitVec 32 := BitVec.ofNat 32 (i 0).val
  let c256_i32_39 : BitVec 32 := 256#32
  let v57 : BitVec 32 := Scalar.muli arg0 c256_i32_39
  let c0_i32_41 : BitVec 32 := 0#32
  ![6, v57.toNat, 0]
def k3_off108 (i : grid3.Coords) : Fin 3 → Nat :=
  let c7_i32 : BitVec 32 := 7#32
  let arg0 : BitVec 32 := BitVec.ofNat 32 (i 0).val
  let c256_i32_42 : BitVec 32 := 256#32
  let v61 : BitVec 32 := Scalar.muli arg0 c256_i32_42
  let c0_i32_44 : BitVec 32 := 0#32
  ![7, v61.toNat, 0]
def k3_off109 (i : grid3.Coords) : Fin 3 → Nat :=
  let c8_i32_46 : BitVec 32 := 8#32
  let arg0 : BitVec 32 := BitVec.ofNat 32 (i 0).val
  let c256_i32_45 : BitVec 32 := 256#32
  let v65 : BitVec 32 := Scalar.muli arg0 c256_i32_45
  let c0_i32_48 : BitVec 32 := 0#32
  ![8, v65.toNat, 0]
def k3_off110 (i : grid3.Coords) : Fin 3 → Nat :=
  let c9_i32 : BitVec 32 := 9#32
  let arg0 : BitVec 32 := BitVec.ofNat 32 (i 0).val
  let c256_i32_49 : BitVec 32 := 256#32
  let v69 : BitVec 32 := Scalar.muli arg0 c256_i32_49
  let c0_i32_51 : BitVec 32 := 0#32
  ![9, v69.toNat, 0]
def k3_off111 (i : grid3.Coords) : Fin 3 → Nat :=
  let c10_i32 : BitVec 32 := 10#32
  let arg0 : BitVec 32 := BitVec.ofNat 32 (i 0).val
  let c256_i32_52 : BitVec 32 := 256#32
  let v73 : BitVec 32 := Scalar.muli arg0 c256_i32_52
  let c0_i32_54 : BitVec 32 := 0#32
  ![10, v73.toNat, 0]
def k3_off112 (i : grid3.Coords) : Fin 3 → Nat :=
  let c11_i32 : BitVec 32 := 11#32
  let arg0 : BitVec 32 := BitVec.ofNat 32 (i 0).val
  let c256_i32_55 : BitVec 32 := 256#32
  let v77 : BitVec 32 := Scalar.muli arg0 c256_i32_55
  let c0_i32_57 : BitVec 32 := 0#32
  ![11, v77.toNat, 0]
def k3_off113 (i : grid3.Coords) : Fin 3 → Nat :=
  let c12_i32 : BitVec 32 := 12#32
  let arg0 : BitVec 32 := BitVec.ofNat 32 (i 0).val
  let c256_i32_58 : BitVec 32 := 256#32
  let v81 : BitVec 32 := Scalar.muli arg0 c256_i32_58
  let c0_i32_60 : BitVec 32 := 0#32
  ![12, v81.toNat, 0]
def k3_off114 (i : grid3.Coords) : Fin 3 → Nat :=
  let c13_i32 : BitVec 32 := 13#32
  let arg0 : BitVec 32 := BitVec.ofNat 32 (i 0).val
  let c256_i32_61 : BitVec 32 := 256#32
  let v85 : BitVec 32 := Scalar.muli arg0 c256_i32_61
  let c0_i32_63 : BitVec 32 := 0#32
  ![13, v85.toNat, 0]
def k3_off115 (i : grid3.Coords) : Fin 3 → Nat :=
  let c14_i32 : BitVec 32 := 14#32
  let arg0 : BitVec 32 := BitVec.ofNat 32 (i 0).val
  let c256_i32_64 : BitVec 32 := 256#32
  let v89 : BitVec 32 := Scalar.muli arg0 c256_i32_64
  let c0_i32_66 : BitVec 32 := 0#32
  ![14, v89.toNat, 0]
def k3_off116 (i : grid3.Coords) : Fin 3 → Nat :=
  let c15_i32 : BitVec 32 := 15#32
  let arg0 : BitVec 32 := BitVec.ofNat 32 (i 0).val
  let c256_i32_67 : BitVec 32 := 256#32
  let v93 : BitVec 32 := Scalar.muli arg0 c256_i32_67
  let c0_i32_69 : BitVec 32 := 0#32
  ![15, v93.toNat, 0]
def k3_off117 (i : grid3.Coords) : Fin 3 → Nat :=
  let c16_i32 : BitVec 32 := 16#32
  let arg0 : BitVec 32 := BitVec.ofNat 32 (i 0).val
  let c256_i32_70 : BitVec 32 := 256#32
  let v97 : BitVec 32 := Scalar.muli arg0 c256_i32_70
  let c0_i32_72 : BitVec 32 := 0#32
  ![16, v97.toNat, 0]
def k3_off118 (i : grid3.Coords) : Fin 3 → Nat :=
  let c17_i32 : BitVec 32 := 17#32
  let arg0 : BitVec 32 := BitVec.ofNat 32 (i 0).val
  let c256_i32_73 : BitVec 32 := 256#32
  let v101 : BitVec 32 := Scalar.muli arg0 c256_i32_73
  let c0_i32_75 : BitVec 32 := 0#32
  ![17, v101.toNat, 0]
def k3_off119 (i : grid3.Coords) : Fin 3 → Nat :=
  let c18_i32 : BitVec 32 := 18#32
  let arg0 : BitVec 32 := BitVec.ofNat 32 (i 0).val
  let c256_i32_76 : BitVec 32 := 256#32
  let v105 : BitVec 32 := Scalar.muli arg0 c256_i32_76
  let c0_i32_78 : BitVec 32 := 0#32
  ![18, v105.toNat, 0]
def k3_off120 (i : grid3.Coords) : Fin 3 → Nat :=
  let c19_i32 : BitVec 32 := 19#32
  let arg0 : BitVec 32 := BitVec.ofNat 32 (i 0).val
  let c256_i32_79 : BitVec 32 := 256#32
  let v109 : BitVec 32 := Scalar.muli arg0 c256_i32_79
  let c0_i32_81 : BitVec 32 := 0#32
  ![19, v109.toNat, 0]
def k3_off121 (i : grid3.Coords) : Fin 3 → Nat :=
  let c20_i32 : BitVec 32 := 20#32
  let arg0 : BitVec 32 := BitVec.ofNat 32 (i 0).val
  let c256_i32_82 : BitVec 32 := 256#32
  let v113 : BitVec 32 := Scalar.muli arg0 c256_i32_82
  let c0_i32_84 : BitVec 32 := 0#32
  ![20, v113.toNat, 0]
def k3_off122 (i : grid3.Coords) : Fin 3 → Nat :=
  let c21_i32 : BitVec 32 := 21#32
  let arg0 : BitVec 32 := BitVec.ofNat 32 (i 0).val
  let c256_i32_85 : BitVec 32 := 256#32
  let v117 : BitVec 32 := Scalar.muli arg0 c256_i32_85
  let c0_i32_87 : BitVec 32 := 0#32
  ![21, v117.toNat, 0]
def k3_off123 (i : grid3.Coords) : Fin 3 → Nat :=
  let c22_i32 : BitVec 32 := 22#32
  let arg0 : BitVec 32 := BitVec.ofNat 32 (i 0).val
  let c256_i32_88 : BitVec 32 := 256#32
  let v121 : BitVec 32 := Scalar.muli arg0 c256_i32_88
  let c0_i32_90 : BitVec 32 := 0#32
  ![22, v121.toNat, 0]
def k3_off124 (i : grid3.Coords) : Fin 3 → Nat :=
  let c23_i32 : BitVec 32 := 23#32
  let arg0 : BitVec 32 := BitVec.ofNat 32 (i 0).val
  let c256_i32_91 : BitVec 32 := 256#32
  let v125 : BitVec 32 := Scalar.muli arg0 c256_i32_91
  let c0_i32_93 : BitVec 32 := 0#32
  ![23, v125.toNat, 0]
def k3_off125 (i : grid3.Coords) : Fin 3 → Nat :=
  let c24_i32 : BitVec 32 := 24#32
  let arg0 : BitVec 32 := BitVec.ofNat 32 (i 0).val
  let c256_i32_94 : BitVec 32 := 256#32
  let v129 : BitVec 32 := Scalar.muli arg0 c256_i32_94
  let c0_i32_96 : BitVec 32 := 0#32
  ![24, v129.toNat, 0]
def k3_off126 (i : grid3.Coords) : Fin 3 → Nat :=
  let c25_i32 : BitVec 32 := 25#32
  let arg0 : BitVec 32 := BitVec.ofNat 32 (i 0).val
  let c256_i32_97 : BitVec 32 := 256#32
  let v133 : BitVec 32 := Scalar.muli arg0 c256_i32_97
  let c0_i32_99 : BitVec 32 := 0#32
  ![25, v133.toNat, 0]
def k3_off127 (i : grid3.Coords) : Fin 3 → Nat :=
  let c26_i32 : BitVec 32 := 26#32
  let arg0 : BitVec 32 := BitVec.ofNat 32 (i 0).val
  let c256_i32_100 : BitVec 32 := 256#32
  let v137 : BitVec 32 := Scalar.muli arg0 c256_i32_100
  let c0_i32_102 : BitVec 32 := 0#32
  ![26, v137.toNat, 0]
def k3_off128 (i : grid3.Coords) : Fin 3 → Nat :=
  let c27_i32 : BitVec 32 := 27#32
  let arg0 : BitVec 32 := BitVec.ofNat 32 (i 0).val
  let c256_i32_103 : BitVec 32 := 256#32
  let v141 : BitVec 32 := Scalar.muli arg0 c256_i32_103
  let c0_i32_105 : BitVec 32 := 0#32
  ![27, v141.toNat, 0]
def k3_off129 (i : grid3.Coords) : Fin 3 → Nat :=
  let c28_i32 : BitVec 32 := 28#32
  let arg0 : BitVec 32 := BitVec.ofNat 32 (i 0).val
  let c256_i32_106 : BitVec 32 := 256#32
  let v145 : BitVec 32 := Scalar.muli arg0 c256_i32_106
  let c0_i32_108 : BitVec 32 := 0#32
  ![28, v145.toNat, 0]
def k3_off130 (i : grid3.Coords) : Fin 3 → Nat :=
  let c29_i32 : BitVec 32 := 29#32
  let arg0 : BitVec 32 := BitVec.ofNat 32 (i 0).val
  let c256_i32_109 : BitVec 32 := 256#32
  let v149 : BitVec 32 := Scalar.muli arg0 c256_i32_109
  let c0_i32_111 : BitVec 32 := 0#32
  ![29, v149.toNat, 0]
def k3_off131 (i : grid3.Coords) : Fin 3 → Nat :=
  let c30_i32 : BitVec 32 := 30#32
  let arg0 : BitVec 32 := BitVec.ofNat 32 (i 0).val
  let c256_i32_112 : BitVec 32 := 256#32
  let v153 : BitVec 32 := Scalar.muli arg0 c256_i32_112
  let c0_i32_114 : BitVec 32 := 0#32
  ![30, v153.toNat, 0]
def k3_off132 (i : grid3.Coords) : Fin 3 → Nat :=
  let c31_i32 : BitVec 32 := 31#32
  let arg0 : BitVec 32 := BitVec.ofNat 32 (i 0).val
  let c256_i32_115 : BitVec 32 := 256#32
  let v157 : BitVec 32 := Scalar.muli arg0 c256_i32_115
  let c0_i32_117 : BitVec 32 := 0#32
  ![31, v157.toNat, 0]
def k3_off133 (i : grid3.Coords) : Fin 3 → Nat :=
  let c32_i32 : BitVec 32 := 32#32
  let arg0 : BitVec 32 := BitVec.ofNat 32 (i 0).val
  let c256_i32_118 : BitVec 32 := 256#32
  let v161 : BitVec 32 := Scalar.muli arg0 c256_i32_118
  let c0_i32_120 : BitVec 32 := 0#32
  ![32, v161.toNat, 0]
def k3_off134 (i : grid3.Coords) : Fin 3 → Nat :=
  let c33_i32 : BitVec 32 := 33#32
  let arg0 : BitVec 32 := BitVec.ofNat 32 (i 0).val
  let c256_i32_121 : BitVec 32 := 256#32
  let v165 : BitVec 32 := Scalar.muli arg0 c256_i32_121
  let c0_i32_123 : BitVec 32 := 0#32
  ![33, v165.toNat, 0]
def k3_off135 (i : grid3.Coords) : Fin 3 → Nat :=
  let c34_i32 : BitVec 32 := 34#32
  let arg0 : BitVec 32 := BitVec.ofNat 32 (i 0).val
  let c256_i32_124 : BitVec 32 := 256#32
  let v169 : BitVec 32 := Scalar.muli arg0 c256_i32_124
  let c0_i32_126 : BitVec 32 := 0#32
  ![34, v169.toNat, 0]
def k3_off136 (i : grid3.Coords) : Fin 3 → Nat :=
  let c35_i32 : BitVec 32 := 35#32
  let arg0 : BitVec 32 := BitVec.ofNat 32 (i 0).val
  let c256_i32_127 : BitVec 32 := 256#32
  let v173 : BitVec 32 := Scalar.muli arg0 c256_i32_127
  let c0_i32_129 : BitVec 32 := 0#32
  ![35, v173.toNat, 0]
def k3_off137 (i : grid3.Coords) : Fin 3 → Nat :=
  let c36_i32 : BitVec 32 := 36#32
  let arg0 : BitVec 32 := BitVec.ofNat 32 (i 0).val
  let c256_i32_130 : BitVec 32 := 256#32
  let v177 : BitVec 32 := Scalar.muli arg0 c256_i32_130
  let c0_i32_132 : BitVec 32 := 0#32
  ![36, v177.toNat, 0]
def k3_off138 (i : grid3.Coords) : Fin 3 → Nat :=
  let c37_i32 : BitVec 32 := 37#32
  let arg0 : BitVec 32 := BitVec.ofNat 32 (i 0).val
  let c256_i32_133 : BitVec 32 := 256#32
  let v181 : BitVec 32 := Scalar.muli arg0 c256_i32_133
  let c0_i32_135 : BitVec 32 := 0#32
  ![37, v181.toNat, 0]
def k3_off139 (i : grid3.Coords) : Fin 3 → Nat :=
  let c38_i32 : BitVec 32 := 38#32
  let arg0 : BitVec 32 := BitVec.ofNat 32 (i 0).val
  let c256_i32_136 : BitVec 32 := 256#32
  let v185 : BitVec 32 := Scalar.muli arg0 c256_i32_136
  let c0_i32_138 : BitVec 32 := 0#32
  ![38, v185.toNat, 0]
def k3_off140 (i : grid3.Coords) : Fin 3 → Nat :=
  let c39_i32 : BitVec 32 := 39#32
  let arg0 : BitVec 32 := BitVec.ofNat 32 (i 0).val
  let c256_i32_139 : BitVec 32 := 256#32
  let v189 : BitVec 32 := Scalar.muli arg0 c256_i32_139
  let c0_i32_141 : BitVec 32 := 0#32
  ![39, v189.toNat, 0]
def k3_off141 (i : grid3.Coords) : Fin 3 → Nat :=
  let c40_i32 : BitVec 32 := 40#32
  let arg0 : BitVec 32 := BitVec.ofNat 32 (i 0).val
  let c256_i32_142 : BitVec 32 := 256#32
  let v193 : BitVec 32 := Scalar.muli arg0 c256_i32_142
  let c0_i32_144 : BitVec 32 := 0#32
  ![40, v193.toNat, 0]
def k3_off142 (i : grid3.Coords) : Fin 3 → Nat :=
  let c41_i32 : BitVec 32 := 41#32
  let arg0 : BitVec 32 := BitVec.ofNat 32 (i 0).val
  let c256_i32_145 : BitVec 32 := 256#32
  let v197 : BitVec 32 := Scalar.muli arg0 c256_i32_145
  let c0_i32_147 : BitVec 32 := 0#32
  ![41, v197.toNat, 0]
def k3_off143 (i : grid3.Coords) : Fin 3 → Nat :=
  let c42_i32 : BitVec 32 := 42#32
  let arg0 : BitVec 32 := BitVec.ofNat 32 (i 0).val
  let c256_i32_148 : BitVec 32 := 256#32
  let v201 : BitVec 32 := Scalar.muli arg0 c256_i32_148
  let c0_i32_150 : BitVec 32 := 0#32
  ![42, v201.toNat, 0]
def k3_off144 (i : grid3.Coords) : Fin 3 → Nat :=
  let c43_i32 : BitVec 32 := 43#32
  let arg0 : BitVec 32 := BitVec.ofNat 32 (i 0).val
  let c256_i32_151 : BitVec 32 := 256#32
  let v205 : BitVec 32 := Scalar.muli arg0 c256_i32_151
  let c0_i32_153 : BitVec 32 := 0#32
  ![43, v205.toNat, 0]
def k3_off145 (i : grid3.Coords) : Fin 3 → Nat :=
  let c44_i32 : BitVec 32 := 44#32
  let arg0 : BitVec 32 := BitVec.ofNat 32 (i 0).val
  let c256_i32_154 : BitVec 32 := 256#32
  let v209 : BitVec 32 := Scalar.muli arg0 c256_i32_154
  let c0_i32_156 : BitVec 32 := 0#32
  ![44, v209.toNat, 0]
def k3_off146 (i : grid3.Coords) : Fin 3 → Nat :=
  let c45_i32 : BitVec 32 := 45#32
  let arg0 : BitVec 32 := BitVec.ofNat 32 (i 0).val
  let c256_i32_157 : BitVec 32 := 256#32
  let v213 : BitVec 32 := Scalar.muli arg0 c256_i32_157
  let c0_i32_159 : BitVec 32 := 0#32
  ![45, v213.toNat, 0]
def k3_off147 (i : grid3.Coords) : Fin 3 → Nat :=
  let c46_i32 : BitVec 32 := 46#32
  let arg0 : BitVec 32 := BitVec.ofNat 32 (i 0).val
  let c256_i32_160 : BitVec 32 := 256#32
  let v217 : BitVec 32 := Scalar.muli arg0 c256_i32_160
  let c0_i32_162 : BitVec 32 := 0#32
  ![46, v217.toNat, 0]
def k3_off148 (i : grid3.Coords) : Fin 3 → Nat :=
  let c47_i32 : BitVec 32 := 47#32
  let arg0 : BitVec 32 := BitVec.ofNat 32 (i 0).val
  let c256_i32_163 : BitVec 32 := 256#32
  let v221 : BitVec 32 := Scalar.muli arg0 c256_i32_163
  let c0_i32_165 : BitVec 32 := 0#32
  ![47, v221.toNat, 0]
def k3_off149 (i : grid3.Coords) : Fin 3 → Nat :=
  let c48_i32 : BitVec 32 := 48#32
  let arg0 : BitVec 32 := BitVec.ofNat 32 (i 0).val
  let c256_i32_166 : BitVec 32 := 256#32
  let v225 : BitVec 32 := Scalar.muli arg0 c256_i32_166
  let c0_i32_168 : BitVec 32 := 0#32
  ![48, v225.toNat, 0]
def k3_off150 (i : grid3.Coords) : Fin 3 → Nat :=
  let c49_i32 : BitVec 32 := 49#32
  let arg0 : BitVec 32 := BitVec.ofNat 32 (i 0).val
  let c256_i32_169 : BitVec 32 := 256#32
  let v229 : BitVec 32 := Scalar.muli arg0 c256_i32_169
  let c0_i32_171 : BitVec 32 := 0#32
  ![49, v229.toNat, 0]
def k3_cond6 (i : grid3.Coords) : BitVec 1 :=
  let arg0 : BitVec 32 := BitVec.ofNat 32 (i 0).val
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi arg0 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 32 := Scalar.extui v30
  let c0_i32_16 : BitVec 32 := 0#32
  let v32 : BitVec 1 := Scalar.cmpi .ne v31 c0_i32_16
  v32

def k3_off151 (i : grid3.Coords) : Fin 3 → Nat :=
  let c0_i32_17 : BitVec 32 := 0#32
  let arg0 : BitVec 32 := BitVec.ofNat 32 (i 0).val
  let c256_i32 : BitVec 32 := 256#32
  let v33 : BitVec 32 := Scalar.muli arg0 c256_i32
  let c0_i32_20 : BitVec 32 := 0#32
  ![0, v33.toNat, 0]
def k3_off152 (i : grid3.Coords) : Fin 3 → Nat :=
  let c1_i32_22 : BitVec 32 := 1#32
  let arg0 : BitVec 32 := BitVec.ofNat 32 (i 0).val
  let c256_i32_21 : BitVec 32 := 256#32
  let v37 : BitVec 32 := Scalar.muli arg0 c256_i32_21
  let c0_i32_24 : BitVec 32 := 0#32
  ![1, v37.toNat, 0]
def k3_off153 (i : grid3.Coords) : Fin 3 → Nat :=
  let c2_i32_26 : BitVec 32 := 2#32
  let arg0 : BitVec 32 := BitVec.ofNat 32 (i 0).val
  let c256_i32_25 : BitVec 32 := 256#32
  let v41 : BitVec 32 := Scalar.muli arg0 c256_i32_25
  let c0_i32_29 : BitVec 32 := 0#32
  ![2, v41.toNat, 0]
def k3_off154 (i : grid3.Coords) : Fin 3 → Nat :=
  let c3_i32 : BitVec 32 := 3#32
  let arg0 : BitVec 32 := BitVec.ofNat 32 (i 0).val
  let c256_i32_30 : BitVec 32 := 256#32
  let v45 : BitVec 32 := Scalar.muli arg0 c256_i32_30
  let c0_i32_32 : BitVec 32 := 0#32
  ![3, v45.toNat, 0]
def k3_off155 (i : grid3.Coords) : Fin 3 → Nat :=
  let c4_i32 : BitVec 32 := 4#32
  let arg0 : BitVec 32 := BitVec.ofNat 32 (i 0).val
  let c256_i32_33 : BitVec 32 := 256#32
  let v49 : BitVec 32 := Scalar.muli arg0 c256_i32_33
  let c0_i32_35 : BitVec 32 := 0#32
  ![4, v49.toNat, 0]
def k3_off156 (i : grid3.Coords) : Fin 3 → Nat :=
  let c5_i32 : BitVec 32 := 5#32
  let arg0 : BitVec 32 := BitVec.ofNat 32 (i 0).val
  let c256_i32_36 : BitVec 32 := 256#32
  let v53 : BitVec 32 := Scalar.muli arg0 c256_i32_36
  let c0_i32_38 : BitVec 32 := 0#32
  ![5, v53.toNat, 0]
def k3_off157 (i : grid3.Coords) : Fin 3 → Nat :=
  let c6_i32 : BitVec 32 := 6#32
  let arg0 : BitVec 32 := BitVec.ofNat 32 (i 0).val
  let c256_i32_39 : BitVec 32 := 256#32
  let v57 : BitVec 32 := Scalar.muli arg0 c256_i32_39
  let c0_i32_41 : BitVec 32 := 0#32
  ![6, v57.toNat, 0]
def k3_off158 (i : grid3.Coords) : Fin 3 → Nat :=
  let c7_i32 : BitVec 32 := 7#32
  let arg0 : BitVec 32 := BitVec.ofNat 32 (i 0).val
  let c256_i32_42 : BitVec 32 := 256#32
  let v61 : BitVec 32 := Scalar.muli arg0 c256_i32_42
  let c0_i32_44 : BitVec 32 := 0#32
  ![7, v61.toNat, 0]
def k3_off159 (i : grid3.Coords) : Fin 3 → Nat :=
  let c8_i32_46 : BitVec 32 := 8#32
  let arg0 : BitVec 32 := BitVec.ofNat 32 (i 0).val
  let c256_i32_45 : BitVec 32 := 256#32
  let v65 : BitVec 32 := Scalar.muli arg0 c256_i32_45
  let c0_i32_48 : BitVec 32 := 0#32
  ![8, v65.toNat, 0]
def k3_off160 (i : grid3.Coords) : Fin 3 → Nat :=
  let c9_i32 : BitVec 32 := 9#32
  let arg0 : BitVec 32 := BitVec.ofNat 32 (i 0).val
  let c256_i32_49 : BitVec 32 := 256#32
  let v69 : BitVec 32 := Scalar.muli arg0 c256_i32_49
  let c0_i32_51 : BitVec 32 := 0#32
  ![9, v69.toNat, 0]
def k3_off161 (i : grid3.Coords) : Fin 3 → Nat :=
  let c10_i32 : BitVec 32 := 10#32
  let arg0 : BitVec 32 := BitVec.ofNat 32 (i 0).val
  let c256_i32_52 : BitVec 32 := 256#32
  let v73 : BitVec 32 := Scalar.muli arg0 c256_i32_52
  let c0_i32_54 : BitVec 32 := 0#32
  ![10, v73.toNat, 0]
def k3_off162 (i : grid3.Coords) : Fin 3 → Nat :=
  let c11_i32 : BitVec 32 := 11#32
  let arg0 : BitVec 32 := BitVec.ofNat 32 (i 0).val
  let c256_i32_55 : BitVec 32 := 256#32
  let v77 : BitVec 32 := Scalar.muli arg0 c256_i32_55
  let c0_i32_57 : BitVec 32 := 0#32
  ![11, v77.toNat, 0]
def k3_off163 (i : grid3.Coords) : Fin 3 → Nat :=
  let c12_i32 : BitVec 32 := 12#32
  let arg0 : BitVec 32 := BitVec.ofNat 32 (i 0).val
  let c256_i32_58 : BitVec 32 := 256#32
  let v81 : BitVec 32 := Scalar.muli arg0 c256_i32_58
  let c0_i32_60 : BitVec 32 := 0#32
  ![12, v81.toNat, 0]
def k3_off164 (i : grid3.Coords) : Fin 3 → Nat :=
  let c13_i32 : BitVec 32 := 13#32
  let arg0 : BitVec 32 := BitVec.ofNat 32 (i 0).val
  let c256_i32_61 : BitVec 32 := 256#32
  let v85 : BitVec 32 := Scalar.muli arg0 c256_i32_61
  let c0_i32_63 : BitVec 32 := 0#32
  ![13, v85.toNat, 0]
def k3_off165 (i : grid3.Coords) : Fin 3 → Nat :=
  let c14_i32 : BitVec 32 := 14#32
  let arg0 : BitVec 32 := BitVec.ofNat 32 (i 0).val
  let c256_i32_64 : BitVec 32 := 256#32
  let v89 : BitVec 32 := Scalar.muli arg0 c256_i32_64
  let c0_i32_66 : BitVec 32 := 0#32
  ![14, v89.toNat, 0]
def k3_off166 (i : grid3.Coords) : Fin 3 → Nat :=
  let c15_i32 : BitVec 32 := 15#32
  let arg0 : BitVec 32 := BitVec.ofNat 32 (i 0).val
  let c256_i32_67 : BitVec 32 := 256#32
  let v93 : BitVec 32 := Scalar.muli arg0 c256_i32_67
  let c0_i32_69 : BitVec 32 := 0#32
  ![15, v93.toNat, 0]
def k3_off167 (i : grid3.Coords) : Fin 3 → Nat :=
  let c16_i32 : BitVec 32 := 16#32
  let arg0 : BitVec 32 := BitVec.ofNat 32 (i 0).val
  let c256_i32_70 : BitVec 32 := 256#32
  let v97 : BitVec 32 := Scalar.muli arg0 c256_i32_70
  let c0_i32_72 : BitVec 32 := 0#32
  ![16, v97.toNat, 0]
def k3_off168 (i : grid3.Coords) : Fin 3 → Nat :=
  let c17_i32 : BitVec 32 := 17#32
  let arg0 : BitVec 32 := BitVec.ofNat 32 (i 0).val
  let c256_i32_73 : BitVec 32 := 256#32
  let v101 : BitVec 32 := Scalar.muli arg0 c256_i32_73
  let c0_i32_75 : BitVec 32 := 0#32
  ![17, v101.toNat, 0]
def k3_off169 (i : grid3.Coords) : Fin 3 → Nat :=
  let c18_i32 : BitVec 32 := 18#32
  let arg0 : BitVec 32 := BitVec.ofNat 32 (i 0).val
  let c256_i32_76 : BitVec 32 := 256#32
  let v105 : BitVec 32 := Scalar.muli arg0 c256_i32_76
  let c0_i32_78 : BitVec 32 := 0#32
  ![18, v105.toNat, 0]
def k3_off170 (i : grid3.Coords) : Fin 3 → Nat :=
  let c19_i32 : BitVec 32 := 19#32
  let arg0 : BitVec 32 := BitVec.ofNat 32 (i 0).val
  let c256_i32_79 : BitVec 32 := 256#32
  let v109 : BitVec 32 := Scalar.muli arg0 c256_i32_79
  let c0_i32_81 : BitVec 32 := 0#32
  ![19, v109.toNat, 0]
def k3_off171 (i : grid3.Coords) : Fin 3 → Nat :=
  let c20_i32 : BitVec 32 := 20#32
  let arg0 : BitVec 32 := BitVec.ofNat 32 (i 0).val
  let c256_i32_82 : BitVec 32 := 256#32
  let v113 : BitVec 32 := Scalar.muli arg0 c256_i32_82
  let c0_i32_84 : BitVec 32 := 0#32
  ![20, v113.toNat, 0]
def k3_off172 (i : grid3.Coords) : Fin 3 → Nat :=
  let c21_i32 : BitVec 32 := 21#32
  let arg0 : BitVec 32 := BitVec.ofNat 32 (i 0).val
  let c256_i32_85 : BitVec 32 := 256#32
  let v117 : BitVec 32 := Scalar.muli arg0 c256_i32_85
  let c0_i32_87 : BitVec 32 := 0#32
  ![21, v117.toNat, 0]
def k3_off173 (i : grid3.Coords) : Fin 3 → Nat :=
  let c22_i32 : BitVec 32 := 22#32
  let arg0 : BitVec 32 := BitVec.ofNat 32 (i 0).val
  let c256_i32_88 : BitVec 32 := 256#32
  let v121 : BitVec 32 := Scalar.muli arg0 c256_i32_88
  let c0_i32_90 : BitVec 32 := 0#32
  ![22, v121.toNat, 0]
def k3_off174 (i : grid3.Coords) : Fin 3 → Nat :=
  let c23_i32 : BitVec 32 := 23#32
  let arg0 : BitVec 32 := BitVec.ofNat 32 (i 0).val
  let c256_i32_91 : BitVec 32 := 256#32
  let v125 : BitVec 32 := Scalar.muli arg0 c256_i32_91
  let c0_i32_93 : BitVec 32 := 0#32
  ![23, v125.toNat, 0]
def k3_off175 (i : grid3.Coords) : Fin 3 → Nat :=
  let c24_i32 : BitVec 32 := 24#32
  let arg0 : BitVec 32 := BitVec.ofNat 32 (i 0).val
  let c256_i32_94 : BitVec 32 := 256#32
  let v129 : BitVec 32 := Scalar.muli arg0 c256_i32_94
  let c0_i32_96 : BitVec 32 := 0#32
  ![24, v129.toNat, 0]
def k3_off176 (i : grid3.Coords) : Fin 3 → Nat :=
  let c25_i32 : BitVec 32 := 25#32
  let arg0 : BitVec 32 := BitVec.ofNat 32 (i 0).val
  let c256_i32_97 : BitVec 32 := 256#32
  let v133 : BitVec 32 := Scalar.muli arg0 c256_i32_97
  let c0_i32_99 : BitVec 32 := 0#32
  ![25, v133.toNat, 0]
def k3_off177 (i : grid3.Coords) : Fin 3 → Nat :=
  let c26_i32 : BitVec 32 := 26#32
  let arg0 : BitVec 32 := BitVec.ofNat 32 (i 0).val
  let c256_i32_100 : BitVec 32 := 256#32
  let v137 : BitVec 32 := Scalar.muli arg0 c256_i32_100
  let c0_i32_102 : BitVec 32 := 0#32
  ![26, v137.toNat, 0]
def k3_off178 (i : grid3.Coords) : Fin 3 → Nat :=
  let c27_i32 : BitVec 32 := 27#32
  let arg0 : BitVec 32 := BitVec.ofNat 32 (i 0).val
  let c256_i32_103 : BitVec 32 := 256#32
  let v141 : BitVec 32 := Scalar.muli arg0 c256_i32_103
  let c0_i32_105 : BitVec 32 := 0#32
  ![27, v141.toNat, 0]
def k3_off179 (i : grid3.Coords) : Fin 3 → Nat :=
  let c28_i32 : BitVec 32 := 28#32
  let arg0 : BitVec 32 := BitVec.ofNat 32 (i 0).val
  let c256_i32_106 : BitVec 32 := 256#32
  let v145 : BitVec 32 := Scalar.muli arg0 c256_i32_106
  let c0_i32_108 : BitVec 32 := 0#32
  ![28, v145.toNat, 0]
def k3_off180 (i : grid3.Coords) : Fin 3 → Nat :=
  let c29_i32 : BitVec 32 := 29#32
  let arg0 : BitVec 32 := BitVec.ofNat 32 (i 0).val
  let c256_i32_109 : BitVec 32 := 256#32
  let v149 : BitVec 32 := Scalar.muli arg0 c256_i32_109
  let c0_i32_111 : BitVec 32 := 0#32
  ![29, v149.toNat, 0]
def k3_off181 (i : grid3.Coords) : Fin 3 → Nat :=
  let c30_i32 : BitVec 32 := 30#32
  let arg0 : BitVec 32 := BitVec.ofNat 32 (i 0).val
  let c256_i32_112 : BitVec 32 := 256#32
  let v153 : BitVec 32 := Scalar.muli arg0 c256_i32_112
  let c0_i32_114 : BitVec 32 := 0#32
  ![30, v153.toNat, 0]
def k3_off182 (i : grid3.Coords) : Fin 3 → Nat :=
  let c31_i32 : BitVec 32 := 31#32
  let arg0 : BitVec 32 := BitVec.ofNat 32 (i 0).val
  let c256_i32_115 : BitVec 32 := 256#32
  let v157 : BitVec 32 := Scalar.muli arg0 c256_i32_115
  let c0_i32_117 : BitVec 32 := 0#32
  ![31, v157.toNat, 0]
def k3_off183 (i : grid3.Coords) : Fin 3 → Nat :=
  let c32_i32 : BitVec 32 := 32#32
  let arg0 : BitVec 32 := BitVec.ofNat 32 (i 0).val
  let c256_i32_118 : BitVec 32 := 256#32
  let v161 : BitVec 32 := Scalar.muli arg0 c256_i32_118
  let c0_i32_120 : BitVec 32 := 0#32
  ![32, v161.toNat, 0]
def k3_off184 (i : grid3.Coords) : Fin 3 → Nat :=
  let c33_i32 : BitVec 32 := 33#32
  let arg0 : BitVec 32 := BitVec.ofNat 32 (i 0).val
  let c256_i32_121 : BitVec 32 := 256#32
  let v165 : BitVec 32 := Scalar.muli arg0 c256_i32_121
  let c0_i32_123 : BitVec 32 := 0#32
  ![33, v165.toNat, 0]
def k3_off185 (i : grid3.Coords) : Fin 3 → Nat :=
  let c34_i32 : BitVec 32 := 34#32
  let arg0 : BitVec 32 := BitVec.ofNat 32 (i 0).val
  let c256_i32_124 : BitVec 32 := 256#32
  let v169 : BitVec 32 := Scalar.muli arg0 c256_i32_124
  let c0_i32_126 : BitVec 32 := 0#32
  ![34, v169.toNat, 0]
def k3_off186 (i : grid3.Coords) : Fin 3 → Nat :=
  let c35_i32 : BitVec 32 := 35#32
  let arg0 : BitVec 32 := BitVec.ofNat 32 (i 0).val
  let c256_i32_127 : BitVec 32 := 256#32
  let v173 : BitVec 32 := Scalar.muli arg0 c256_i32_127
  let c0_i32_129 : BitVec 32 := 0#32
  ![35, v173.toNat, 0]
def k3_off187 (i : grid3.Coords) : Fin 3 → Nat :=
  let c36_i32 : BitVec 32 := 36#32
  let arg0 : BitVec 32 := BitVec.ofNat 32 (i 0).val
  let c256_i32_130 : BitVec 32 := 256#32
  let v177 : BitVec 32 := Scalar.muli arg0 c256_i32_130
  let c0_i32_132 : BitVec 32 := 0#32
  ![36, v177.toNat, 0]
def k3_off188 (i : grid3.Coords) : Fin 3 → Nat :=
  let c37_i32 : BitVec 32 := 37#32
  let arg0 : BitVec 32 := BitVec.ofNat 32 (i 0).val
  let c256_i32_133 : BitVec 32 := 256#32
  let v181 : BitVec 32 := Scalar.muli arg0 c256_i32_133
  let c0_i32_135 : BitVec 32 := 0#32
  ![37, v181.toNat, 0]
def k3_off189 (i : grid3.Coords) : Fin 3 → Nat :=
  let c38_i32 : BitVec 32 := 38#32
  let arg0 : BitVec 32 := BitVec.ofNat 32 (i 0).val
  let c256_i32_136 : BitVec 32 := 256#32
  let v185 : BitVec 32 := Scalar.muli arg0 c256_i32_136
  let c0_i32_138 : BitVec 32 := 0#32
  ![38, v185.toNat, 0]
def k3_off190 (i : grid3.Coords) : Fin 3 → Nat :=
  let c39_i32 : BitVec 32 := 39#32
  let arg0 : BitVec 32 := BitVec.ofNat 32 (i 0).val
  let c256_i32_139 : BitVec 32 := 256#32
  let v189 : BitVec 32 := Scalar.muli arg0 c256_i32_139
  let c0_i32_141 : BitVec 32 := 0#32
  ![39, v189.toNat, 0]
def k3_off191 (i : grid3.Coords) : Fin 3 → Nat :=
  let c40_i32 : BitVec 32 := 40#32
  let arg0 : BitVec 32 := BitVec.ofNat 32 (i 0).val
  let c256_i32_142 : BitVec 32 := 256#32
  let v193 : BitVec 32 := Scalar.muli arg0 c256_i32_142
  let c0_i32_144 : BitVec 32 := 0#32
  ![40, v193.toNat, 0]
def k3_off192 (i : grid3.Coords) : Fin 3 → Nat :=
  let c41_i32 : BitVec 32 := 41#32
  let arg0 : BitVec 32 := BitVec.ofNat 32 (i 0).val
  let c256_i32_145 : BitVec 32 := 256#32
  let v197 : BitVec 32 := Scalar.muli arg0 c256_i32_145
  let c0_i32_147 : BitVec 32 := 0#32
  ![41, v197.toNat, 0]
def k3_off193 (i : grid3.Coords) : Fin 3 → Nat :=
  let c42_i32 : BitVec 32 := 42#32
  let arg0 : BitVec 32 := BitVec.ofNat 32 (i 0).val
  let c256_i32_148 : BitVec 32 := 256#32
  let v201 : BitVec 32 := Scalar.muli arg0 c256_i32_148
  let c0_i32_150 : BitVec 32 := 0#32
  ![42, v201.toNat, 0]
def k3_off194 (i : grid3.Coords) : Fin 3 → Nat :=
  let c43_i32 : BitVec 32 := 43#32
  let arg0 : BitVec 32 := BitVec.ofNat 32 (i 0).val
  let c256_i32_151 : BitVec 32 := 256#32
  let v205 : BitVec 32 := Scalar.muli arg0 c256_i32_151
  let c0_i32_153 : BitVec 32 := 0#32
  ![43, v205.toNat, 0]
def k3_off195 (i : grid3.Coords) : Fin 3 → Nat :=
  let c44_i32 : BitVec 32 := 44#32
  let arg0 : BitVec 32 := BitVec.ofNat 32 (i 0).val
  let c256_i32_154 : BitVec 32 := 256#32
  let v209 : BitVec 32 := Scalar.muli arg0 c256_i32_154
  let c0_i32_156 : BitVec 32 := 0#32
  ![44, v209.toNat, 0]
def k3_off196 (i : grid3.Coords) : Fin 3 → Nat :=
  let c45_i32 : BitVec 32 := 45#32
  let arg0 : BitVec 32 := BitVec.ofNat 32 (i 0).val
  let c256_i32_157 : BitVec 32 := 256#32
  let v213 : BitVec 32 := Scalar.muli arg0 c256_i32_157
  let c0_i32_159 : BitVec 32 := 0#32
  ![45, v213.toNat, 0]
def k3_off197 (i : grid3.Coords) : Fin 3 → Nat :=
  let c46_i32 : BitVec 32 := 46#32
  let arg0 : BitVec 32 := BitVec.ofNat 32 (i 0).val
  let c256_i32_160 : BitVec 32 := 256#32
  let v217 : BitVec 32 := Scalar.muli arg0 c256_i32_160
  let c0_i32_162 : BitVec 32 := 0#32
  ![46, v217.toNat, 0]
def k3_off198 (i : grid3.Coords) : Fin 3 → Nat :=
  let c47_i32 : BitVec 32 := 47#32
  let arg0 : BitVec 32 := BitVec.ofNat 32 (i 0).val
  let c256_i32_163 : BitVec 32 := 256#32
  let v221 : BitVec 32 := Scalar.muli arg0 c256_i32_163
  let c0_i32_165 : BitVec 32 := 0#32
  ![47, v221.toNat, 0]
def k3_off199 (i : grid3.Coords) : Fin 3 → Nat :=
  let c48_i32 : BitVec 32 := 48#32
  let arg0 : BitVec 32 := BitVec.ofNat 32 (i 0).val
  let c256_i32_166 : BitVec 32 := 256#32
  let v225 : BitVec 32 := Scalar.muli arg0 c256_i32_166
  let c0_i32_168 : BitVec 32 := 0#32
  ![48, v225.toNat, 0]
def k3_off200 (i : grid3.Coords) : Fin 3 → Nat :=
  let c49_i32 : BitVec 32 := 49#32
  let arg0 : BitVec 32 := BitVec.ofNat 32 (i 0).val
  let c256_i32_169 : BitVec 32 := 256#32
  let v229 : BitVec 32 := Scalar.muli arg0 c256_i32_169
  let c0_i32_171 : BitVec 32 := 0#32
  ![49, v229.toNat, 0]
def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage3_0 : Fin 1 → Memref sig .tc .vmem S1024x6400 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x50 : Shape := ⟨2, ![4096, 50]⟩
abbrev S100000x128 : Shape := ⟨2, ![100000, 128]⟩
abbrev S1024x6400 : Shape := ⟨2, ![1024, 6400]⟩
abbrev S1024 : Shape := ⟨1, ![1024]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x6400 : Shape := ⟨2, ![4096, 6400]⟩
abbrev S6400x1024 : Shape := ⟨2, ![6400, 1024]⟩
abbrev S4096x1024 : Shape := ⟨2, ![4096, 1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S1024x6400, .f32⟩
  | .hbm, ⟨3, _⟩ => ⟨S1024, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x128, .f32⟩
  | .hbm, ⟨23, _⟩ => ⟨S4096x50x128, .i1⟩
  | .hbm, ⟨24, _⟩ => ⟨S_, .f32⟩
  | .hbm, ⟨25, _⟩ => ⟨S4096x50x128, .f32⟩
  | .hbm, ⟨26, _⟩ => ⟨S4096x50x128, .f32⟩
  | .hbm, ⟨27, _⟩ => ⟨S4096x6400, .f32⟩
  | .hbm, ⟨28, _⟩ => ⟨S6400x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.MmProg.lean ====
/-
  The program of one point of the two TensorCore calls, in structured form.

  At point `n` the body starts the fifty copies of block `n + 1` into the buffer not in use (at point 0 also those of
  block 0), waits for the fifty copies of block `n`, and stores one block of the result. `mmBody` says this with the
  fifty copies as a list; the two theorems at the end say that the two printed bodies are `mmBody`.
-/
module

public import proofs.«01_k».proof.Defs
public import Idealize.ShloMosaic.Lib.SparseCore.Quiescent
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Mm

open Cert.KernelIdeal Cert.KernelIdeal.Gen
open Idealize.ShloMosaic Idealize.SL Idealize.SL.Sem

variable {F : FTy → Type} [FloatOps F]

/-- The first element of the window of copy `s` when block 0 is copied. -/
def off0 (s : Fin 50) : Fin 3 → ℕ := ![s.val, 0, 0]
/-- The first element of the window of copy `s` when block `n` is waited for. -/
def offD (n : ℕ) (s : Fin 50) : Fin 3 → ℕ := ![s.val, (Scalar.muli (BitVec.ofNat 32 n) 256#32).toNat, 0]
/-- The first element of the window of copy `s` when block `n + 1` is copied. -/
def offF (n : ℕ) (s : Fin 50) : Fin 3 → ℕ :=
  ![s.val, (Scalar.muli (Scalar.addi (BitVec.ofNat 32 n) 1#32) 256#32).toNat, 0]

theorem offD_eq (n : Fin 8) (s : Fin 50) : offD n.val s = ![s.val, 256 * n.val, 0] := by
  have h : ∀ n : Fin 8, (Scalar.muli (BitVec.ofNat 32 n.val) 256#32).toNat = 256 * n.val := by decide +kernel
  rw [offD, h]
theorem offF_eq (n : Fin 8) (s : Fin 50) : offF n.val s = ![s.val, 256 * (n.val + 1), 0] := by
  have h : ∀ n : Fin 8, (Scalar.muli (Scalar.addi (BitVec.ofNat 32 n.val) 1#32) 256#32).toNat = 256 * (n.val + 1) := by
    decide +kernel
  rw [offF, h]

/-- A window of the rows starting at row `256 n` lies inside the array. -/
theorem inb_blk (n : ℕ) (hn : n < 8) (s : Fin 50) :
    ∀ a, (![s.val, 256 * n, 0] : Fin 3 → ℕ) a + S1x256x128.size a ≤ S50x2048x128.size a := by
  intro a
  fin_cases a
  · show s.val + 1 ≤ 50; omega
  · show 256 * n + 256 ≤ 2048; omega
  · show 0 + 128 ≤ 128; omega

theorem inb0 (s : Fin 50) : ∀ a, off0 s a + S1x256x128.size a ≤ S50x2048x128.size a := inb_blk 0 (by omega) s
theorem inbD (n : Fin 8) (s : Fin 50) : ∀ a, offD n.val s a + S1x256x128.size a ≤ S50x2048x128.size a := by
  rw [offD_eq]; exact inb_blk n n.isLt s
theorem inbF (n : Fin 8) (h : n.val + 1 < 8) (s : Fin 50) :
    ∀ a, offF n.val s a + S1x256x128.size a ≤ S50x2048x128.size a := by
  rw [offF_eq]; exact inb_blk (n.val + 1) h s

/-- The columns that copy `s` fills lie inside the buffer. -/
theorem inbB (s : Fin 50) : ∀ a, (![0, 128 * s.val] : Fin 2 → ℕ) a + S256x128.size a ≤ S256x6400.size a := by
  intro a
  fin_cases a
  · show 0 + 256 ≤ 256; omega
  · show 128 * s.val + 128 ≤ 6400; omega

/-- The window of the gathered array that one copy reads. -/
def xw (X : Memref sig .tc .hbm S50x2048x128 .f32) (o : Fin 3 → ℕ) (h : ∀ a, o a + S1x256x128.size a ≤ S50x2048x128.size a) :
    Memref sig .tc .hbm S256x128 .f32 :=
  (X.slice (Rect.unit (s := S50x2048x128) o S1x256x128.size h) (fun _ => rfl)).squeeze S256x128 squeezes_S1x256x128_S256x128
/-- The columns of a buffer that copy `s` fills. -/
def bw (B : Memref sig .tc .vmem S256x6400 .f32) (s : Fin 50) : Memref sig .tc .vmem S256x128 .f32 :=
  B.slice (Rect.unit (s := S256x6400) ![0, 128 * s.val] S256x128.size (inbB s)) (fun _ => rfl)

/-- Starts copy `s`. -/
def fire1 (X : Memref sig .tc .hbm S50x2048x128 .f32) (B : Memref sig .tc .vmem S256x6400 .f32) (sm : DmaSems sig S_)
    (o : Fin 50 → Fin 3 → ℕ) (h : ∀ s a, o s a + S1x256x128.size a ≤ S50x2048x128.size a) (s : Fin 50) :
    Prog (TpuEff nD τ sig (Elt F) Λ₀ .tc) PUnit :=
  Prog.lift (.enqueueDma (xw X (o s) (h s)) (.here (bw B s)) (.dma sm.sem) ((View.wordExact_bits rfl).reshape _ _)
    (View.wordExact_bits rfl) ⟨Or.inl rfl, trivial⟩)
/-- Waits for one copy. -/
def wait1 (X : Memref sig .tc .hbm S50x2048x128 .f32) (B : Memref sig .tc .vmem S256x6400 .f32) (sm : DmaSems sig S_)
    (o : Fin 50 → Fin 3 → ℕ) (h : ∀ s a, o s a + S1x256x128.size a ≤ S50x2048x128.size a) (s : Fin 50) :
    Prog (TpuEff nD τ sig (Elt F) Λ₀ .tc) PUnit :=
  Prog.lift (.waitDma2 sm.sem (xw X (o s) (h s)) (bw B s) ((View.wordExact_bits rfl).reshape _ _) (View.wordExact_bits rfl))

/-- A list of steps one after another. -/
def seqs (f : Fin 50 → Prog (TpuEff nD τ sig (Elt F) Λ₀ .tc) PUnit) : List (Fin 50) → Prog (TpuEff nD τ sig (Elt F) Λ₀ .tc) PUnit
  | [] => pure ⟨⟩
  | s :: l => do f s; seqs f l

/-- The fifty copies in order. -/
def all : List (Fin 50) :=
  [0, 1, 2, 3, 4, 5, 6, 7, 8, 9, 10, 11, 12, 13, 14, 15, 16, 17, 18, 19, 20, 21, 22, 23, 24, 25, 26, 27, 28, 29, 30, 31, 32,
    33, 34, 35, 36, 37, 38, 39, 40, 41, 42, 43, 44, 45, 46, 47, 48, 49]

/-- What one block of the result is computed from: the bias, the gathered block and the weights. -/
def blockOf (b : Vec F S1x1024 .f32) (x : Vec F S256x6400 .f32) (w : Vec F S1024x6400 .bf16) : FVec F S256x1024 .f32 :=
  k2_pay1 b x w

/-- Reads the bias, the gathered block and the weights, and stores the block of the result. -/
def tail (Wm : Memref sig .tc .vmem S1024x6400 .bf16) (b : Memref sig .tc .vmem S1x1024 .f32)
    (o : Memref sig .tc .vmem S256x1024 .f32) (B : Memref sig .tc .vmem S256x6400 .f32) :
    Prog (TpuEff nD τ sig (Elt F) Λ₀ .tc) PUnit := do
  let v233 : Vec F S1x1024 .f32 ← Prog.lift (.load b (Rect.unit (s := S1x1024) ![0, 0] S1x1024.size inb_S1x1024_S1x1024_0_0).toLoadRect (View.loadsAt_vmem h_S1x1024))
  let v237 : Vec F S256x6400 .f32 ← Prog.lift (.load B (Rect.unit (s := S256x6400) ![0, 0] S256x6400.size inb_S256x6400_S256x6400_0_0).toLoadRect (View.loadsAt_vmem h_S256x6400))
  let v239 : Vec F S1024x6400 .bf16 ← Prog.lift (.load Wm (Rect.unit (s := S1024x6400) ![0, 0] S1024x6400.size inb_S1024x6400_S1024x6400_0_0).toLoadRect (View.loadsAt_vmem h_S1024x6400))
  let _v243 : Vec F S256x1024 .f32 ← Prog.lift (.load o (Rect.unit (s := S256x1024) ![0, 0] S256x1024.size inb_S256x1024_S256x1024_0_0).toLoadRect (View.loadsAt_vmem h_S256x1024))
  Prog.lift (.store o (Rect.unit (s := S256x1024) ![0, 0] S256x1024.size inb_S256x1024_S256x1024_0_0) (blockOf v233 v237 v239) Finset.univ (View.stores_vmem_bits_univ h_S256x1024 rfl) (.inl rfl))

variable (i2 : grid2.Coords) (i3 : grid3.Coords) (X : Memref sig .tc .hbm S50x2048x128 .f32) (hX : X.IsWhole)
  (Wm : Memref sig .tc .vmem S1024x6400 .bf16) (hW : Wm.IsWhole) (b : Memref sig .tc .vmem S1x1024 .f32) (hb : b.IsWhole)
  (Y : Memref sig .tc .hbm S4096x1024 .f32) (hY : Y.IsWhole)
  (o : Memref sig .tc .vmem S256x1024 .f32) (ho : o.IsWhole) (B0 : Memref sig .tc .vmem S256x6400 .f32) (hB0 : B0.IsWhole)
  (B1 : Memref sig .tc .vmem S256x6400 .f32) (hB1 : B1.IsWhole) (s0 s1 : DmaSems sig S_)

/-- The steps of point `n`, the five tests of the body as propositions. -/
def mmOf (n : Fin 8) (c1 c2 c3 c4 c5 c6 : Prop) [Decidable c1] [Decidable c2] [Decidable c3] [Decidable c4] [Decidable c5]
    [Decidable c6] (h2 : c2 → n.val + 1 < 8) : Prog (TpuEff nD τ sig (Elt F) Λ₀ .tc) PUnit := do
  if _h : c1 then seqs (fire1 X B0 s0 off0 inb0) all else pure ⟨⟩
  if h : c2 then do
    if _h : c3 then seqs (fire1 X B1 s1 (offF n.val) (inbF n (h2 h))) all else pure ⟨⟩
    if _h : c4 then seqs (fire1 X B0 s0 (offF n.val) (inbF n (h2 h))) all else pure ⟨⟩
  else pure ⟨⟩
  if _h : c5 then do
    seqs (wait1 X B0 s0 (offD n.val) (inbD n)) all
    tail Wm b o B0
  else pure ⟨⟩
  if _h : c6 then do
    seqs (wait1 X B1 s1 (offD n.val) (inbD n)) all
    tail Wm b o B1
  else pure ⟨⟩

theorem cond2_lt : ∀ i : grid2.Coords, k2_cond2 i = 1#1 → (i 0).val + 1 < 8 := by decide +kernel

set_option maxRecDepth 65536 in
theorem cc2_skel_eq : cc2__mm_body_skel (F := F) i2 X hX Wm hW b hb o ho B0 hB0 B1 hB1 s0 s1
    = mmOf X Wm b o B0 B1 s0 s1 (i2 0) (Scalar.cmpi .ne (Scalar.extui (Scalar.cmpi .eq (BitVec.ofNat 32 (i2 0).val) 0#32)) 0#32 = 1#1)
        (k2_cond2 i2 = 1#1) (k2_cond3 i2 = 1#1) (k2_cond4 i2 = 1#1) (k2_cond5 i2 = 1#1) (k2_cond6 i2 = 1#1) (cond2_lt i2) := rfl

theorem cond2_lt3 : ∀ i : grid3.Coords, k3_cond2 i = 1#1 → (i 0).val + 1 < 8 := by decide +kernel

set_option maxRecDepth 65536 in
theorem cc3_skel_eq : cc3__mm_alias_body_skel (F := F) i3 X hX Wm hW b hb Y hY o ho B0 hB0 B1 hB1 s0 s1
    = mmOf X Wm b o B0 B1 s0 s1 (i3 0) (Scalar.cmpi .ne (Scalar.extui (Scalar.cmpi .eq (BitVec.ofNat 32 (i3 0).val) 0#32)) 0#32 = 1#1)
        (k3_cond2 i3 = 1#1) (k3_cond3 i3 = 1#1) (k3_cond4 i3 = 1#1) (k3_cond5 i3 = 1#1) (k3_cond6 i3 = 1#1) (cond2_lt3 i3) := rfl

/-- The steps of point `n`: the copies of block 0 before the first, those of block `n + 1` unless `n` is the last, then
    the waits for block `n` and its result. -/
def mmBody (n : Fin 8) : Prog (TpuEff nD τ sig (Elt F) Λ₀ .tc) PUnit := do
  if n.val = 0 then seqs (fire1 X B0 s0 off0 inb0) all else pure ⟨⟩
  if h : n.val + 1 < 8 then
    if n.val % 2 = 0 then seqs (fire1 X B1 s1 (offF n.val) (inbF n h)) all
    else seqs (fire1 X B0 s0 (offF n.val) (inbF n h)) all
  else pure ⟨⟩
  if n.val % 2 = 0 then do
    seqs (wait1 X B0 s0 (offD n.val) (inbD n)) all
    tail Wm b o B0
  else do
    seqs (wait1 X B1 s1 (offD n.val) (inbD n)) all
    tail Wm b o B1

/-- With the tests decided, the steps are those of `mmBody`. -/
theorem mmOf_eq (n : Fin 8) (c1 c2 c3 c4 c5 c6 : Prop) [Decidable c1] [Decidable c2] [Decidable c3] [Decidable c4] [Decidable c5]
    [Decidable c6] (h2 : c2 → n.val + 1 < 8) (e1 : c1 ↔ n.val = 0) (e2 : c2 ↔ n.val + 1 < 8) (e3 : c3 ↔ n.val % 2 = 0)
    (e4 : c4 ↔ n.val % 2 = 1) (e5 : c5 ↔ n.val % 2 = 0) (e6 : c6 ↔ n.val % 2 = 1) :
    mmOf (F := F) X Wm b o B0 B1 s0 s1 n c1 c2 c3 c4 c5 c6 h2 = mmBody X Wm b o B0 B1 s0 s1 n := by
  have hr : ∀ p : Prog (TpuEff nD τ sig (Elt F) Λ₀ .tc) PUnit, (p >>= fun _ => Prog.ret PUnit.unit) = p := fun p => bind_pure p
  rcases Nat.mod_two_eq_zero_or_one n.val with h | h
  · have h3 : c3 := e3.mpr h
    have h4 : ¬ c4 := by rw [e4]; omega
    have h5 : c5 := e5.mpr h
    have h6 : ¬ c6 := by rw [e6]; omega
    by_cases hz : n.val = 0 <;> by_cases hn : n.val + 1 < 8 <;>
      first
        | (exfalso; omega)
        | simp [mmOf, mmBody, hr, h, h3, h4, h5, h6, e1, e2, hz, hn]
  · have h3 : ¬ c3 := by rw [e3]; omega
    have h4 : c4 := e4.mpr h
    have h5 : ¬ c5 := by rw [e5]; omega
    have h6 : c6 := e6.mpr h
    by_cases hz : n.val = 0 <;> by_cases hn : n.val + 1 < 8 <;>
      first
        | (exfalso; omega)
        | simp [mmOf, mmBody, hr, h, h3, h4, h5, h6, e1, e2, hz, hn]

/-- The body of the first TensorCore call is `mmBody`. -/
theorem cc2_eq : cc2__mm_body (F := F) i2 X hX Wm hW b hb o ho B0 hB0 B1 hB1 s0 s1 = mmBody X Wm b o B0 B1 s0 s1 (i2 0) := by
  rw [cc2__mm_body_eq_skeleton, cc2_skel_eq]
  exact mmOf_eq X Wm b o B0 B1 s0 s1 (i2 0) _ _ _ _ _ _ _
    ((by decide +kernel : ∀ i : grid2.Coords, Scalar.cmpi .ne (Scalar.extui (Scalar.cmpi .eq (BitVec.ofNat 32 (i 0).val) 0#32)) 0#32 = 1#1 ↔ (i 0).val = 0) i2)
    ((by decide +kernel : ∀ i : grid2.Coords, k2_cond2 i = 1#1 ↔ (i 0).val + 1 < 8) i2)
    ((by decide +kernel : ∀ i : grid2.Coords, k2_cond3 i = 1#1 ↔ (i 0).val % 2 = 0) i2)
    ((by decide +kernel : ∀ i : grid2.Coords, k2_cond4 i = 1#1 ↔ (i 0).val % 2 = 1) i2)
    ((by decide +kernel : ∀ i : grid2.Coords, k2_cond5 i = 1#1 ↔ (i 0).val % 2 = 0) i2)
    ((by decide +kernel : ∀ i : grid2.Coords, k2_cond6 i = 1#1 ↔ (i 0).val % 2 = 1) i2)

/-- The body of the second TensorCore call is `mmBody`. -/
theorem cc3_eq : cc3__mm_alias_body (F := F) i3 X hX Wm hW b hb Y hY o ho B0 hB0 B1 hB1 s0 s1
    = mmBody X Wm b o B0 B1 s0 s1 (i3 0) := by
  rw [cc3__mm_alias_body_eq_skeleton, cc3_skel_eq]
  exact mmOf_eq X Wm b o B0 B1 s0 s1 (i3 0) _ _ _ _ _ _ _
    ((by decide +kernel : ∀ i : grid3.Coords, Scalar.cmpi .ne (Scalar.extui (Scalar.cmpi .eq (BitVec.ofNat 32 (i 0).val) 0#32)) 0#32 = 1#1 ↔ (i 0).val = 0) i3)
    ((by decide +kernel : ∀ i : grid3.Coords, k3_cond2 i = 1#1 ↔ (i 0).val + 1 < 8) i3)
    ((by decide +kernel : ∀ i : grid3.Coords, k3_cond3 i = 1#1 ↔ (i 0).val % 2 = 0) i3)
    ((by decide +kernel : ∀ i : grid3.Coords, k3_cond4 i = 1#1 ↔ (i 0).val % 2 = 1) i3)
    ((by decide +kernel : ∀ i : grid3.Coords, k3_cond5 i = 1#1 ↔ (i 0).val % 2 = 0) i3)
    ((by decide +kernel : ∀ i : grid3.Coords, k3_cond6 i = 1#1 ↔ (i 0).val % 2 = 1) i3)

end Cert.Proof.Mm
-- ==== Proof.Ghost.lean ====
/-
  The algebra the proof's ghost state lives in: the rounds of the SparseCore handshakes, the rounds of the two pipelines,
  and the counters of the transfers in flight; and the names the launch theorem uses for the program's parts.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds

/-- The handshakes' rounds. -/
abbrev UH : Type := URounds (GSem nD τ sig) ℕ
/-- The pipelines' rounds. -/
abbrev UP : Type := UR sig nD τ
/-- All of the ghost state: handshakes, pipelines, transfers. -/
abbrev UU : Type := UH × (UP × Counters)

/-- The machine's algebra over the floats `F`. -/
abbrev MM (F : FTy → Type) : Type := MT nD τ sig (HIx 2) (Elt F) ℕ UU ℕ

abbrev EH {F : FTy → Type} : Emb UH (MM F) := embL
abbrev EP {F : FTy → Type} : Emb UP (MM F) := (Emb.inl : Emb UP (UP × Counters)).trans embR
/-- The counters of transfers in flight. -/
abbrev EC {F : FTy → Type} : UEmb Counters (MM F) := countersEmb

variable {F : FTy → Type}

abbrev ΛP (F : FTy → Type) : Labels := Pipeline.Sig Λ₀ (Fin 2) fun p => (pcfgs (F := F) p).Adm
abbrev K : SparseCore.Cfg τ sig (ΛP F) 2 := sc (F := F)
abbrev D [FloatOps F] : Defs nD τ sig (Elt F) (ΛP F) := Pipeline.defs pcfgs defs₀
abbrev 𝒱₀ : Variants := Variants.none
abbrev 𝒱 : Variants := 𝒱₀.lift
abbrev v₀ : 𝒱.V := Sum.inl none

end Cert.Proof
-- ==== Proof.MmRun.lean ====
/-
  The run of one point of the TensorCore calls, with the contents it leaves.

  The fifty copies of block `n` into a buffer are one batch on one semaphore. `fires_sound` starts them, `waits_sound`
  waits for all of them and gives the buffer's fifty column groups back, holding block `n` of the gathered array side by
  side. `tail_sound` computes the block of the result.
-/
module

public import proofs.«01_k».proof.Proof.MmProg
public import proofs.«01_k».proof.Proof.Ghost
public import Idealize.ShloMosaic.Lib.Batch

@[expose] public section

noncomputable section

namespace Cert.Proof.Mm

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

/-- The window of copy `s` of block `n`: rows `256 n` to `256 n + 255` of slab `s`. -/
def blk (n : ℕ) (s : Fin 50) : Fin 3 → ℕ := ![s.val, 256 * n, 0]
def xn (X : Memref sig .tc .hbm S50x2048x128 .f32) (n : Fin 8) (s : Fin 50) : Memref sig .tc .hbm S256x128 .f32 :=
  xw X (blk n.val s) (inb_blk n.val n.isLt s)

theorem fire1_congr (X : Memref sig .tc .hbm S50x2048x128 .f32) (B : Memref sig .tc .vmem S256x6400 .f32) (sm : DmaSems sig S_)
    {o o' : Fin 50 → Fin 3 → ℕ} (e : o = o') (h : ∀ s a, o s a + S1x256x128.size a ≤ S50x2048x128.size a)
    (h' : ∀ s a, o' s a + S1x256x128.size a ≤ S50x2048x128.size a) :
    fire1 (F := F) X B sm o h = fire1 X B sm o' h' := by subst e; rfl

/-- The copies listed from `k` on begin with copy `k`. -/
theorem all_drop : ∀ k : Fin 50, all.drop k.val = k :: all.drop (k.val + 1) := by decide

variable (d : Dev nD) (X : Memref sig .tc .hbm S50x2048x128 .f32) (B : Memref sig .tc .vmem S256x6400 .f32) (sm : DmaSems sig S_)
  (fX : Buf (Elt F) (X.view.loc (d.tc : Thread nD τ)))

/-- Window `s` of block `n` of the gathered array. -/
abbrev xPt (n : Fin 8) (s : Fin 50) : sProp (MM F) :=
  (xn X n s).view.loc (d.tc : Thread nD τ) ↦[(xn X n s).view.set]{fullShare} fX
/-- Column group `s` of a buffer. -/
abbrev bPt (s : Fin 50) (f : Buf (Elt F) (B.view.loc (d.tc : Thread nD τ))) : sProp (MM F) :=
  (bw B s).view.loc (d.tc : Thread nD τ) ↦[(bw B s).view.set]{fullShare} f
/-- The credit of one copy. -/
abbrev unit1 : ℕ := (bw B 0).view.dmaCredit

/-- A buffer's contents hold block `n` side by side. -/
def Holds (n : Fin 8) (g : Buf (Elt F) (B.view.loc (d.tc : Thread nD τ))) : Prop :=
  ∀ s, (bw B s).view.read (Elt F) g = (xn X n s).view.read (Elt F) fX

/-- What copy `s` of block `n` delivers. -/
abbrev deliver (n : Fin 8) (g : Buf (Elt F) (B.view.loc (d.tc : Thread nD τ))) (s : Fin 50) : sProp (MM F) :=
  iprop(bPt d B s g ∗ xPt d X fX n s)

/-- The batch of block `n`, `k` copies started and `u` units waited for. -/
abbrev batch (n : Fin 8) (g : Buf (Elt F) (B.view.loc (d.tc : Thread nD τ))) (k u : ℕ) : sProp (MM F) :=
  Batch EC (d.tc : Thread nD τ) (.dma sm.sem) (none : HIx 2) (unit1 B) (deliver d X B fX n g) k u

/-- The thread owes nothing and its recorded waits lie in `P`. -/
abbrev owesIn (P : Set (SemLoc sig × HIx 2)) : sProp (MM F) := Pipeline.owesWithin d 0 P

abbrev wpM (p : Prog (TpuEff nD τ sig (Elt F) Λ₀ .tc) PUnit) (Q : PUnit → sProp (MM F)) : sProp (MM F) :=
  wp frame (wpE (defs₀ (F := F)) 𝒱₀ (d.tc : Thread nD τ) none) Set.univ p Q

omit [FloatOps F] in
/-- Two contents that a view reads alike are alike on the view's elements. -/
theorem pointsTo_of_read {sp : Space} {s : Shape} {e : EltTy} (v : View sig .tc sp s e) (q : PosShare TreeShare)
    {f g : Buf (Elt F) (v.loc (d.tc : Thread nD τ))} (h : v.read (Elt F) f = v.read (Elt F) g) :
    (v.loc (d.tc : Thread nD τ) ↦[v.set]{q} f : sProp (MM F)) = v.loc (d.tc : Thread nD τ) ↦[v.set]{q} g := by
  refine pointsTo_congr fun i hi => ?_
  obtain ⟨x, -, rfl⟩ := Finset.mem_map.mp hi
  have := congrFun h x
  rw [View.read_apply, View.read_apply] at this
  exact (cast_inj _).mp this

/-- Starting the copies from `k` on. -/
theorem fires_sound (n : Fin 8) (g : Buf (Elt F) (B.view.loc (d.tc : Thread nD τ))) (hg : Holds d X B fX n g)
    (h : ∀ s a, blk n.val s a + S1x256x128.size a ≤ S50x2048x128.size a) (m : ℕ) : ∀ k, k + m = 50 →
    iprop(bigSep (pending (n := 50) k) (fun s => iprop((∃ f, bPt d B s f) ∗ xPt d X fX n s)) ∗ batch d X B sm fX n g k 0)
      ⊢ wpM d (seqs (fire1 X B sm (fun s => blk n.val s) h) (all.drop k)) fun _ => batch d X B sm fX n g 50 0 := by
  induction m with
  | zero =>
    intro k hk
    obtain rfl : k = 50 := by omega
    unfold wpM
    rw [show all.drop 50 = [] from rfl, seqs, wp_pure]
    iintro ⟨-, Hb⟩
    imodintro
    iexact Hb
  | succ m ih =>
    intro k hk
    have hk' : k < 50 := by omega
    rw [show all.drop k = ⟨k, hk'⟩ :: all.drop (k + 1) from all_drop ⟨k, hk'⟩, seqs, bigSep_pending_step _ _ hk']
    iintro ⟨⟨⟨⟨%f, Hb⟩, Hx⟩, Hr⟩, HB⟩
    unfold fire1
    iapply (wp_dmaBatch EC 𝒱₀ (d.tc : Thread nD τ) none (src := xn X n ⟨k, hk'⟩) (dst := bw B ⟨k, hk'⟩) (sm := .dma sm.sem)
      (none : HIx 2) (unit1 B) rfl subset_rfl hk' (Nat.zero_le _) (fd := f) (fs := fX) (D := deliver d X B fX n g) ?hD) $$ [Hx Hb HB]
    case hD =>
      refine sep_mono (Entails.of_eq (pointsTo_of_read d (bw B ⟨k, hk'⟩).view fullShare ?_)) .rfl
      exact (View.read_write_univ (Val := Elt F) _ _).trans (hg ⟨k, hk'⟩).symm
    · isplitl [Hx]; · iexact Hx
      isplitl [Hb]; · iexact Hb
      iexact HB
    iintro HB
    iapply (ih (k + 1) (by omega)) $$ [Hr HB]
    isplitl [Hr] <;> iassumption

/-- Waiting for the copies from `k` on: after the last, everything delivered is at hand. -/
theorem waits_sound (n : Fin 8) (g : Buf (Elt F) (B.view.loc (d.tc : Thread nD τ))) (P : Set (SemLoc sig × HIx 2))
    (hP : ∀ s, (s, none) ∈ P) (o : Fin 50 → Fin 3 → ℕ)
    (h : ∀ s a, o s a + S1x256x128.size a ≤ S50x2048x128.size a) (m : ℕ) : ∀ k, k + (m + 1) = 50 →
    iprop(batch d X B sm fX n g 50 (unit1 B * k) ∗ owesIn d P)
      ⊢ wpM d (seqs (wait1 X B sm o h) (all.drop k)) fun _ =>
        iprop(bigSep Finset.univ (deliver d X B fX n g) ∗ semVal ((d.tc : Thread nD τ), .dma sm.sem) 0 ∗ owesIn d P) := by
  have hpos : 0 < unit1 B := View.dmaCredit_pos _ (by decide)
  have hins : ∀ W : Waits sig (HIx 2), (↑W : Set _) ⊆ P → (↑(insert (SemLoc.dma sm.sem, (none : HIx 2)) W) : Set _) ⊆ P := by
    intro W hW p hp
    rcases Finset.mem_insert.mp hp with rfl | hp
    · exact hP _
    · exact hW hp
  induction m with
  | zero =>
    intro k hk
    obtain rfl : k = 49 := by omega
    rw [show all.drop 49 = [49] from rfl, show seqs (F := F) (wait1 X B sm o h) [49] = wait1 X B sm o h 49 from bind_pure _]
    unfold wait1 owesIn Pipeline.owesWithin
    iintro ⟨HB, ⟨%W, %hW, HO⟩⟩
    iapply (wp_waitBatchLastO EC 𝒱₀ (d.tc : Thread nD τ) none (none : HIx 2) (srcw := xw X (o 49) (h 49)) (dstw := bw B 49) (n := 50)
      (D := deliver d X B fX n g) (N := unit1 B) rfl hpos (u := unit1 B * 49) (by rw [← Nat.mul_succ])) $$ [HB HO]
    · isplitl [HB]; · iexact HB
      isplitl [HO]; · iexact HO
      rw [MayWait_zero]; iempintro
    iintro ⟨HD, Hs, HO⟩
    rw [wp_ret]
    imodintro
    isplitl [HD]; · iexact HD
    isplitl [Hs]; · iexact Hs
    iexists _; isplitr
    swap; · iexact HO
    ipureintro; exact hins W hW
  | succ m ih =>
    intro k hk
    have hk' : k < 50 := by omega
    rw [show all.drop k = ⟨k, hk'⟩ :: all.drop (k + 1) from all_drop ⟨k, hk'⟩, seqs]
    unfold wait1 owesIn Pipeline.owesWithin
    iintro ⟨HB, ⟨%W, %hW, HO⟩⟩
    iapply (wp_waitBatchO EC 𝒱₀ (d.tc : Thread nD τ) none (none : HIx 2) (srcw := xw X (o ⟨k, hk'⟩) (h ⟨k, hk'⟩))
      (dstw := bw B ⟨k, hk'⟩) (n := 50) (D := deliver d X B fX n g) (N := unit1 B) rfl (u := unit1 B * k) (by rw [← Nat.mul_succ]; exact Nat.mul_lt_mul_of_pos_left (by omega) hpos)) $$ [HB HO]
    · isplitl [HB]; · iexact HB
      isplitl [HO]; · iexact HO
      rw [MayWait_zero]; iempintro
    iintro ⟨HB, HO⟩
    iapply (ih (k + 1) (by omega)) $$ [HB HO]
    isplitl [HB]; · iexact HB
    unfold owesIn Pipeline.owesWithin
    iexists _; isplitr
    swap; · iexact HO
    ipureintro; exact hins W hW

end Cert.Proof.Mm
-- ==== Proof.Windows.lean ====
/-
  A buffer cut into windows.

  When rectangles cut a shape into disjoint parts, owning what a view shows is owning what each of its windows shows.
-/
module

public import proofs.«01_k».proof.Proof.Ghost
public import Idealize.ShloMosaic.Lib.ViewIndex

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type}

/-- What a view shows is what its windows show together. -/
theorem set_slices {κ : Kind} {sp : Space} {s : Shape} {e : EltTy} (v : View sig κ sp s e) {T : Type} [Fintype T] [DecidableEq T]
    (r : T → Rect s) (hc : ∀ i, ∃ t, i ∈ (r t).set) : v.set = Finset.univ.biUnion fun t => (v.slice (r t)).set := by
  ext i
  rw [Finset.mem_biUnion]
  constructor
  · intro hi
    obtain ⟨x, -, rfl⟩ := Finset.mem_map.mp hi
    obtain ⟨t, ht⟩ := hc x
    exact ⟨t, Finset.mem_univ _, by rw [View.set_slice]; exact Finset.mem_map_of_mem _ ht⟩
  · rintro ⟨t, -, ht⟩
    exact View.set_slice_subset v _ ht

/-- Owning what a view shows is owning, of each part that the rectangles `r` cut its shape into, what the part shows. -/
theorem pointsTo_slices (c : Thread nD τ) {sp : Space} {s : Shape} {e : EltTy} (v : View sig c.2.kind sp s e) {T : Type} [Fintype T] [DecidableEq T]
    (r : T → Rect s) (hd : ∀ t t', t ≠ t' → Disjoint (r t).set (r t').set) (hc : ∀ i, ∃ t, i ∈ (r t).set)
    (q : PosShare TreeShare) (f : Buf (Elt F) (v.loc c)) :
    (v.loc c ↦[v.set]{q} f : sProp (MM F)) = bigSep Finset.univ fun t => v.loc c ↦[(v.slice (r t)).set]{q} f := by
  rw [set_slices v r hc]
  exact pointsTo_biUnion _ _ fun t _ t' _ h => View.disjoint_slice (hd t t' h)

/-- Windows at any contents make the whole at some contents. -/
theorem slices_join [∀ e, Nonempty (Elt F e)] (c : Thread nD τ) {sp : Space} {s : Shape} {e : EltTy} (v : View sig c.2.kind sp s e) {T : Type} [Fintype T] [DecidableEq T]
    (r : T → Rect s) (hd : ∀ t t', t ≠ t' → Disjoint (r t).set (r t').set) (hc : ∀ i, ∃ t, i ∈ (r t).set) (q : PosShare TreeShare) :
    (bigSep Finset.univ fun t => iprop(∃ f, v.loc c ↦[(v.slice (r t)).set]{q} f) : sProp (MM F)) ⊢ iprop(∃ f, v.loc c ↦[v.set]{q} f) := by
  haveI : ∀ t : T, Nonempty (Buf (Elt F) (v.loc c)) := fun _ => ⟨fun _ => Classical.choice inferInstance⟩
  have h : (bigSep Finset.univ fun t => iprop(∃ f, v.loc c ↦[(v.slice (r t)).set]{q} f) : sProp (MM F))
      ⊢ iprop(∃ y : T → Buf (Elt F) (v.loc c), bigSep Finset.univ fun t => v.loc c ↦[(v.slice (r t)).set]{q} y t) :=
    bigSep_exists_pi (Y := fun _ => Buf (Elt F) (v.loc c)) Finset.univ fun t f => v.loc c ↦[(v.slice (r t)).set]{q} f
  refine h.trans ?_
  rw [set_slices v r hc]
  iintro ⟨%y, H⟩
  ihave H' := (pointsTo_biUnion_join (ℓ := v.loc c) (q := q) Finset.univ (fun t => (v.slice (r t)).set) y (fun _ => Classical.choice inferInstance)
    fun t _ t' _ h => View.disjoint_slice (hd t t' h)) $$ H
  icases H' with ⟨%g, -, H⟩
  iexists g
  iexact H

end Cert.Proof
-- ==== Proof.MmPoint.lean ====
/-
  One point of the TensorCore calls, from its state before to its state after.

  Between points, block `n` is on its way into buffer `n mod 2`, the other buffer is free, and the rest of the gathered
  array is at home. `point_sound` says that point `n` takes the state before it to the state after it and leaves in the
  output's buffer the block of the result.
-/
module

public import proofs.«01_k».proof.Proof.MmRun
public import proofs.«01_k».proof.Proof.Windows
public import Idealize.ShloMosaic.Lib.Pipeline.Value

@[expose] public section

noncomputable section

namespace Cert.Proof.Mm

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore (bigSep_erase' bigSep_insert')
open Idealize.ShloMosaic.Rounds Idealize.ShloMosaic.Transfers
open Idealize.ShloMosaic.Tactic

variable {F : FTy → Type} [FloatOps F]

/-- The buffer of block `n`. -/
def par (n : ℕ) : Fin 2 := ⟨n % 2, Nat.mod_lt _ (by decide)⟩

theorem par_succ_ne (n : ℕ) : par n ≠ par (n + 1) := fun h => by
  have : n % 2 = (n + 1) % 2 := congrArg Fin.val h
  omega

theorem inbBlk (n : Fin 8) : ∀ s a, blk n.val s a + S1x256x128.size a ≤ S50x2048x128.size a := fun s => inb_blk n.val n.isLt s

section Prog
variable (X : Memref sig .tc .hbm S50x2048x128 .f32) (Wm : Memref sig .tc .vmem S1024x6400 .bf16) (b : Memref sig .tc .vmem S1x1024 .f32)
  (o : Memref sig .tc .vmem S256x1024 .f32) (B : Fin 2 → Memref sig .tc .vmem S256x6400 .f32) (sm : Fin 2 → DmaSems sig S_)

/-- The copies of block `n`. -/
def firesOf (n : Fin 8) : Prog (TpuEff nD τ sig (Elt F) Λ₀ .tc) PUnit :=
  seqs (fire1 X (B (par n)) (sm (par n)) (fun s => blk n.val s) (inbBlk n)) all

/-- Before point 0, the copies of block 0. -/
def firstOf (n : Fin 8) : Prog (TpuEff nD τ sig (Elt F) Λ₀ .tc) PUnit := if n.val = 0 then firesOf X B sm 0 else pure ⟨⟩
/-- At every point but the last, the copies of the next block. -/
def nextOf (n : Fin 8) : Prog (TpuEff nD τ sig (Elt F) Λ₀ .tc) PUnit :=
  if h : n.val + 1 < 8 then firesOf X B sm ⟨n.val + 1, h⟩ else pure ⟨⟩
/-- The waits for block `n`. -/
def waitsOf (n : Fin 8) : Prog (TpuEff nD τ sig (Elt F) Λ₀ .tc) PUnit :=
  seqs (wait1 X (B (par n)) (sm (par n)) (offD n.val) (inbD n)) all

/-- The body of point `n` with the buffers numbered. -/
theorem mmBody_eq (n : Fin 8) : mmBody (F := F) X Wm b o (B 0) (B 1) (sm 0) (sm 1) n =
    (firstOf X B sm n >>= fun _ => nextOf X B sm n >>= fun _ => waitsOf X B sm n >>= fun _ => tail Wm b o (B (par n))) := by
  have e0 : seqs (fire1 (F := F) X (B 0) (sm 0) off0 inb0) all = firesOf X B sm 0 := rfl
  have eF : ∀ (h : n.val + 1 < 8), offF n.val = blk (n.val + 1) := fun h => funext fun s => offF_eq n s
  rcases Nat.mod_two_eq_zero_or_one n.val with h | h
  · have p0 : par n = 0 := Fin.ext h
    have p1 : par (n.val + 1) = 1 := Fin.ext (by show (n.val + 1) % 2 = 1; omega)
    have e1 : ∀ hn : n.val + 1 < 8, seqs (fire1 (F := F) X (B 1) (sm 1) (offF n.val) (inbF n hn)) all = firesOf X B sm ⟨n.val + 1, hn⟩ := by
      intro hn
      rw [fire1_congr X (B 1) (sm 1) (eF hn) _ (inbBlk ⟨n.val + 1, hn⟩)]
      unfold firesOf; simp only [p1]
    by_cases hz : n.val = 0 <;> by_cases hn : n.val + 1 < 8 <;>
      first
        | (exfalso; omega)
        | simp [mmBody, firstOf, nextOf, waitsOf, e0, e1, h, p0, hz, hn, show par 0 = 0 from rfl]
  · have p0 : par n = 1 := Fin.ext h
    have p1 : par (n.val + 1) = 0 := Fin.ext (by show (n.val + 1) % 2 = 0; omega)
    have e1 : ∀ hn : n.val + 1 < 8, seqs (fire1 (F := F) X (B 0) (sm 0) (offF n.val) (inbF n hn)) all = firesOf X B sm ⟨n.val + 1, hn⟩ := by
      intro hn
      rw [fire1_congr X (B 0) (sm 0) (eF hn) _ (inbBlk ⟨n.val + 1, hn⟩)]
      unfold firesOf; simp only [p1]
    by_cases hz : n.val = 0 <;> by_cases hn : n.val + 1 < 8 <;>
      first
        | (exfalso; omega)
        | simp [mmBody, firstOf, nextOf, waitsOf, e0, e1, h, p0, hz, hn, show par 0 = 0 from rfl]

end Prog

variable (d : Dev nD) (X : Memref sig .tc .hbm S50x2048x128 .f32) (Wm : Memref sig .tc .vmem S1024x6400 .bf16) (b : Memref sig .tc .vmem S1x1024 .f32)
  (o : Memref sig .tc .vmem S256x1024 .f32) (B : Fin 2 → Memref sig .tc .vmem S256x6400 .f32) (sm : Fin 2 → DmaSems sig S_)
  (fX : Buf (Elt F) (X.view.loc (d.tc : Thread nD τ)))
  (g : (j : Fin 2) → Fin 8 → Buf (Elt F) ((B j).view.loc (d.tc : Thread nD τ)))

/-- The windows of block `n` of the gathered array. -/
def xBlk (n : Fin 8) : sProp (MM F) := bigSep Finset.univ fun s => xPt d X fX n s
/-- Buffer `j` free, its semaphore at zero. -/
def free (j : Fin 2) : sProp (MM F) :=
  iprop((bigSep Finset.univ fun s => iprop(∃ f, bPt d (B j) s f)) ∗ semVal ((d.tc : Thread nD τ), .dma (sm j).sem) 0)
/-- Block `n` on its way into buffer `j`. -/
def flying (j : Fin 2) (n : Fin 8) : sProp (MM F) := batch d X (B j) (sm j) fX n (g j n) 50 0

/-- The state before point `n`. -/
def Ph (n : ℕ) : sProp (MM F) :=
  if h : 0 < n ∧ n < 8 then
    iprop(flying d X B sm fX g (par n) ⟨n, h.2⟩ ∗ free d B sm (par (n + 1)) ∗ bigSep (Finset.univ.erase ⟨n, h.2⟩) (xBlk d X fX))
  else iprop(free d B sm 0 ∗ free d B sm 1 ∗ bigSep Finset.univ (xBlk d X fX))

variable (hg : ∀ j n, Holds d X (B j) fX n (g j n))

omit [FloatOps F] in
theorem pt_storable (ℓ : Loc nD τ sig) (I : Finset (Idx ℓ)) (q : PosShare TreeShare) (f : Buf (Elt F) ℓ) :
    Storable (upEmb : UEmb _ (MM F)) (ℓ ↦[I]{q} f) := inferInstance

omit [FloatOps F] in
theorem deliver_storable (B : Memref sig .tc .vmem S256x6400 .f32) (n : Fin 8) (g : Buf (Elt F) (B.view.loc (d.tc : Thread nD τ))) (s : Fin 50) :
    Storable (upEmb : UEmb _ (MM F)) (deliver d X B fX n g s) := by
  haveI : Storable (upEmb : UEmb _ (MM F)) (bPt d B s g) := pt_storable _ _ _ _
  haveI : Storable (upEmb : UEmb _ (MM F)) (xPt d X fX n s) := pt_storable _ _ _ _
  exact Storable.sep _ _ _

include hg in
/-- Starting block `n`'s copies into the free buffer. -/
theorem firesOf_sound (n : Fin 8) :
    iprop(free d B sm (par n) ∗ xBlk d X fX n) ⊢ wpM d (firesOf X B sm n) fun _ => flying d X B sm fX g (par n) n := by
  unfold free xBlk flying firesOf
  haveI : ∀ s, Storable (upEmb : UEmb _ (MM F)) (deliver d X (B (par n)) fX n (g (par n) n) s) := fun s => deliver_storable d X fX _ n _ s
  iintro ⟨⟨Hb, Hs⟩, Hx⟩
  iapply fupd_wp
  imod (batch_alloc' EC (c := (d.tc : Thread nD τ)) (none : HIx 2) (unit1 (B (par n))) (deliver d X (B (par n)) fX n (g (par n) n)) (E := Set.univ)) $$ Hs with HB
  imodintro
  iapply (fires_sound d X (B (par n)) (sm (par n)) fX n (g (par n) n) (hg _ n) (inbBlk n) 50 0 rfl) $$ [Hb Hx HB]
  isplitl [Hb Hx]
  · rw [← bigSep_pending_zero, bigSep_sep']
    isplitl [Hb] <;> iassumption
  · iexact HB

omit [FloatOps F] in
/-- A load of everything a view shows reads its contents. -/
theorem readAt_all {sp : Space} {s : Shape} {e : EltTy} (v : View sig .tc sp s e) (f : v.ty.Contents (Elt F)) {off : Fin s.rank → ℕ}
    (h : off = fun _ => 0) (inb : ∀ a, off a + s.size a ≤ s.size a) :
    v.readAt (Elt F) (Rect.unit off s.size inb).toLoadRect f = v.read (Elt F) f :=
  (View.readAt_eq_ld (Val := Elt F) v f (Rect.unit off s.size inb)).trans (View.ld_unit_zero h inb (v.read (Elt F) f))

omit [FloatOps F] in
/-- A store over everything a view shows leaves its payload there. -/
theorem read_write_all {sp : Space} {s : Shape} {e : EltTy} (v : View sig .tc sp s e) (f : v.ty.Contents (Elt F)) {off : Fin s.rank → ℕ}
    (h : off = fun _ => 0) (inb : ∀ a, off a + s.size a ≤ s.size a) (w : s.Idx → Elt F e) :
    v.read (Elt F) ((v.slice (Rect.unit off s.size inb)).write (Elt F) f w Finset.univ) = w := by
  subst h
  funext y
  have := View.read_slice_write_emb (Val := Elt F) (v := v) (Rect.unit (fun _ => 0) s.size inb) f w (Finset.mem_univ y)
  rwa [show (Rect.unit (fun _ => 0) s.size inb).emb y = y from Rect.emb_whole_apply _ y] at this

theorem z2 : (![0, 0] : Fin 2 → ℕ) = fun _ => 0 := by funext a; fin_cases a <;> rfl

/-- Everything a buffer shows, at contents `f`. -/
abbrev fullPt (B : Memref sig .tc .vmem S256x6400 .f32) (f : Buf (Elt F) (B.view.loc (d.tc : Thread nD τ))) : sProp (MM F) :=
  B.view.loc (d.tc : Thread nD τ) ↦[B.view.set]{fullShare} f

/-- The last steps of a point: from the buffer's block, the weights and the bias, the block of the result. -/
theorem tail_sound (B : Memref sig .tc .vmem S256x6400 .f32) (f : Buf (Elt F) (B.view.loc (d.tc : Thread nD τ)))
    (w : Vec F S1024x6400 .bf16) (bv : Vec F S1x1024 .f32) :
    iprop(owns (d.tc : Thread nD τ) Wm fullShare w ∗ owns (d.tc : Thread nD τ) b fullShare bv ∗ (∃ v, owns (d.tc : Thread nD τ) o fullShare v) ∗ fullPt d B f)
      ⊢ wpM d (tail Wm b o B) fun _ => iprop(owns (d.tc : Thread nD τ) Wm fullShare w ∗ owns (d.tc : Thread nD τ) b fullShare bv
          ∗ owns (d.tc : Thread nD τ) o fullShare (blockOf bv (B.view.read (Elt F) f) w) ∗ fullPt d B f) := by
  unfold tail wpM
  unfold owns
  iintro ⟨⟨%f0, %hf0, H0⟩, ⟨%f1, %hf1, H1⟩, ⟨%v2, %f2, -, H2⟩, H3⟩
  subst hf0 hf1
  sl_exec
  sl_step
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_write_all (s := S256x1024) (e := .f32) o.view _ z2 inb_S256x1024_S256x1024_0_0 _).trans ?_
    have e1 := readAt_all (F := F) (s := S1x1024) (e := .f32) b.view f1 z2 inb_S1x1024_S1x1024_0_0
    have e2 := readAt_all (F := F) (s := S256x6400) (e := .f32) B.view f z2 inb_S256x6400_S256x6400_0_0
    have e3 := readAt_all (F := F) (s := S1024x6400) (e := .bf16) Wm.view f0 z2 inb_S1024x6400_S1024x6400_0_0
    exact (congrArg₂ (fun x y => blockOf x y _) e1 e2).trans (congrArg (blockOf _ _) e3)
  · iexact H3

theorem cols_disjoint (s s' : Fin 50) (hs : s ≠ s') : Disjoint (Rect.unit (s := S256x6400) ![0, 128 * s.val] S256x128.size (inbB s)).set
    (Rect.unit (s := S256x6400) ![0, 128 * s'.val] S256x128.size (inbB s')).set := by
  rw [Finset.disjoint_left]
  intro i hi hi'
  have h1 := (Rect.mem_set_unit.mp hi) 1
  have h2 := (Rect.mem_set_unit.mp hi') 1
  have e1 : 128 * s.val ≤ (i 1).val ∧ (i 1).val < 128 * s.val + 128 := h1
  have e2 : 128 * s'.val ≤ (i 1).val ∧ (i 1).val < 128 * s'.val + 128 := h2
  exact hs (Fin.ext (by omega))

theorem cols_cover (i : S256x6400.Idx) : ∃ s : Fin 50, i ∈ (Rect.unit (s := S256x6400) ![0, 128 * s.val] S256x128.size (inbB s)).set := by
  have h0 : (i 0).val < 256 := (i 0).isLt
  have h1 : (i 1).val < 6400 := (i 1).isLt
  refine ⟨⟨(i 1).val / 128, by omega⟩, Rect.mem_set_unit.mpr fun a => ?_⟩
  fin_cases a
  · exact ⟨Nat.zero_le _, by show (i 0).val < 0 + 256; omega⟩
  · exact ⟨by show 128 * ((i 1).val / 128) ≤ (i 1).val; omega, by show (i 1).val < 128 * ((i 1).val / 128) + 128; omega⟩

omit [FloatOps F] in
/-- Everything a buffer shows is its fifty column groups. -/
theorem cols_eq (B : Memref sig .tc .vmem S256x6400 .f32) (f : Buf (Elt F) (B.view.loc (d.tc : Thread nD τ))) :
    fullPt d B f = bigSep Finset.univ fun s => bPt d B s f :=
  pointsTo_slices (F := F) (d.tc : Thread nD τ) B.view
    (fun s : Fin 50 => Rect.unit (s := S256x6400) ![0, 128 * s.val] S256x128.size (inbB s)) cols_disjoint cols_cover fullShare f

omit [FloatOps F] in
/-- A buffer at some contents, cut into its column groups, each at some contents. -/
theorem cols_of_full (B : Memref sig .tc .vmem S256x6400 .f32) :
    (iprop(∃ f, fullPt d B f) : sProp (MM F)) ⊢ bigSep Finset.univ fun s => iprop(∃ f, bPt d B s f) := by
  have h : ∀ f, (fullPt d B f : sProp (MM F)) ⊢ bigSep Finset.univ fun s => iprop(∃ f, bPt d B s f) := fun f => by
    rw [cols_eq]
    have h : ∀ s : Fin 50, (bPt d B s f : sProp (MM F)) ⊢ iprop(∃ f, bPt d B s f) := fun s => by
      iintro H
      iexists _
      iexact H
    exact bigSep_mono fun s _ => h s
  iintro ⟨%f, H⟩
  iapply (h f)
  iexact H

omit [FloatOps F] in
/-- The column groups, each at some contents, make the buffer at some contents. -/
theorem full_of_cols [∀ e, Nonempty (Elt F e)] (B : Memref sig .tc .vmem S256x6400 .f32) :
    (bigSep Finset.univ fun s => iprop(∃ f, bPt d B s f) : sProp (MM F)) ⊢ iprop(∃ f, fullPt d B f) :=
  slices_join (F := F) (d.tc : Thread nD τ) B.view
    (fun s : Fin 50 => Rect.unit (s := S256x6400) ![0, 128 * s.val] S256x128.size (inbB s)) cols_disjoint cols_cover fullShare

/-- Block `n` on its way, the other buffer free. -/
def stA (n : Fin 8) : sProp (MM F) :=
  iprop(flying d X B sm fX g (par n) n ∗ free d B sm (par (n.val + 1)) ∗ bigSep (Finset.univ.erase n) (xBlk d X fX))
/-- Block `n` on its way, the next one too unless `n` is the last. -/
def stB (n : Fin 8) : sProp (MM F) :=
  if h : n.val + 1 < 8 then
    iprop(flying d X B sm fX g (par n) n ∗ flying d X B sm fX g (par (n.val + 1)) ⟨n.val + 1, h⟩
      ∗ bigSep ((Finset.univ.erase n).erase ⟨n.val + 1, h⟩) (xBlk d X fX))
  else stA d X B sm fX g n

/-- What a program leaves alone goes around it. -/
theorem frameM {p : Prog (TpuEff nD τ sig (Elt F) Λ₀ .tc) PUnit} {P Q R : sProp (MM F)} (h : P ⊢ wpM d p fun _ => Q) :
    iprop(P ∗ R) ⊢ wpM d p fun _ => iprop(Q ∗ R) :=
  (sep_mono h .rfl).trans (wp_frame_r frame _ _)

/-- One program after another. -/
theorem seqM {p q : Prog (TpuEff nD τ sig (Elt F) Λ₀ .tc) PUnit} {P Q : sProp (MM F)} {R : PUnit → sProp (MM F)}
    (h : P ⊢ wpM d p fun _ => Q) (h' : Q ⊢ wpM d q R) : P ⊢ wpM d (p >>= fun _ => q) R := by
  unfold wpM at *
  rw [wp_bind]
  exact h.trans (wp_mono frame _ _ fun _ => h')

/-- A program with what it needs and what it leaves put in order. -/
theorem consM {p : Prog (TpuEff nD τ sig (Elt F) Λ₀ .tc) PUnit} {P P' Q Q' : sProp (MM F)} (hp : P ⊢ P') (h : P' ⊢ wpM d p fun _ => Q)
    (hq : Q ⊢ Q') : P ⊢ wpM d p fun _ => Q' :=
  hp.trans (h.trans (wp_mono frame _ _ fun _ => hq))

theorem doneM (P : sProp (MM F)) : P ⊢ wpM d (pure ⟨⟩) fun _ => P := by
  unfold wpM
  rw [wp_pure]
  iintro H
  imodintro
  iexact H

include hg in
theorem firstOf_sound (n : Fin 8) : Ph d X B sm fX g n.val ⊢ wpM d (firstOf X B sm n) fun _ => stA d X B sm fX g n := by
  by_cases hn : n.val = 0
  · obtain rfl : n = 0 := Fin.ext hn
    rw [show firstOf (F := F) X B sm 0 = firesOf X B sm 0 from if_pos rfl]
    refine consM d ?_ (frameM d (R := iprop(free d B sm 1 ∗ bigSep (Finset.univ.erase 0) (xBlk d X fX))) (firesOf_sound d X B sm fX g hg 0)) ?_
    · unfold Ph
      rw [dif_neg (by decide), bigSep_erase' (Finset.mem_univ (0 : Fin 8)), show par (0 : Fin 8).val = 0 from rfl]
      iintro ⟨H0, H1, Hx, Hr⟩
      isplitl [H0 Hx]
      · isplitl [H0] <;> iassumption
      · isplitl [H1] <;> iassumption
    · unfold stA
      exact .rfl
  · rw [show firstOf (F := F) X B sm n = pure ⟨⟩ from if_neg hn]
    refine consM d ?_ (doneM d _) .rfl
    unfold Ph stA
    rw [dif_pos ⟨by omega, n.isLt⟩]

include hg in
theorem nextOf_sound (n : Fin 8) : stA d X B sm fX g n ⊢ wpM d (nextOf X B sm n) fun _ => stB d X B sm fX g n := by
  by_cases hn : n.val + 1 < 8
  · rw [show nextOf (F := F) X B sm n = firesOf X B sm ⟨n.val + 1, hn⟩ from dif_pos hn]
    have hm : (⟨n.val + 1, hn⟩ : Fin 8) ∈ Finset.univ.erase n :=
      Finset.mem_erase.mpr ⟨fun h => by have := congrArg Fin.val h; simp at this, Finset.mem_univ _⟩
    refine consM d ?_ (frameM d (R := iprop(flying d X B sm fX g (par n) n ∗ bigSep ((Finset.univ.erase n).erase ⟨n.val + 1, hn⟩) (xBlk d X fX)))
      (firesOf_sound d X B sm fX g hg ⟨n.val + 1, hn⟩)) ?_
    · unfold stA
      rw [bigSep_erase' hm]
      iintro ⟨H0, H1, Hx, Hr⟩
      isplitl [H1 Hx]
      · isplitl [H1] <;> iassumption
      · isplitl [H0] <;> iassumption
    · unfold stB
      rw [dif_pos hn]
      iintro ⟨H1, H0, Hr⟩
      isplitl [H0]; · iexact H0
      isplitl [H1] <;> iassumption
  · rw [show nextOf (F := F) X B sm n = pure ⟨⟩ from dif_neg hn]
    refine consM d .rfl (doneM d _) ?_
    unfold stB
    rw [dif_neg hn]

variable (P : Set (SemLoc sig × HIx 2)) (hP : ∀ s, (s, none) ∈ P)

include hP in
theorem waitsOf_sound (n : Fin 8) : iprop(flying d X B sm fX g (par n) n ∗ owesIn d P) ⊢ wpM d (waitsOf X B sm n) fun _ =>
    iprop(fullPt d (B (par n)) (g (par n) n) ∗ xBlk d X fX n ∗ semVal ((d.tc : Thread nD τ), .dma (sm (par n)).sem) 0 ∗ owesIn d P) := by
  refine consM d ?_ (waits_sound d X (B (par n)) (sm (par n)) fX n (g (par n) n) P hP (offD n.val) (inbD n) 49 0 rfl) ?_
  · unfold flying
    rw [Nat.mul_zero]
  · rw [cols_eq, bigSep_sep']
    unfold xBlk
    iintro ⟨⟨H0, H1⟩, Hs, HO⟩
    isplitl [H0]; · iexact H0
    isplitl [H1]; · iexact H1
    isplitl [Hs] <;> iassumption

/-- What is on its way or free besides block `n`, before point `n`'s waits. -/
def rest (n : Fin 8) : sProp (MM F) :=
  if h : n.val + 1 < 8 then
    iprop(flying d X B sm fX g (par (n.val + 1)) ⟨n.val + 1, h⟩ ∗ bigSep ((Finset.univ.erase n).erase ⟨n.val + 1, h⟩) (xBlk d X fX))
  else iprop(free d B sm (par (n.val + 1)) ∗ bigSep (Finset.univ.erase n) (xBlk d X fX))

theorem stB_eq (n : Fin 8) : stB d X B sm fX g n = iprop(flying d X B sm fX g (par n) n ∗ rest d X B sm fX g n) := by
  by_cases hn : n.val + 1 < 8
  · unfold stB rest; rw [dif_pos hn, dif_pos hn]
  · unfold stB stA rest; rw [dif_neg hn, dif_neg hn]

/-- Buffer and windows of block `n` put back: the state before the next point. -/
theorem next_state (n : Fin 8) :
    iprop(fullPt d (B (par n)) (g (par n) n) ∗ xBlk d X fX n ∗ semVal ((d.tc : Thread nD τ), .dma (sm (par n)).sem) 0 ∗ rest d X B sm fX g n)
      ⊢ Ph d X B sm fX g (n.val + 1) := by
  have hfree : iprop(fullPt d (B (par n)) (g (par n) n) ∗ semVal ((d.tc : Thread nD τ), .dma (sm (par n)).sem) 0) ⊢ free d B sm (par n) := by
    unfold free
    rw [cols_eq]
    have h : ∀ s : Fin 50, (bPt d (B (par n)) s (g (par n) n) : sProp (MM F)) ⊢ iprop(∃ f, bPt d (B (par n)) s f) := fun s => by
      iintro H
      iexists _
      iexact H
    exact sep_mono (bigSep_mono fun s _ => h s) .rfl
  refine BIBase.Entails.trans (Q := iprop(free d B sm (par n) ∗ xBlk d X fX n ∗ rest d X B sm fX g n)) ?_ ?_
  · iintro ⟨H0, H1, Hs, Hr⟩
    isplitl [H0 Hs]
    · iapply hfree; isplitl [H0] <;> iassumption
    · isplitl [H1] <;> iassumption
  · by_cases hn : n.val + 1 < 8
    · unfold rest Ph
      have hm : n ∈ Finset.univ.erase (⟨n.val + 1, hn⟩ : Fin 8) :=
        Finset.mem_erase.mpr ⟨fun h => by have := congrArg Fin.val h; simp at this, Finset.mem_univ _⟩
      rw [dif_pos hn, dif_pos ⟨Nat.succ_pos _, hn⟩, bigSep_erase' hm, Finset.erase_right_comm,
        show par (n.val + 1 + 1) = par n from Fin.ext (by show (n.val + 1 + 1) % 2 = n.val % 2; omega)]
      iintro ⟨H0, H1, H2, H3⟩
      isplitl [H2]; · iexact H2
      isplitl [H0]; · iexact H0
      isplitl [H1] <;> iassumption
    · obtain rfl : n = 7 := Fin.ext (by have := n.isLt; show n.val = 7; omega)
      unfold rest Ph
      rw [dif_neg (by decide), dif_neg (by decide), bigSep_erase' (Finset.mem_univ (7 : Fin 8)), show par (7 : Fin 8).val = 1 from rfl,
        show par ((7 : Fin 8).val + 1) = 0 from rfl]
      iintro ⟨H0, H1, H2, H3⟩
      isplitl [H2]; · iexact H2
      isplitl [H0]; · iexact H0
      isplitl [H1] <;> iassumption

include hg hP in
/-- Point `n` takes the state before it to the state after it and leaves the block of the result in the output's buffer. -/
theorem point_sound (n : Fin 8) (w : Vec F S1024x6400 .bf16) (bv : Vec F S1x1024 .f32) :
    iprop(Ph d X B sm fX g n.val ∗ owesIn d P ∗ owns (d.tc : Thread nD τ) Wm fullShare w ∗ owns (d.tc : Thread nD τ) b fullShare bv
        ∗ (∃ v, owns (d.tc : Thread nD τ) o fullShare v))
      ⊢ wpM d (mmBody X Wm b o (B 0) (B 1) (sm 0) (sm 1) n) fun _ =>
        iprop(Ph d X B sm fX g (n.val + 1) ∗ owesIn d P ∗ owns (d.tc : Thread nD τ) Wm fullShare w ∗ owns (d.tc : Thread nD τ) b fullShare bv
          ∗ owns (d.tc : Thread nD τ) o fullShare (blockOf bv ((B (par n)).view.read (Elt F) (g (par n) n)) w)) := by
  rw [mmBody_eq]
  refine seqM d (frameM d (firstOf_sound d X B sm fX g hg n)) ?_
  refine seqM d (frameM d (nextOf_sound d X B sm fX g hg n)) ?_
  refine seqM d (consM d (P' := iprop((flying d X B sm fX g (par n) n ∗ owesIn d P) ∗ (rest d X B sm fX g n
    ∗ owns (d.tc : Thread nD τ) Wm fullShare w ∗ owns (d.tc : Thread nD τ) b fullShare bv
        ∗ (∃ v, owns (d.tc : Thread nD τ) o fullShare v)))) ?_ (frameM d (waitsOf_sound d X B sm fX g P hP n)) .rfl) ?_
  · rw [stB_eq]
    iintro ⟨⟨H0, H1⟩, HO, H2⟩
    isplitl [H0 HO]
    · isplitl [H0] <;> iassumption
    · isplitl [H1] <;> iassumption
  · refine consM d ?_ (frameM d (R := iprop(xBlk d X fX n ∗ semVal ((d.tc : Thread nD τ), .dma (sm (par n)).sem) 0 ∗ owesIn d P ∗ rest d X B sm fX g n))
      (tail_sound d Wm b o (B (par n)) (g (par n) n) w bv)) ?_
    · iintro ⟨⟨H0, H1, H2, H3⟩, H4, H5, H6, H7⟩
      isplitl [H0 H5 H6 H7]
      · isplitl [H5]; · iexact H5
        isplitl [H6]; · iexact H6
        isplitl [H7] <;> iassumption
      · isplitl [H1]; · iexact H1
        isplitl [H2]; · iexact H2
        isplitl [H3] <;> iassumption
    · iintro ⟨⟨H5, H6, H7, H0⟩, H1, H2, H3, H4⟩
      isplitl [H0 H1 H2 H4]
      · iapply (next_state d X B sm fX g n)
        isplitl [H0]; · iexact H0
        isplitl [H1]; · iexact H1
        isplitl [H2] <;> iassumption
      · isplitl [H3]; · iexact H3
        isplitl [H5]; · iexact H5
        isplitl [H6] <;> iassumption

end Cert.Proof.Mm
-- ==== Proof.MmMem.lean ====
/-
  The memory of the TensorCore calls.

  The gathered array is fifty slabs of 2048 rows of 128. Block `n` takes rows `256 n` to `256 n + 255` of every slab and
  lays them side by side; `flat` is that block, and the windows the copies read are the gathered array, cut up.
-/
module

public import proofs.«01_k».proof.Proof.MmPoint
public import Idealize.ShloMosaic.Lib.ValueLayout

@[expose] public section

noncomputable section

namespace Cert.Proof.Mm

open Cert.KernelIdeal Cert.KernelIdeal.Gen
open Idealize.ShloMosaic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Block `n` of the gathered array: its rows of the fifty slabs side by side. -/
def flat {α : Type} (x : S50x2048x128.Idx → α) (n : Fin 8) : S256x6400.Idx → α := fun i =>
  x (ix3 (⟨(i 1).val / 128, by have : (i 1).val < 6400 := (i 1).isLt; omega⟩ : Fin 50)
    (⟨256 * n.val + (i 0).val, by have : (i 0).val < 256 := (i 0).isLt; have := n.isLt; omega⟩ : Fin 2048)
    (⟨(i 1).val % 128, Nat.mod_lt _ (by decide)⟩ : Fin 128))

variable (d : Dev nD) (X : Memref sig .tc .hbm S50x2048x128 .f32) (B : Memref sig .tc .vmem S256x6400 .f32)
  (fX : Buf (Elt F) (X.view.loc (d.tc : Thread nD τ))) (g : Buf (Elt F) (B.view.loc (d.tc : Thread nD τ)))

omit [FloatOps F] in
/-- A buffer that reads as block `n` holds block `n`. -/
theorem holds_of_read (n : Fin 8) (h : B.view.read (Elt F) g = flat (X.view.read (Elt F) fX) n) : Holds d X B fX n g := by
  intro s
  funext y
  have hy0 : (y 0).val < 256 := (y 0).isLt
  have hy1 : (y 1).val < 128 := (y 1).isLt
  have hl : (bw B s).view.read (Elt F) g y
      = B.view.read (Elt F) g ((Rect.unit (s := S256x6400) ![0, 128 * s.val] S256x128.size (inbB s)).emb y) := rfl
  have hr : (xn X n s).view.read (Elt F) fX y = X.view.read (Elt F) fX ((Rect.unit (s := S50x2048x128) (blk n.val s) S1x256x128.size
      (inb_blk n.val n.isLt s)).emb (Shape.reshapeEquiv (s := S1x256x128) (s' := S256x128) (by decide) y)) := rfl
  have hq : Shape.reshapeEquiv (s := S1x256x128) (s' := S256x128) (by decide) y = ix3 (⟨0, Nat.one_pos⟩ : Fin 1) (y 0 : Fin 256) (y 1 : Fin 128) :=
    (congrArg _ (eq_ix2 y)).trans (reshapeEquiv_ix2_1ab _ _ _)
  refine hl.trans ((congrFun h _).trans (Eq.trans ?_ (hr.trans (congrArg (fun z => X.view.read (Elt F) fX
    ((Rect.unit (s := S50x2048x128) (blk n.val s) S1x256x128.size (inb_blk n.val n.isLt s)).emb z)) hq)).symm))
  unfold flat
  refine congrArg _ (Shape.idx3_ext ?_ ?_ ?_)
  · show (128 * s.val + 1 * (y 1).val) / 128 = s.val + 1 * 0
    omega
  · show 256 * n.val + (0 + 1 * (y 0).val) = 256 * n.val + 1 * (y 0).val
    omega
  · show (128 * s.val + 1 * (y 1).val) % 128 = 0 + 1 * (y 1).val
    omega

omit [FloatOps F] in
/-- The gathered array is its windows, block by block. -/
theorem xAll_eq : (X.view.loc (d.tc : Thread nD τ) ↦[X.view.set]{fullShare} fX : sProp (MM F)) = bigSep Finset.univ (xBlk d X fX) := by
  have h := pointsTo_slices (F := F) (d.tc : Thread nD τ) X.view
    (fun t : Fin 8 × Fin 50 => Rect.unit (s := S50x2048x128) (blk t.1.val t.2) S1x256x128.size (inb_blk t.1.val t.1.isLt t.2)) ?_ ?_ fullShare fX
  · rw [h, BI.bigSep_univ_prod]
    refine BI.bigSep_congr fun n _ => BI.bigSep_congr fun s _ => ?_
    show _ = (X.view.loc (d.tc : Thread nD τ) ↦[(xn X n s).view.set]{fullShare} fX : sProp (MM F))
    rw [show (xn X n s).view.set = (X.view.slice (Rect.unit (s := S50x2048x128) (blk n.val s) S1x256x128.size (inb_blk n.val n.isLt s))).set
      from View.set_reshape _ _]
  · intro t t' ht
    rw [Finset.disjoint_left]
    intro i hi hi'
    have a0 : t.2.val ≤ (i 0).val ∧ (i 0).val < t.2.val + 1 := (Rect.mem_set_unit.mp hi) 0
    have b0 : t'.2.val ≤ (i 0).val ∧ (i 0).val < t'.2.val + 1 := (Rect.mem_set_unit.mp hi') 0
    have a1 : 256 * t.1.val ≤ (i 1).val ∧ (i 1).val < 256 * t.1.val + 256 := (Rect.mem_set_unit.mp hi) 1
    have b1 : 256 * t'.1.val ≤ (i 1).val ∧ (i 1).val < 256 * t'.1.val + 256 := (Rect.mem_set_unit.mp hi') 1
    exact ht (Prod.ext (Fin.ext (by omega)) (Fin.ext (by omega)))
  · intro i
    have h0 : (i 0).val < 50 := (i 0).isLt
    have h1 : (i 1).val < 2048 := (i 1).isLt
    have h2 : (i 2).val < 128 := (i 2).isLt
    refine ⟨(⟨(i 1).val / 256, by omega⟩, ⟨(i 0).val, h0⟩), Rect.mem_set_unit.mpr fun a => ?_⟩
    fin_cases a
    · exact ⟨le_rfl, by show (i 0).val < (i 0).val + 1; omega⟩
    · exact ⟨by show 256 * ((i 1).val / 256) ≤ (i 1).val; omega, by show (i 1).val < 256 * ((i 1).val / 256) + 256; omega⟩
    · exact ⟨Nat.zero_le _, by show (i 2).val < 0 + 128; omega⟩

end Cert.Proof.Mm
-- ==== Proof.TcRegion0.lean ====
/-
  The first TensorCore call.

  The call runs eight points over the gathered array of the first half. Its proof data say what every window holds at
  every point and carry the state of the copies from point to point; the region takes the arrays in and gives them back,
  the output's blocks written.
-/
module

public import proofs.«01_k».proof.Proof.MmMem
public import proofs.«01_k».proof.Proof.Gen.KernelIdeal.Launch
public import proofs.«01_k».proof.Proof.Gen.KernelIdeal.Points
public import Idealize.ShloMosaic.Lib.Pipeline.Regions

@[expose] public section

set_option maxRecDepth 16384

noncomputable section

namespace Cert.Proof.Tc0

open Cert.KernelIdeal Cert.KernelIdeal.Gen Cert.Proof.Mm
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore (bigSep_erase' bigSep_insert')
open Idealize.ShloMosaic.Rounds Idealize.ShloMosaic.Transfers
open Idealize.ShloMosaic.Pipeline (Dat BodyObligation BodyObligationLoose)

variable {F : FTy → Type} [FloatOps F]

/-- The arrays the call reads, and what the output holds before it. -/
structure Vals (F : FTy → Type) where
  x : S50x2048x128.Idx → Elt F .f32
  w : S1024x6400.Idx → Elt F .bf16
  b : S1x1024.Idx → Elt F .f32
  y : S4096x1024.Idx → Elt F .f32

abbrev X : Memref sig .tc .hbm S50x2048x128 .f32 := Memref.whole main_v6
abbrev B : Fin 2 → Memref sig .tc .vmem S256x6400 .f32 := ![Memref.whole cc2_scratch0, Memref.whole cc2_scratch1]
abbrev sm : Fin 2 → DmaSems sig S_ := ![cc2_scratch2, cc2_scratch3]

variable (v : Vals F) (d : Dev nD)

/-- The gathered array's contents. -/
def fX : Buf (Elt F) (X.view.loc (d.tc : Thread nD τ)) := v.x

/-- What block `n` leaves in buffer `j`. -/
def g (j : Fin 2) (n : Fin 8) : Buf (Elt F) ((B j).view.loc (d.tc : Thread nD τ)) :=
  match j with
  | 0 => flat v.x n
  | 1 => flat v.x n

omit [FloatOps F] in
theorem read_g (j : Fin 2) (n : Fin 8) : (B j).view.read (Elt F) (g v d j n) = flat v.x n :=
  match j with
  | 0 => rfl
  | 1 => rfl

omit [FloatOps F] in
theorem hg (j : Fin 2) (n : Fin 8) : Holds d X (B j) (fX v d) n (g v d j n) := holds_of_read d X (B j) (fX v d) (g v d j n) n (read_g v d j n)

/-- The recorded waits a TensorCore may have at this time: none above the handshakes of the two SparseCore calls. -/
def recd : Set (SemLoc sig × HIx 2) := {p | (K (F := F)).lev ((d.tc : Thread nD τ), p.1) p.2 ≤ 16}

/-- The other call's buffers, untouched. -/
def others : sProp (MM F) :=
  iprop((∃ f, ((d.tc : Thread nD τ).loc cc3_stg0_0) ↦{fullShare} f) ∗ (∃ f, ((d.tc : Thread nD τ).loc cc3_stg1_0) ↦{fullShare} f)
    ∗ (∃ f, ((d.tc : Thread nD τ).loc cc3_stg2_0) ↦{fullShare} f) ∗ (∃ f, ((d.tc : Thread nD τ).loc cc3_stg2_1) ↦{fullShare} f)
    ∗ (∃ f, ((d.tc : Thread nD τ).loc cc3_scratch0) ↦{fullShare} f) ∗ (∃ f, ((d.tc : Thread nD τ).loc cc3_scratch1) ↦{fullShare} f))

/-- The block that point `t` computes, -/
def pt (t : Fin cfg2.N) : Fin 8 := grid2.coords t 0

/-- which is the point's own number. -/
theorem pt_val (t : Fin cfg2.N) : (pt t).val = t.val := (by decide : ∀ t : Fin grid2.N, (grid2.coords t 0).val = t.val) t

/-- The proof data of the call. -/
def dat : Dat τ (Elt F) (HIx 2) ℕ UU ℕ cfg2 d where
  A w := match w with
    | ⟨0, _⟩ => v.w
    | ⟨1, _⟩ => v.b
    | ⟨2, _⟩ => v.y
  after w t := match w with
    | ⟨0, _⟩ => v.w
    | ⟨1, _⟩ => v.b
    | ⟨2, _⟩ => blockOf v.b (flat v.x (pt t)) v.w
  Φ t := iprop(Ph d X B sm (fX v d) (g v d) t.val ∗ others d)
  q _ := fullShare
  owed _ := 0
  recorded _ := recd (F := F) d

theorem Phi (t : Fin (cfg2.N + 1)) : (dat v d).Φ t = iprop(Ph d X B sm (fX v d) (g v d) t.val ∗ others d) := by dsimp only [dat]
theorem A0 : (dat v d).A 0 = v.w := by dsimp only [dat]
theorem A1 : (dat v d).A 1 = v.b := by dsimp only [dat]
theorem A2 : (dat v d).A 2 = v.y := by dsimp only [dat]
theorem after0 (t : Fin cfg2.N) : (dat v d).after 0 t = v.w := by dsimp only [dat]
theorem after1 (t : Fin cfg2.N) : (dat v d).after 1 t = v.b := by dsimp only [dat]
theorem after2 (t : Fin cfg2.N) : (dat v d).after 2 t = blockOf v.b (flat v.x (pt t)) v.w := by dsimp only [dat]

/-- The weights' and the bias's windows are the whole arrays. -/
theorem blk0 (t : Fin cfg2.N) : ((cfg2.win 0).blk t).view.read (Elt F) v.w = v.w :=
  Memref.read_access_unit_zero (Elt F) main_v0 (funext fun a => by fin_cases a <;> rfl) _ v.w
theorem blk1 (t : Fin cfg2.N) : ((cfg2.win 1).blk t).view.read (Elt F) v.b = v.b :=
  Memref.read_access_unit_zero (Elt F) main_v1 (funext fun a => by fin_cases a <;> rfl) _ v.b

theorem before0 (t : Fin cfg2.N) (e) : (dat v d).before 0 t e = v.w :=
  ((dat v d).before_in_eq_fetched 0 rfl (fun _ => rfl) (fun _ _ _ => rfl) (fun t => by rw [after0]; unfold Dat.blockOf; rw [A0]; exact (blk0 v t).symm) t e).trans
    (by unfold Dat.fetched Dat.blockOf; rw [A0]; exact blk0 v t)
theorem before1 (t : Fin cfg2.N) (e) : (dat v d).before 1 t e = v.b :=
  ((dat v d).before_in_eq_fetched 1 rfl (fun _ => rfl) (fun _ _ _ => rfl) (fun t => by rw [after1]; unfold Dat.blockOf; rw [A1]; exact (blk1 v t).symm) t e).trans
    (by unfold Dat.fetched Dat.blockOf; rw [A1]; exact blk1 v t)

theorem row (t : Fin cfg2.N) : defs₀ (F := F) .tc cfg2.body (cfg2.bodyArgs t (cfg2.slots t)) = bodyAt2 t := rfl

/-- What the body is called with at point `t`, -/
def bodyPre (t : Fin cfg2.N) : sProp (MM F) :=
  iprop((dat v d).Φ t.castSucc ∗ (dat v d).owesAt none t.castSucc
    ∗ (∃ e, owns (d.tc : Thread nD τ) (st2_0 t) fullShare ((dat v d).before 0 t e))
    ∗ (∃ e, owns (d.tc : Thread nD τ) (st2_1 t) fullShare ((dat v d).before 1 t e))
    ∗ (∃ e, owns (d.tc : Thread nD τ) (st2_2 t) fullShare ((dat v d).before 2 t e)))

/-- and what it returns. -/
def bodyPost (t : Fin cfg2.N) : sProp (MM F) :=
  iprop((dat v d).Φ t.succ ∗ (dat v d).owesAt none t.succ
    ∗ owns (d.tc : Thread nD τ) (st2_0 t) fullShare ((dat v d).after 0 t)
    ∗ owns (d.tc : Thread nD τ) (st2_1 t) fullShare ((dat v d).after 1 t)
    ∗ owns (d.tc : Thread nD τ) (st2_2 t) fullShare ((dat v d).after 2 t))

/-- Every pair of a semaphore and no launch lies within the bound. -/
theorem mem_bound (s : SemLoc sig) : (s, (none : HIx 2)) ∈ (recd (F := F) d ∪ cfg2.waitPairs none) := Or.inl (Nat.zero_le _)

/-- The body at a point. -/
theorem sound_body (t : Fin cfg2.N) : bodyPre v d t ⊢ wp frame (wpE (defs₀ (F := F)) Variants.none (d.tc : Thread nD τ) none) Set.univ (bodyAt2 t) fun _ => bodyPost v d t := by
  unfold bodyPre bodyPost bodyAt2
  simp only [before0, before1, after0, after1, after2, Phi, Fin.val_castSucc, Fin.val_succ]
  rw [cc2_eq]
  have key := point_sound d X (st2_0 t) (st2_1 t) (st2_2 t) B sm (fX v d) (g v d) (hg v d) _ (mem_bound (F := F) d) (pt t) v.w v.b
  rw [read_g, pt_val] at key
  unfold wpM at key
  iintro ⟨⟨HP, HR⟩, HO, ⟨%e0, H0⟩, ⟨%e1, H1⟩, ⟨%e2, H2⟩⟩
  iapply (wp_wand_r frame _ _)
  isplitr [HR]
  · iapply key
    isplitl [HP]; · iexact HP
    isplitl [HO]; · iexact HO
    isplitl [H0]; · iexact H0
    isplitl [H1]; · iexact H1
    iexists _; iexact H2
  · iintro %u ⟨HP, HO, H0, H1, H2⟩
    isplitl [HP HR]
    · isplitl [HP] <;> iassumption
    isplitl [HO]; · iexact HO
    isplitl [H0]; · iexact H0
    isplitl [H1]; · iexact H1
    iexact H2

theorem leaves2 (t : Fin cfg2.N) : (dat v d).leavesExact 2 t = owns (d.tc : Thread nD τ) (st2_2 t) fullShare ((dat v d).after 2 t) := by
  unfold Dat.leavesExact
  rw [flush2_2 t]
  cases cfg2.idle 2 (cfg2.grid.coords t) <;> rfl

theorem bodyPost_eq (t : Fin cfg2.N) : bodyPost v d t = iprop((dat v d).Φ t.succ ∗ (dat v d).owesAt none t.succ
    ∗ (dat v d).leavesExact 0 t ∗ (dat v d).leavesExact 1 t ∗ (dat v d).leavesExact 2 t) := by
  rw [leaves2]; rfl

/-- The library's body obligation, at every point. -/
theorem body_obligation : BodyObligation (dat v d) (defs₀ (F := F)) Variants.none none Set.univ := fun t => by
  rw [bigSep_W2, bigSep_W2, row]
  have h := sound_body v d t
  simp only [bodyPost_eq] at h
  exact h

/-! ## Into the loop and out of it -/

/-- The two semaphores the call counts its copies on. -/
abbrev osem : Fin 2 → SemLoc sig := fun j => (![SemLoc.dma 22, SemLoc.dma 23] : Fin 2 → SemLoc sig) j
theorem ownSemFacts : Pipeline.OwnSemFacts spec2 osem := by decide
theorem ownSems_eq : (Pipeline.ownSems0 (Ix := HIx 2) (Name := ℕ) (U := UU) (Lvl := ℕ) (Val := Elt F) (τ := τ) osem d : sProp (MM F))
    = iprop(semVal ((d.tc : Thread nD τ), .dma (sm 0).sem) 0 ∗ semVal ((d.tc : Thread nD τ), .dma (sm 1).sem) 0) := by
  rw [Pipeline.ownSems0_eq_of_list d osem [0, 1] (by decide) (by decide)]; rfl

/-- A whole buffer at given contents. -/
def whole (b : Ref sig .tc) (f : Buf (Elt F) ((d.tc : Thread nD τ).loc b)) : sProp (MM F) := ((d.tc : Thread nD τ).loc b) ↦{fullShare} f

/-- What the output holds after the call. -/
def out : S4096x1024.Idx → Elt F .f32 := (dat v d).arrAt 2 cfg2.N

/-- The state the call is entered from, but for the core's debts: the arrays, -/
def pre : sProp (MM F) := iprop(whole d main_v6 v.x ∗ whole d main_v0 v.w ∗ whole d main_v1 v.b ∗ whole d main_v12 v.y)
/-- and the one it leaves: the same, the output at `out`. -/
def post : sProp (MM F) := iprop(whole d main_v6 v.x ∗ whole d main_v0 v.w ∗ whole d main_v1 v.b ∗ whole d main_v12 (out v d))

theorem Ph_zero : Ph d X B sm (fX v d) (g v d) 0 = iprop(free d B sm 0 ∗ free d B sm 1 ∗ bigSep Finset.univ (xBlk d X (fX v d))) := by
  unfold Ph; rw [dif_neg (by decide)]
theorem Ph_last : Ph d X B sm (fX v d) (g v d) 8 = iprop(free d B sm 0 ∗ free d B sm 1 ∗ bigSep Finset.univ (xBlk d X (fX v d))) := by
  unfold Ph; rw [dif_neg (by decide)]

theorem xs_eq : bigSep Finset.univ (xBlk d X (fX v d)) = (whole d main_v6 v.x : sProp (MM F)) :=
  (xAll_eq d X (fX v d)).symm.trans (by rw [View.set_whole]; rfl)

omit [FloatOps F] in
theorem full_eq0 (f : Buf (Elt F) ((d.tc : Thread nD τ).loc cc2_scratch0)) : fullPt d (B 0) f = (((d.tc : Thread nD τ).loc cc2_scratch0) ↦{fullShare} f : sProp (MM F)) := by
  show ((B 0).view.loc (d.tc : Thread nD τ) ↦[(View.whole cc2_scratch0).set]{fullShare} f : sProp (MM F)) = _
  rw [View.set_whole]; rfl
omit [FloatOps F] in
theorem full_eq1 (f : Buf (Elt F) ((d.tc : Thread nD τ).loc cc2_scratch1)) : fullPt d (B 1) f = (((d.tc : Thread nD τ).loc cc2_scratch1) ↦{fullShare} f : sProp (MM F)) := by
  show ((B 1).view.loc (d.tc : Thread nD τ) ↦[(View.whole cc2_scratch1).set]{fullShare} f : sProp (MM F)) = _
  rw [View.set_whole]; rfl

/-- Into the loop: the scratch buffers and the semaphores are free, the gathered array at home. -/
theorem hin : iprop((whole d main_v6 v.x ∗ Pipeline.ownSems0 osem d) ∗ emp ∗ Pipeline.scopedRest spec2 d) ⊢ (dat v d).Φ 0 := by
  rw [Phi, show ((0 : Fin (cfg2.N + 1)).val) = 0 from rfl, Ph_zero, ownSems_eq, scopedRest2_eq, xs_eq]
  unfold free others
  iintro ⟨⟨Hx, Hs0, Hs1⟩, -, H0, H1, Hr⟩
  isplitr [Hr]
  · isplitl [H0 Hs0]
    · isplitl [H0]
      · iapply (cols_of_full d (B 0)); icases H0 with ⟨%f, H⟩; iexists f; rw [full_eq0]; iexact H
      iexact Hs0
    isplitl [H1 Hs1]
    · isplitl [H1]
      · iapply (cols_of_full d (B 1)); icases H1 with ⟨%f, H⟩; iexists f; rw [full_eq1]; iexact H
      iexact Hs1
    iexact Hx
  iexact Hr

/-- Out of it: the same back. -/
theorem hout [∀ e, Nonempty (Elt F e)] : (dat v d).Φ (Fin.last cfg2.N) ⊢ iprop(whole d main_v6 v.x ∗ Pipeline.ownSems0 osem d ∗ Pipeline.scopedRest spec2 d) := by
  rw [Phi, show ((Fin.last cfg2.N : Fin (cfg2.N + 1)).val) = 8 from rfl, Ph_last, ownSems_eq, scopedRest2_eq, xs_eq]
  unfold free others
  iintro ⟨⟨⟨H0, Hs0⟩, ⟨H1, Hs1⟩, Hx⟩, Hr⟩
  isplitl [Hx]; · iexact Hx
  isplitl [Hs0 Hs1]
  · isplitl [Hs0] <;> iassumption
  isplitl [H0]
  · ihave H := (full_of_cols d (B 0)) $$ H0; icases H with ⟨%f, H⟩; iexists f; iapply (BIBase.Entails.of_eq (full_eq0 d f)); iexact H
  isplitl [H1]
  · ihave H := (full_of_cols d (B 1)) $$ H1; icases H with ⟨%f, H⟩; iexists f; iapply (BIBase.Entails.of_eq (full_eq1 d f)); iexact H
  iexact Hr

end Cert.Proof.Tc0
-- ==== Proof.TcRegion1.lean ====
/-
  The second TensorCore call.

  The call runs eight points over the gathered array of the second half. Its proof data say what every window holds at
  every point and carry the state of the copies from point to point; the region takes the arrays in and gives them back,
  the output's blocks written.
-/
module

public import proofs.«01_k».proof.Proof.MmMem
public import proofs.«01_k».proof.Proof.Gen.KernelIdeal.Launch
public import proofs.«01_k».proof.Proof.Gen.KernelIdeal.Points
public import Idealize.ShloMosaic.Lib.Pipeline.Regions

@[expose] public section

set_option maxRecDepth 16384

noncomputable section

namespace Cert.Proof.Tc1

open Cert.KernelIdeal Cert.KernelIdeal.Gen Cert.Proof.Mm
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore (bigSep_erase' bigSep_insert')
open Idealize.ShloMosaic.Rounds Idealize.ShloMosaic.Transfers
open Idealize.ShloMosaic.Pipeline (Dat BodyObligation BodyObligationLoose)

variable {F : FTy → Type} [FloatOps F]

/-- The arrays the call reads, and what the output holds before it. -/
structure Vals (F : FTy → Type) where
  x : S50x2048x128.Idx → Elt F .f32
  w : S1024x6400.Idx → Elt F .bf16
  b : S1x1024.Idx → Elt F .f32
  y : S4096x1024.Idx → Elt F .f32

abbrev X : Memref sig .tc .hbm S50x2048x128 .f32 := Memref.whole main_v11
abbrev B : Fin 2 → Memref sig .tc .vmem S256x6400 .f32 := ![Memref.whole cc3_scratch0, Memref.whole cc3_scratch1]
abbrev sm : Fin 2 → DmaSems sig S_ := ![cc3_scratch2, cc3_scratch3]

variable (v : Vals F) (d : Dev nD)

/-- The gathered array's contents. -/
def fX : Buf (Elt F) (X.view.loc (d.tc : Thread nD τ)) := v.x

/-- What block `n` leaves in buffer `j`. -/
def g (j : Fin 2) (n : Fin 8) : Buf (Elt F) ((B j).view.loc (d.tc : Thread nD τ)) :=
  match j with
  | 0 => flat v.x n
  | 1 => flat v.x n

omit [FloatOps F] in
theorem read_g (j : Fin 2) (n : Fin 8) : (B j).view.read (Elt F) (g v d j n) = flat v.x n :=
  match j with
  | 0 => rfl
  | 1 => rfl

omit [FloatOps F] in
theorem hg (j : Fin 2) (n : Fin 8) : Holds d X (B j) (fX v d) n (g v d j n) := holds_of_read d X (B j) (fX v d) (g v d j n) n (read_g v d j n)

/-- The recorded waits a TensorCore may have at this time: none above the handshakes of the two SparseCore calls. -/
def recd : Set (SemLoc sig × HIx 2) := {p | (K (F := F)).lev ((d.tc : Thread nD τ), p.1) p.2 ≤ 16}

/-- The other call's buffers, untouched. -/
def others : sProp (MM F) :=
  iprop((∃ f, ((d.tc : Thread nD τ).loc cc2_stg0_0) ↦{fullShare} f) ∗ (∃ f, ((d.tc : Thread nD τ).loc cc2_stg1_0) ↦{fullShare} f)
    ∗ (∃ f, ((d.tc : Thread nD τ).loc cc2_stg2_0) ↦{fullShare} f) ∗ (∃ f, ((d.tc : Thread nD τ).loc cc2_stg2_1) ↦{fullShare} f)
    ∗ (∃ f, ((d.tc : Thread nD τ).loc cc2_scratch0) ↦{fullShare} f) ∗ (∃ f, ((d.tc : Thread nD τ).loc cc2_scratch1) ↦{fullShare} f))

/-- The block that point `t` computes, -/
def pt (t : Fin cfg3.N) : Fin 8 := grid3.coords t 0

/-- which is the point's own number. -/
theorem pt_val (t : Fin cfg3.N) : (pt t).val = t.val := (by decide : ∀ t : Fin grid3.N, (grid3.coords t 0).val = t.val) t

/-- The proof data of the call. -/
def dat : Dat τ (Elt F) (HIx 2) ℕ UU ℕ cfg3 d where
  A w := match w with
    | ⟨0, _⟩ => v.w
    | ⟨1, _⟩ => v.b
    | ⟨2, _⟩ => v.y
  after w t := match w with
    | ⟨0, _⟩ => v.w
    | ⟨1, _⟩ => v.b
    | ⟨2, _⟩ => blockOf v.b (flat v.x (pt t)) v.w
  Φ t := iprop(Ph d X B sm (fX v d) (g v d) t.val ∗ others d)
  q _ := fullShare
  owed _ := 0
  recorded _ := recd (F := F) d

theorem Phi (t : Fin (cfg3.N + 1)) : (dat v d).Φ t = iprop(Ph d X B sm (fX v d) (g v d) t.val ∗ others d) := by dsimp only [dat]
theorem A0 : (dat v d).A 0 = v.w := by dsimp only [dat]
theorem A1 : (dat v d).A 1 = v.b := by dsimp only [dat]
theorem A2 : (dat v d).A 2 = v.y := by dsimp only [dat]
theorem after0 (t : Fin cfg3.N) : (dat v d).after 0 t = v.w := by dsimp only [dat]
theorem after1 (t : Fin cfg3.N) : (dat v d).after 1 t = v.b := by dsimp only [dat]
theorem after2 (t : Fin cfg3.N) : (dat v d).after 2 t = blockOf v.b (flat v.x (pt t)) v.w := by dsimp only [dat]

/-- The weights' and the bias's windows are the whole arrays. -/
theorem blk0 (t : Fin cfg3.N) : ((cfg3.win 0).blk t).view.read (Elt F) v.w = v.w :=
  Memref.read_access_unit_zero (Elt F) main_v0 (funext fun a => by fin_cases a <;> rfl) _ v.w
theorem blk1 (t : Fin cfg3.N) : ((cfg3.win 1).blk t).view.read (Elt F) v.b = v.b :=
  Memref.read_access_unit_zero (Elt F) main_v1 (funext fun a => by fin_cases a <;> rfl) _ v.b

theorem before0 (t : Fin cfg3.N) (e) : (dat v d).before 0 t e = v.w :=
  ((dat v d).before_in_eq_fetched 0 rfl (fun _ => rfl) (fun _ _ _ => rfl) (fun t => by rw [after0]; unfold Dat.blockOf; rw [A0]; exact (blk0 v t).symm) t e).trans
    (by unfold Dat.fetched Dat.blockOf; rw [A0]; exact blk0 v t)
theorem before1 (t : Fin cfg3.N) (e) : (dat v d).before 1 t e = v.b :=
  ((dat v d).before_in_eq_fetched 1 rfl (fun _ => rfl) (fun _ _ _ => rfl) (fun t => by rw [after1]; unfold Dat.blockOf; rw [A1]; exact (blk1 v t).symm) t e).trans
    (by unfold Dat.fetched Dat.blockOf; rw [A1]; exact blk1 v t)

theorem row (t : Fin cfg3.N) : defs₀ (F := F) .tc cfg3.body (cfg3.bodyArgs t (cfg3.slots t)) = bodyAt3 t := rfl

/-- What the body is called with at point `t`, -/
def bodyPre (t : Fin cfg3.N) : sProp (MM F) :=
  iprop((dat v d).Φ t.castSucc ∗ (dat v d).owesAt none t.castSucc
    ∗ (∃ e, owns (d.tc : Thread nD τ) (st3_0 t) fullShare ((dat v d).before 0 t e))
    ∗ (∃ e, owns (d.tc : Thread nD τ) (st3_1 t) fullShare ((dat v d).before 1 t e))
    ∗ (∃ e, owns (d.tc : Thread nD τ) (st3_2 t) fullShare ((dat v d).before 2 t e)))

/-- and what it returns. -/
def bodyPost (t : Fin cfg3.N) : sProp (MM F) :=
  iprop((dat v d).Φ t.succ ∗ (dat v d).owesAt none t.succ
    ∗ owns (d.tc : Thread nD τ) (st3_0 t) fullShare ((dat v d).after 0 t)
    ∗ owns (d.tc : Thread nD τ) (st3_1 t) fullShare ((dat v d).after 1 t)
    ∗ owns (d.tc : Thread nD τ) (st3_2 t) fullShare ((dat v d).after 2 t))

/-- Every pair of a semaphore and no launch lies within the bound. -/
theorem mem_bound (s : SemLoc sig) : (s, (none : HIx 2)) ∈ (recd (F := F) d ∪ cfg3.waitPairs none) := Or.inl (Nat.zero_le _)

/-- The body at a point. -/
theorem sound_body (t : Fin cfg3.N) : bodyPre v d t ⊢ wp frame (wpE (defs₀ (F := F)) Variants.none (d.tc : Thread nD τ) none) Set.univ (bodyAt3 t) fun _ => bodyPost v d t := by
  unfold bodyPre bodyPost bodyAt3
  simp only [before0, before1, after0, after1, after2, Phi, Fin.val_castSucc, Fin.val_succ]
  rw [cc3_eq]
  have key := point_sound d X (st3_0 t) (st3_1 t) (st3_2 t) B sm (fX v d) (g v d) (hg v d) _ (mem_bound (F := F) d) (pt t) v.w v.b
  rw [read_g, pt_val] at key
  unfold wpM at key
  iintro ⟨⟨HP, HR⟩, HO, ⟨%e0, H0⟩, ⟨%e1, H1⟩, ⟨%e2, H2⟩⟩
  iapply (wp_wand_r frame _ _)
  isplitr [HR]
  · iapply key
    isplitl [HP]; · iexact HP
    isplitl [HO]; · iexact HO
    isplitl [H0]; · iexact H0
    isplitl [H1]; · iexact H1
    iexists _; iexact H2
  · iintro %u ⟨HP, HO, H0, H1, H2⟩
    isplitl [HP HR]
    · isplitl [HP] <;> iassumption
    isplitl [HO]; · iexact HO
    isplitl [H0]; · iexact H0
    isplitl [H1]; · iexact H1
    iexact H2

theorem leaves2 (t : Fin cfg3.N) : (dat v d).leavesExact 2 t = owns (d.tc : Thread nD τ) (st3_2 t) fullShare ((dat v d).after 2 t) := by
  unfold Dat.leavesExact
  rw [flush3_2 t]
  cases cfg3.idle 2 (cfg3.grid.coords t) <;> rfl

theorem bodyPost_eq (t : Fin cfg3.N) : bodyPost v d t = iprop((dat v d).Φ t.succ ∗ (dat v d).owesAt none t.succ
    ∗ (dat v d).leavesExact 0 t ∗ (dat v d).leavesExact 1 t ∗ (dat v d).leavesExact 2 t) := by
  rw [leaves2]; rfl

/-- The library's body obligation, at every point. -/
theorem body_obligation : BodyObligation (dat v d) (defs₀ (F := F)) Variants.none none Set.univ := fun t => by
  rw [bigSep_W3, bigSep_W3, row]
  have h := sound_body v d t
  simp only [bodyPost_eq] at h
  exact h

/-! ## Into the loop and out of it -/

/-- The two semaphores the call counts its copies on. -/
abbrev osem : Fin 2 → SemLoc sig := fun j => (![SemLoc.dma 28, SemLoc.dma 29] : Fin 2 → SemLoc sig) j
theorem ownSemFacts : Pipeline.OwnSemFacts spec3 osem := by decide
theorem ownSems_eq : (Pipeline.ownSems0 (Ix := HIx 2) (Name := ℕ) (U := UU) (Lvl := ℕ) (Val := Elt F) (τ := τ) osem d : sProp (MM F))
    = iprop(semVal ((d.tc : Thread nD τ), .dma (sm 0).sem) 0 ∗ semVal ((d.tc : Thread nD τ), .dma (sm 1).sem) 0) := by
  rw [Pipeline.ownSems0_eq_of_list d osem [0, 1] (by decide) (by decide)]; rfl

/-- A whole buffer at given contents. -/
def whole (b : Ref sig .tc) (f : Buf (Elt F) ((d.tc : Thread nD τ).loc b)) : sProp (MM F) := ((d.tc : Thread nD τ).loc b) ↦{fullShare} f

/-- What the output holds after the call. -/
def out : S4096x1024.Idx → Elt F .f32 := (dat v d).arrAt 2 cfg3.N

/-- The state the call is entered from, but for the core's debts: the arrays, -/
def pre : sProp (MM F) := iprop(whole d main_v11 v.x ∗ whole d main_v0 v.w ∗ whole d main_v1 v.b ∗ whole d main_v13 v.y)
/-- and the one it leaves: the same, the output at `out`. -/
def post : sProp (MM F) := iprop(whole d main_v11 v.x ∗ whole d main_v0 v.w ∗ whole d main_v1 v.b ∗ whole d main_v13 (out v d))

theorem Ph_zero : Ph d X B sm (fX v d) (g v d) 0 = iprop(free d B sm 0 ∗ free d B sm 1 ∗ bigSep Finset.univ (xBlk d X (fX v d))) := by
  unfold Ph; rw [dif_neg (by decide)]
theorem Ph_last : Ph d X B sm (fX v d) (g v d) 8 = iprop(free d B sm 0 ∗ free d B sm 1 ∗ bigSep Finset.univ (xBlk d X (fX v d))) := by
  unfold Ph; rw [dif_neg (by decide)]

theorem xs_eq : bigSep Finset.univ (xBlk d X (fX v d)) = (whole d main_v11 v.x : sProp (MM F)) :=
  (xAll_eq d X (fX v d)).symm.trans (by rw [View.set_whole]; rfl)

omit [FloatOps F] in
theorem full_eq0 (f : Buf (Elt F) ((d.tc : Thread nD τ).loc cc3_scratch0)) : fullPt d (B 0) f = (((d.tc : Thread nD τ).loc cc3_scratch0) ↦{fullShare} f : sProp (MM F)) := by
  show ((B 0).view.loc (d.tc : Thread nD τ) ↦[(View.whole cc3_scratch0).set]{fullShare} f : sProp (MM F)) = _
  rw [View.set_whole]; rfl
omit [FloatOps F] in
theorem full_eq1 (f : Buf (Elt F) ((d.tc : Thread nD τ).loc cc3_scratch1)) : fullPt d (B 1) f = (((d.tc : Thread nD τ).loc cc3_scratch1) ↦{fullShare} f : sProp (MM F)) := by
  show ((B 1).view.loc (d.tc : Thread nD τ) ↦[(View.whole cc3_scratch1).set]{fullShare} f : sProp (MM F)) = _
  rw [View.set_whole]; rfl

/-- Into the loop: the scratch buffers and the semaphores are free, the gathered array at home. -/
theorem hin : iprop((whole d main_v11 v.x ∗ Pipeline.ownSems0 osem d) ∗ emp ∗ Pipeline.scopedRest spec3 d) ⊢ (dat v d).Φ 0 := by
  rw [Phi, show ((0 : Fin (cfg3.N + 1)).val) = 0 from rfl, Ph_zero, ownSems_eq, scopedRest3_eq, xs_eq]
  unfold free others
  iintro ⟨⟨Hx, Hs0, Hs1⟩, -, R0, R1, R2, R3, R4, R5, H0, H1⟩
  isplitr [R0 R1 R2 R3 R4 R5]
  · isplitl [H0 Hs0]
    · isplitl [H0]
      · iapply (cols_of_full d (B 0)); icases H0 with ⟨%f, H⟩; iexists f; rw [full_eq0]; iexact H
      iexact Hs0
    isplitl [H1 Hs1]
    · isplitl [H1]
      · iapply (cols_of_full d (B 1)); icases H1 with ⟨%f, H⟩; iexists f; rw [full_eq1]; iexact H
      iexact Hs1
    iexact Hx
  isplitl [R0]; · iexact R0
  isplitl [R1]; · iexact R1
  isplitl [R2]; · iexact R2
  isplitl [R3]; · iexact R3
  isplitl [R4]; · iexact R4
  iexact R5

/-- Out of it: the same back. -/
theorem hout [∀ e, Nonempty (Elt F e)] : (dat v d).Φ (Fin.last cfg3.N) ⊢ iprop(whole d main_v11 v.x ∗ Pipeline.ownSems0 osem d ∗ Pipeline.scopedRest spec3 d) := by
  rw [Phi, show ((Fin.last cfg3.N : Fin (cfg3.N + 1)).val) = 8 from rfl, Ph_last, ownSems_eq, scopedRest3_eq, xs_eq]
  unfold free others
  iintro ⟨⟨⟨H0, Hs0⟩, ⟨H1, Hs1⟩, Hx⟩, R0, R1, R2, R3, R4, R5⟩
  isplitl [Hx]; · iexact Hx
  isplitl [Hs0 Hs1]
  · isplitl [Hs0] <;> iassumption
  isplitl [R0]; · iexact R0
  isplitl [R1]; · iexact R1
  isplitl [R2]; · iexact R2
  isplitl [R3]; · iexact R3
  isplitl [R4]; · iexact R4
  isplitl [R5]; · iexact R5
  isplitl [H0]
  · ihave H := (full_of_cols d (B 0)) $$ H0; icases H with ⟨%f, H⟩; iexists f; iapply (BIBase.Entails.of_eq (full_eq0 d f)); iexact H
  · ihave H := (full_of_cols d (B 1)) $$ H1; icases H with ⟨%f, H⟩; iexists f; iapply (BIBase.Entails.of_eq (full_eq1 d f)); iexact H

end Cert.Proof.Tc1
-- ==== Proof.TcSegs.lean ====
/-
  The two TensorCore calls as regions of the program.

  Each region is entered from its arrays and the core's debts and left with the arrays, the output written, and the
  debts; nothing else of the program's state is touched.
-/
module

public import proofs.«01_k».proof.Proof.TcRegion0
public import proofs.«01_k».proof.Proof.TcRegion1

@[expose] public section

set_option maxRecDepth 16384

noncomputable section

namespace Cert.Proof

open Cert.KernelIdeal Cert.KernelIdeal.Gen Cert.Proof.Mm
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)

variable {F : FTy → Type} [FloatOps F]

/-- The pipelines' configurations take no table. -/
abbrev adm (p : Fin 2) : (pcfgs (F := F) p).Adm := (cfgs p).toPCfg_adm

/-- The proof data of the two calls. -/
def dats (v0 : Tc0.Vals F) (v1 : Tc1.Vals F) : (p : Fin 2) → (c : Dev nD) →
    Dat τ (Elt F) (HIx 2) ℕ UU ℕ (Pipeline.pin (pcfgs (F := F)) adm p) c
  | 0, c => Tc0.dat v0 c
  | 1, c => Tc1.dat v1 c

variable [∀ e, Nonempty (Elt F e)] (v0 : Tc0.Vals F) (v1 : Tc1.Vals F)

/-- What the core owes around call 0: nothing, its recorded waits none above the handshakes. -/
abbrev owed0 (c : Dev nD) : sProp (MM F) := Pipeline.owesWithin c 0 (Tc0.recd (F := F) c)

theorem arrays0 (c : Dev nD) (G : (w : Fin 3) → Buf (Elt F) (((cfg2.spec w).arr.view.loc (c.tc : Thread nD τ)))) :
    ((dats v0 v1 0 c).arrays G : sProp (MM F)) = iprop(Tc0.whole c main_v0 (G 0) ∗ Tc0.whole c main_v1 (G 1) ∗ Tc0.whole c main_v12 (G 2)) := by
  refine (Pipeline.arrays_eq (p := 0) (Pipeline.pin (pcfgs (F := F)) adm) (dats v0 v1) c launch2.arr_whole ((dats v0 v1 0 c).share_full fun _ => rfl) G).trans ?_
  exact bigSep_W2 _

set_option backward.isDefEq.respectTransparency.types false in
/-- Call 0 as a region. -/
def reg0 : Pipeline.RegionSeg (pcfgs (F := F)) adm (dats v0 v1) (none : HIx 2) defs₀ 𝒱₀ (K (F := F)).L (K (F := F)).lev 0 where
  win := launch2.win.to₀
  block_pos := launch2.block_pos
  stage_whole := launch2.stage_whole
  K := Fin 2
  osem := Tc0.osem
  ho := Tc0.ownSemFacts
  hbody c := (Tc0.body_obligation v0 c).loose
  hwaits := Pipeline.hwaits_of_owed_zero _ _ _ _ _ _ 0 fun _ _ => rfl
  pre c := iprop(Tc0.pre v0 c ∗ owed0 c)
  post c := iprop(Tc0.post v0 c ∗ owed0 c)
  X c := iprop(Tc0.whole c main_v6 v0.x ∗ Pipeline.ownSems0 Tc0.osem c)
  Y c := Tc0.whole c main_v6 v0.x
  Z _ := iprop(emp)
  hentry c := by
    rw [arrays0]
    unfold Tc0.pre
    iintro ⟨⟨⟨Hx, Hw, Hb, Ho⟩, HO⟩, Hs, -⟩
    imodintro
    isplitl [Hw Hb Ho]
    · isplitl [Hw]; · iexact Hw
      isplitl [Hb]; · iexact Hb
      iexact Ho
    isplitr; · unfold Pipeline.prefHeld; rw [show (Finset.univ : Finset (Fin 0)) = ∅ from rfl, BI.bigSep_empty]; iempintro
    isplitl [HO]
    · unfold owed0 Pipeline.Dat.owesAt Pipeline.owesWithin
      icases HO with ⟨%W, %hW, HO⟩; iexists W; isplitr; · ipureintro; exact fun p hp => Or.inl (hW hp)
      iexact HO
    isplitl [Hx Hs]
    · isplitl [Hx] <;> iassumption
    iempintro
  hin c := by
    refine BIBase.Entails.trans ?_ (Tc0.hin v0 c)
    iintro ⟨H, -, Hr⟩
    isplitl [H]; · iexact H
    isplitr; · iempintro
    iexact Hr
  hout c := Tc0.hout v0 c
  hexit c := by
    rw [arrays0]
    unfold Tc0.post
    iintro ⟨⟨Hw, Hb, Ho⟩, HO, Hx, -⟩
    imodintro
    isplitr [HO]
    · isplitl [Hx]; · iexact Hx
      isplitl [Hw]; · iexact Hw
      isplitl [Hb]; · iexact Hb
      iexact Ho
    · unfold owed0 Pipeline.Dat.owesAt Pipeline.owesWithin
      icases HO with ⟨%W, %hW, HO⟩; iexists W
      isplitr
      · ipureintro
        intro p hp
        rcases hW hp with h | ⟨w, s, rfl⟩
        · exact h
        · exact Nat.zero_le _
      iexact HO

/-- What the core owes around call 1: nothing, its recorded waits none above the handshakes. -/
abbrev owed1 (c : Dev nD) : sProp (MM F) := Pipeline.owesWithin c 0 (Tc1.recd (F := F) c)

theorem arrays1 (c : Dev nD) (G : (w : Fin 3) → Buf (Elt F) (((cfg3.spec w).arr.view.loc (c.tc : Thread nD τ)))) :
    ((dats v0 v1 1 c).arrays G : sProp (MM F)) = iprop(Tc1.whole c main_v0 (G 0) ∗ Tc1.whole c main_v1 (G 1) ∗ Tc1.whole c main_v13 (G 2)) := by
  refine (Pipeline.arrays_eq (p := 1) (Pipeline.pin (pcfgs (F := F)) adm) (dats v0 v1) c launch3.arr_whole ((dats v0 v1 1 c).share_full fun _ => rfl) G).trans ?_
  exact bigSep_W3 _

set_option backward.isDefEq.respectTransparency.types false in
/-- Call 1 as a region. -/
def reg1 : Pipeline.RegionSeg (pcfgs (F := F)) adm (dats v0 v1) (none : HIx 2) defs₀ 𝒱₀ (K (F := F)).L (K (F := F)).lev 1 where
  win := launch3.win.to₀
  block_pos := launch3.block_pos
  stage_whole := launch3.stage_whole
  K := Fin 2
  osem := Tc1.osem
  ho := Tc1.ownSemFacts
  hbody c := (Tc1.body_obligation v1 c).loose
  hwaits := Pipeline.hwaits_of_owed_zero _ _ _ _ _ _ 1 fun _ _ => rfl
  pre c := iprop(Tc1.pre v1 c ∗ owed1 c)
  post c := iprop(Tc1.post v1 c ∗ owed1 c)
  X c := iprop(Tc1.whole c main_v11 v1.x ∗ Pipeline.ownSems0 Tc1.osem c)
  Y c := Tc1.whole c main_v11 v1.x
  Z _ := iprop(emp)
  hentry c := by
    rw [arrays1]
    unfold Tc1.pre
    iintro ⟨⟨⟨Hx, Hw, Hb, Ho⟩, HO⟩, Hs, -⟩
    imodintro
    isplitl [Hw Hb Ho]
    · isplitl [Hw]; · iexact Hw
      isplitl [Hb]; · iexact Hb
      iexact Ho
    isplitr; · unfold Pipeline.prefHeld; rw [show (Finset.univ : Finset (Fin 0)) = ∅ from rfl, BI.bigSep_empty]; iempintro
    isplitl [HO]
    · unfold owed1 Pipeline.Dat.owesAt Pipeline.owesWithin
      icases HO with ⟨%W, %hW, HO⟩; iexists W; isplitr; · ipureintro; exact fun p hp => Or.inl (hW hp)
      iexact HO
    isplitl [Hx Hs]
    · isplitl [Hx] <;> iassumption
    iempintro
  hin c := by
    refine BIBase.Entails.trans ?_ (Tc1.hin v1 c)
    iintro ⟨H, -, Hr⟩
    isplitl [H]; · iexact H
    isplitr; · iempintro
    iexact Hr
  hout c := Tc1.hout v1 c
  hexit c := by
    rw [arrays1]
    unfold Tc1.post
    iintro ⟨⟨Hw, Hb, Ho⟩, HO, Hx, -⟩
    imodintro
    isplitr [HO]
    · isplitl [Hx]; · iexact Hx
      isplitl [Hw]; · iexact Hw
      isplitl [Hb]; · iexact Hb
      iexact Ho
    · unfold owed1 Pipeline.Dat.owesAt Pipeline.owesWithin
      icases HO with ⟨%W, %hW, HO⟩; iexists W
      isplitr
      · ipureintro
        intro p hp
        rcases hW hp with h | ⟨w, s, rfl⟩
        · exact h
        · exact Nat.zero_le _
      iexact HO

end Cert.Proof
-- ==== Proof.TileProg.lean ====
/-
  The program of one gather tile, as a list of six kinds of steps.

  A tile moves ten chunks of 320 rows through three slots (a list buffer, a row buffer, and three semaphores each).
  `Ring` names what a tile is called with, `Step` the six kinds of steps, `Ring.exec` the operation each step is, and
  `steps` the sixty steps in the order the kernel takes them. The two theorems say that the two printed SparseCore
  kernels are exactly this list of steps.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL Idealize.SL.Sem

variable {F : FTy → Type} [FloatOps F]

/-- What a tile is called with: the row numbers, the table and the result in HBM, and for each of the three slots the
    list buffer, the row buffer and the semaphores of the three kinds of transfers. -/
structure Ring where
  I : Memref sig .scVector .hbm S102400 .i32
  hI : I.IsWhole
  T : Memref sig .scVector .hbm S100000x128 .f32
  hT : T.IsWhole
  O : Memref sig .scVector .hbm S102400x128 .f32
  hO : O.IsWhole
  ib : Fin 3 → Memref sig .scVector .vmem S320 .i32
  hib : ∀ j, (ib j).IsWhole
  rb : Fin 3 → Memref sig .scVector .vmem S320x128 .f32
  hrb : ∀ j, (rb j).IsWhole
  is : Fin 3 → DmaSems sig S_
  gs : Fin 3 → DmaSems sig S_
  ws : Fin 3 → DmaSems sig S_
  /-- The rows of a row buffer, one by one, credit a semaphore what the whole buffer does. -/
  hcr : ∀ j, ∀ h : S100000x128.Gathers 0 S320x128,
    ∑ i, ((rb j).slice (S320x128.rowRect h.axis' i) (S320x128.stride_rowRect h.axis' i)).view.dmaCredit = (rb j).view.dmaCredit

/-- The first row of chunk `c` of the tile at coordinates `L`, as the program computes it. -/
abbrev offI (L : grid0.Coords) (c : Fin 10) : Fin 1 → ℕ := k0_off1 L (BitVec.ofNat 32 (320 * c.val))
abbrev offO (L : grid0.Coords) (c : Fin 10) : Fin 2 → ℕ := k0_off14 L (BitVec.ofNat 32 (320 * c.val))

/-- The same in numbers. -/
theorem offI_eq : ∀ (L : grid0.Coords) (c : Fin 10), offI L c = ![6400 * (L 1).val + 3200 * (L 0).val + 320 * c.val] := by decide +kernel
theorem offO_eq : ∀ (L : grid0.Coords) (c : Fin 10), offO L c = ![6400 * (L 1).val + 3200 * (L 0).val + 320 * c.val, 0] := by decide +kernel

theorem inbI : ∀ (L : grid0.Coords) (c : Fin 10), ∀ a, offI L c a + S320.size a ≤ S102400.size a := by decide +kernel
theorem inbO : ∀ (L : grid0.Coords) (c : Fin 10), ∀ a, offO L c a + S320x128.size a ≤ S102400x128.size a := by decide +kernel

namespace Ring

variable (R : Ring) (L : grid0.Coords)

/-- Chunk `c` of the tile's row numbers. -/
abbrev iw (c : Fin 10) : Memref sig .scVector .hbm S320 .i32 :=
  R.I.slice (Rect.unit (s := S102400) (offI L c) S320.size (inbI L c)) (fun _ => rfl)
/-- Chunk `c` of the tile's part of the result. -/
abbrev ow (c : Fin 10) : Memref sig .scVector .hbm S320x128 .f32 :=
  R.O.slice (Rect.unit (s := S102400x128) (offO L c) S320x128.size (inbO L c)) (fun _ => rfl)
/-- The table, as a gather addresses it. -/
abbrev tab : Memref sig .scVector .hbm S100000x128 .f32 :=
  R.T.slice (Rect.unit (s := S100000x128) ![0, 0] S100000x128.size inb_S100000x128_S100000x128_0_0) (fun _ => rfl)

end Ring

/-- The six kinds of steps, each of one chunk: start or await the copy of its row numbers, start or await the gather of
    its rows, start or await the copy of the rows to the result. -/
inductive Step
  | idxGo (c : Fin 10) | idxWait (c : Fin 10) | gatGo (c : Fin 10) | gatWait (c : Fin 10) | wrGo (c : Fin 10) | wrWait (c : Fin 10)
  deriving DecidableEq

/-- The slot of chunk `c`. -/
abbrev slot (c : Fin 10) : Fin 3 := ⟨c.val % 3, Nat.mod_lt _ (by decide)⟩

abbrev TileProg (F : FTy → Type) [FloatOps F] (L : grid0.Coords) : Type 1 :=
  Prog (TpuEff nD τ sig (Elt F) Λ₀ (.scVector ((L 0).castLE hcore0) ((L 1).castLE hsub0))) PUnit

/-- The operation a step is. -/
def Ring.exec (R : Ring) (L : grid0.Coords) : Step → TileProg F L
  | .idxGo c => Prog.lift (.enqueueDma (R.iw L c) (.here (R.ib (slot c))) (.dma (R.is (slot c)).sem) (View.wordExact_bits rfl) (R.hib _).wordExact ⟨Or.inl rfl, trivial⟩)
  | .idxWait c => Prog.lift (.waitDma2 (R.is (slot c)).sem (R.iw L c) (R.ib (slot c)) (View.wordExact_bits rfl) (R.hib _).wordExact)
  | .gatGo c => SparseCore.enqueueIndirectGather rfl R.tab (R.rb (slot c)) gathers_S100000x128_S320x128 (R.ib (slot c)) rfl (R.gs (slot c)).sem (View.wordExact_bits rfl) rfl (Or.inl rfl)
  | .gatWait c => SparseCore.waitIndirectGather (p := .scVector ((L 0).castLE hcore0) ((L 1).castLE hsub0)) (R.gs (slot c)).sem R.tab (R.rb (slot c)) (View.wordExact_bits rfl) (R.hrb _).wordExact
  | .wrGo c => Prog.lift (.enqueueDma (R.rb (slot c)) (.here (R.ow L c)) (.dma (R.ws (slot c)).sem) (R.hrb _).wordExact (View.wordExact_bits rfl) ⟨Or.inl rfl, trivial⟩)
  | .wrWait c => Prog.lift (.waitDma2 (R.ws (slot c)).sem (R.rb (slot c)) (R.ow L c) (R.hrb _).wordExact (View.wordExact_bits rfl))

/-- A list of steps, one after another. -/
def Ring.execs (R : Ring) (L : grid0.Coords) : List Step → TileProg F L
  | [] => pure ⟨⟩
  | s :: l => R.exec L s >>= fun _ => R.execs L l

/-- The steps of trip `t` of the kernel's loop. -/
def trip (t : Fin 10) : List Step :=
  [.gatWait t, .wrGo t]
    ++ (if h : t.val + 2 < 10 then
          [.idxWait ⟨t.val + 2, h⟩] ++ (if 1 ≤ t.val then [.wrWait ⟨t.val - 1, by omega⟩] else []) ++ [.gatGo ⟨t.val + 2, h⟩]
            ++ (if h3 : t.val + 3 < 10 then [.idxGo ⟨t.val + 3, h3⟩] else [])
        else [])

theorem execs_append (R : Ring) (L : grid0.Coords) (l l' : List Step) :
    R.execs (F := F) L (l ++ l') = R.execs L l >>= fun _ => R.execs L l' := by
  induction l with
  | nil => rfl
  | cons s l ih => simp only [List.cons_append, Ring.execs, ih, bind_assoc]

section Program
variable (R : Ring) (L : grid0.Coords)

/-- The tile's first row, as the printed program hands it to its loop's body. -/
def start : BitVec 32 := Scalar.muli (Scalar.addi (Scalar.muli (BitVec.ofNat 32 (L 1).val) 2#32) (BitVec.ofNat 32 (L 0).val)) 3200#32

set_option maxRecDepth 65536 in
/-- Trip `t` of the printed loop is the steps `trip t`. -/
theorem body_eq : ∀ t : Fin 10,
    k0_t1_body (F := F) L R.I R.hI R.T R.hT R.O R.hO (R.ib 0) (R.hib 0) (R.ib 1) (R.hib 1) (R.ib 2) (R.hib 2) (R.rb 0) (R.hrb 0) (R.rb 1) (R.hrb 1) (R.rb 2) (R.hrb 2)
      (R.is 0) (R.is 1) (R.is 2) (R.gs 0) (R.gs 1) (R.gs 2) (R.ws 0) (R.ws 1) (R.ws 2) (start L) t ()
      = R.execs L (trip t)
  | 0 => rfl | 1 => rfl | 2 => rfl | 3 => rfl | 4 => rfl | 5 => rfl | 6 => rfl | 7 => rfl | 8 => rfl | 9 => rfl

/-- The steps of a whole tile: what comes before the loop, its ten trips, what comes after it. -/
def stepsA : List Step := [.idxGo 0, .idxGo 1, .idxWait 0, .gatGo 0, .idxWait 1, .idxGo 2, .gatGo 1]
def stepsZ : List Step := [.wrWait 7, .wrWait 8, .wrWait 9]
def steps : List Step := stepsA ++ ((List.finRange 10).flatMap trip ++ stepsZ)

/-- Ten trips in a row are the list of their steps. -/
theorem forFrom_trips (l : List (Fin 10)) (k : List Step) :
    (Scf.forFrom (fun t (_ : Unit) => R.execs (F := F) L (trip t)) l () >>= fun _ => R.execs L k) = R.execs L (l.flatMap trip ++ k) := by
  induction l with
  | nil => rfl
  | cons t l ih => simp only [Scf.forFrom_cons, List.flatMap_cons, List.append_assoc, execs_append, bind_assoc, ← ih]

set_option maxRecDepth 65536 in
/-- A tile of the first call is its steps. -/
theorem cc0_eq :
    cc0_gather_k (F := F) L R.I R.hI R.T R.hT R.O R.hO (R.ib 0) (R.hib 0) (R.ib 1) (R.hib 1) (R.ib 2) (R.hib 2) (R.rb 0) (R.hrb 0) (R.rb 1) (R.hrb 1) (R.rb 2) (R.hrb 2)
      (R.is 0) (R.is 1) (R.is 2) (R.gs 0) (R.gs 1) (R.gs 2) (R.ws 0) (R.ws 1) (R.ws 2)
      = R.execs (F := F) L steps := by
  have hb := funext fun t => funext fun u : Unit => body_eq (F := F) R L t
  have key : ∀ body : Fin 10 → Unit → TileProg F L, body = (fun t u =>
      k0_t1_body (F := F) L R.I R.hI R.T R.hT R.O R.hO (R.ib 0) (R.hib 0) (R.ib 1) (R.hib 1) (R.ib 2) (R.hib 2) (R.rb 0) (R.hrb 0) (R.rb 1) (R.hrb 1) (R.rb 2) (R.hrb 2)
        (R.is 0) (R.is 1) (R.is 2) (R.gs 0) (R.gs 1) (R.gs 2) (R.ws 0) (R.ws 1) (R.ws 2) (start L) t u) →
      cc0_gather_k (F := F) L R.I R.hI R.T R.hT R.O R.hO (R.ib 0) (R.hib 0) (R.ib 1) (R.hib 1) (R.ib 2) (R.hib 2) (R.rb 0) (R.hrb 0) (R.rb 1) (R.hrb 1) (R.rb 2) (R.hrb 2)
        (R.is 0) (R.is 1) (R.is 2) (R.gs 0) (R.gs 1) (R.gs 2) (R.ws 0) (R.ws 1) (R.ws 2)
      = R.execs (F := F) L stepsA >>= fun _ => (Scf.Loop.for k0_t1_loop k0_t1_ok ⟨⟩ body) >>= fun _ => R.execs L stepsZ := by
    rintro _ rfl
    rw [cc0_gather_k_eq_skeleton]; unfold cc0_gather_k_skel
    rw [k0_part2_eq_skeleton]; unfold k0_part2_skel
    simp only [Ring.execs, stepsA, stepsZ, bind_assoc, pure_bind, bind_pure]
    rfl
  refine (key _ hb.symm).trans ?_
  unfold steps
  rw [execs_append, ← forFrom_trips]
  exact congrArg (fun p => R.execs (F := F) L stepsA >>= fun _ => p >>= fun _ => R.execs L stepsZ) (Scf.for_eq _ _ _ _ _ _)

set_option maxRecDepth 65536 in
/-- A tile of the second call runs the same program. -/
theorem cc1_eq_cc0 : cc1_gather_k (F := F) = cc0_gather_k (F := F) := rfl

end Program

end Cert.Proof.Tile
-- ==== Proof.TileRun.lean ====
/-
  The run of one gather tile, with the contents it leaves.

  A tile's state says, for each of the three slots, what its list buffer, its gather and its row buffer are doing, and,
  for each of the ten chunks, whether its row numbers are at home and whether its rows have arrived. `St.step` says which
  steps a state admits and what state they lead to; `step_sound` proves each step's operation against what the two states
  hold; `run_sound` follows a list of steps. What a finished chunk holds is fixed from the start: `fO`.
-/
module

public import proofs.«01_k».proof.Proof.TileProg
public import proofs.«01_k».proof.Proof.Ghost

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The states of a tile -/

/-- A slot's list buffer: free, being filled with chunk `c`'s row numbers, holding them, or lent to a gather. -/
inductive IS | free | loading (c : Fin 10) | loaded (c : Fin 10) | lent
  deriving DecidableEq
/-- A slot's gather: none, or chunk `c`'s under way. -/
inductive GS | idle | going (c : Fin 10)
  deriving DecidableEq
/-- A slot's row buffer: free, lent to a gather, holding chunk `c`'s rows, or being written out. -/
inductive WS | free | lent | has (c : Fin 10) | writing (c : Fin 10)
  deriving DecidableEq
/-- A chunk of the result: not yet written, being written, written. -/
inductive OS | todo | away | done
  deriving DecidableEq

/-- A tile's state. -/
structure St where
  i : Fin 3 → IS
  g : Fin 3 → GS
  w : Fin 3 → WS
  h : Fin 10 → Bool
  o : Fin 10 → OS

/-- Where a step leads, if the state admits it. -/
def St.step (σ : St) : Step → Option St
  | .idxGo c => if σ.i (slot c) = .free ∧ σ.h c = true then
      some { σ with i := Function.update σ.i (slot c) (.loading c), h := Function.update σ.h c false } else none
  | .idxWait c => if σ.i (slot c) = .loading c ∧ σ.h c = false then
      some { σ with i := Function.update σ.i (slot c) (.loaded c), h := Function.update σ.h c true } else none
  | .gatGo c => if σ.i (slot c) = .loaded c ∧ σ.g (slot c) = .idle ∧ σ.w (slot c) = .free then
      some { σ with i := Function.update σ.i (slot c) .lent, g := Function.update σ.g (slot c) (.going c), w := Function.update σ.w (slot c) .lent } else none
  | .gatWait c => if σ.i (slot c) = .lent ∧ σ.g (slot c) = .going c ∧ σ.w (slot c) = .lent then
      some { σ with i := Function.update σ.i (slot c) .free, g := Function.update σ.g (slot c) .idle, w := Function.update σ.w (slot c) (.has c) } else none
  | .wrGo c => if σ.w (slot c) = .has c ∧ σ.o c = .todo then
      some { σ with w := Function.update σ.w (slot c) (.writing c), o := Function.update σ.o c .away } else none
  | .wrWait c => if σ.w (slot c) = .writing c ∧ σ.o c = .away then
      some { σ with w := Function.update σ.w (slot c) .free, o := Function.update σ.o c .done } else none

/-- Where a list of steps leads. -/
def St.steps : St → List Step → Option St
  | σ, [] => some σ
  | σ, s :: l => (σ.step s).bind fun σ' => σ'.steps l

/-- Before the first step, and after the last. -/
def St.first : St := ⟨fun _ => .free, fun _ => .idle, fun _ => .free, fun _ => true, fun _ => .todo⟩
def St.last : St := ⟨fun _ => .free, fun _ => .idle, fun _ => .free, fun _ => true, fun _ => .done⟩

/-- The sixty steps lead from the first state to the last. -/
theorem steps_last : St.first.steps Tile.steps = some St.last := by
  have h : (St.first.steps Tile.steps).any (fun σ => decide ((∀ j, σ.i j = .free) ∧ (∀ j, σ.g j = .idle) ∧ (∀ j, σ.w j = .free)
      ∧ (∀ c, σ.h c = true) ∧ ∀ c, σ.o c = .done)) = true := by decide +kernel
  generalize hst : St.first.steps Tile.steps = o at h
  rcases o with _ | σ
  · exact absurd h (by simp)
  obtain ⟨h1, h2, h3, h4, h5⟩ := of_decide_eq_true (show decide _ = true from h)
  obtain ⟨i, g, w, hh, o⟩ := σ
  exact congrArg some (St.mk.injEq .. ▸ ⟨funext h1, funext h2, funext h3, funext h4, funext h5⟩)

/-! ## What a state holds -/

section Run

variable (R : Ring) (L : grid0.Coords) (d : Dev nD)

/-- The tile's thread. -/
abbrev thr : Thread nD τ := SparseCore.V d ((L 0).castLE hcore0) ((L 1).castLE hsub0)

variable (qI : PosShare TreeShare) (qT : Fin 3 → PosShare TreeShare)
  (fI : Buf (Elt F) (R.I.view.loc (thr L d))) (fT : Buf (Elt F) (R.T.view.loc (thr L d))) (fO : Buf (Elt F) (R.O.view.loc (thr L d)))

local notation "𝕄" => MM F
local notation "c₀" => thr L d

/-- Chunk `c`'s row numbers, where the tile finds them. -/
abbrev iwPt (c : Fin 10) : sProp (MM F) := (R.iw L c).view.loc (thr L d) ↦[(R.iw L c).view.set]{qI} fI
/-- Slot `j`'s share of the table. -/
abbrev tabPt (j : Fin 3) : sProp (MM F) := R.tab.view.loc (thr L d) ↦[R.tab.view.set]{qT j} fT
/-- Chunk `c`'s place in the result. -/
abbrev owPt (c : Fin 10) (f : Buf (Elt F) (R.O.view.loc (thr L d))) : sProp (MM F) :=
  (R.ow L c).view.loc (thr L d) ↦[(R.ow L c).view.set]{fullShare} f
/-- Slot `j`'s list buffer and its row buffer. -/
abbrev ibPt (j : Fin 3) (f : Buf (Elt F) ((R.ib j).view.loc (thr L d))) : sProp (MM F) :=
  (R.ib j).view.loc (thr L d) ↦[(R.ib j).view.set]{fullShare} f
abbrev rbPt (j : Fin 3) (f : Buf (Elt F) ((R.rb j).view.loc (thr L d))) : sProp (MM F) :=
  (R.rb j).view.loc (thr L d) ↦[(R.rb j).view.set]{fullShare} f

/-- Slot `j`'s list buffer with chunk `c`'s row numbers. -/
def ibHas (j : Fin 3) (c : Fin 10) : sProp (MM F) :=
  iprop(∃ f, ⌜(R.ib j).view.read (Elt F) f = (R.iw L c).view.read (Elt F) fI⌝ ∗ ibPt R L d j f)
/-- Slot `j`'s row buffer with chunk `c`'s rows. -/
def rbHas (j : Fin 3) (c : Fin 10) : sProp (MM F) :=
  iprop(∃ f, ⌜(R.rb j).view.read (Elt F) f = (R.ow L c).view.read (Elt F) fO⌝ ∗ rbPt R L d j f)

abbrev iCell (j : Fin 3) : GSem nD τ sig := (thr L d, .dma (R.is j).sem)
abbrev gCell (j : Fin 3) : GSem nD τ sig := (thr L d, .dma (R.gs j).sem)
abbrev wCell (j : Fin 3) : GSem nD τ sig := (thr L d, .dma (R.ws j).sem)

def iRes (j : Fin 3) : IS → sProp (MM F)
  | .free => iprop((∃ f, ibPt R L d j f) ∗ semVal (iCell R L d j) 0)
  | .loading c => Transfers.Flight EC (thr L d) (.dma (R.is j).sem) (default : HIx 2) (R.ib j).view.dmaCredit
      iprop(ibHas R L d fI j c ∗ iwPt R L d qI fI c)
  | .loaded c => iprop(ibHas R L d fI j c ∗ semVal (iCell R L d j) 0)
  | .lent => semVal (iCell R L d j) 0
def gRes (j : Fin 3) : GS → sProp (MM F)
  | .idle => iprop(tabPt R L d qT fT j ∗ semVal (gCell R L d j) 0)
  | .going c => Transfers.Flight EC (thr L d) (.dma (R.gs j).sem) (default : HIx 2) (R.rb j).view.dmaCredit
      iprop(rbHas R L d fO j c ∗ tabPt R L d qT fT j ∗ ∃ f, ibPt R L d j f)
def wRes (j : Fin 3) : WS → sProp (MM F)
  | .free => iprop((∃ f, rbPt R L d j f) ∗ semVal (wCell R L d j) 0)
  | .lent => semVal (wCell R L d j) 0
  | .has c => iprop(rbHas R L d fO j c ∗ semVal (wCell R L d j) 0)
  | .writing c => Transfers.Flight EC (thr L d) (.dma (R.ws j).sem) (default : HIx 2) (R.ow L c).view.dmaCredit
      iprop(owPt R L d c fO ∗ ∃ f, rbPt R L d j f)
def hRes (c : Fin 10) : Bool → sProp (MM F)
  | true => iwPt R L d qI fI c
  | false => iprop(emp)
def oRes (c : Fin 10) : OS → sProp (MM F)
  | .todo => iprop(∃ f, owPt R L d c f)
  | .away => iprop(emp)
  | .done => owPt R L d c fO

/-- What the tile holds in a state. -/
def St.res (σ : St) : sProp (MM F) :=
  iprop((bigSep Finset.univ fun j => iRes R L d qI fI j (σ.i j)) ∗ (bigSep Finset.univ fun j => gRes R L d qT fT fO j (σ.g j))
    ∗ (bigSep Finset.univ fun j => wRes R L d fO j (σ.w j)) ∗ (bigSep Finset.univ fun c => hRes R L d qI fI c (σ.h c))
    ∗ bigSep Finset.univ fun c => oRes R L d fO c (σ.o c))

omit [FloatOps F] in
/-- One index of a family out, and back at another state. -/
theorem bigSep_out {ι A : Type} [Fintype ι] [DecidableEq ι] (Φ : ι → A → sProp (MM F)) (f : ι → A) (a : ι) {x : A} (hx : f a = x) :
    (bigSep Finset.univ fun j => Φ j (f j)) ⊢ iprop(Φ a x ∗ ∀ y, Φ a y -∗ bigSep Finset.univ fun j => Φ j (Function.update f a y j)) := by
  subst hx
  rw [SparseCore.bigSep_erase' (Finset.mem_univ a)]
  iintro ⟨Ha, Hr⟩
  isplitl [Ha]; · iexact Ha
  iintro %y Hy
  rw [SparseCore.bigSep_erase' (Φ := fun j => Φ j (Function.update f a y j)) (Finset.mem_univ a), Function.update_self]
  isplitl [Hy]; · iexact Hy
  rw [bigSep_congr (s := Finset.univ.erase a) (Φ := fun j => Φ j (Function.update f a y j)) (Ψ := fun j => Φ j (f j))
    fun j hj => by rw [Function.update_of_ne (Finset.ne_of_mem_erase hj)]]
  iexact Hr

omit [FloatOps F] in
/-- Two contents that a view reads alike are alike on the view's elements. -/
theorem pointsTo_of_read {sp : Space} {s : Shape} {e : EltTy} (v : View sig .scVector sp s e) (q : PosShare TreeShare)
    {f g : Buf (Elt F) (v.loc (thr L d))} (h : v.read (Elt F) f = v.read (Elt F) g) :
    (v.loc (thr L d) ↦[v.set]{q} f : sProp (MM F)) = v.loc (thr L d) ↦[v.set]{q} g := by
  refine pointsTo_congr fun i hi => ?_
  obtain ⟨x, -, rfl⟩ := Finset.mem_map.mp hi
  have := congrFun h x
  rw [View.read_apply, View.read_apply] at this
  exact (cast_inj _).mp this

variable (hin : ∀ (c : Fin 10) (x : S320.Idx), ((R.iw L c).view.read (Elt F) fI x).toNat < S100000x128.size gathers_S100000x128_S320x128.axis)
/-- The contents the result is to have: chunk `c` reads the table's rows at chunk `c`'s row numbers. -/
def Gathered : Prop := ∀ (c : Fin 10), (R.ow L c).view.read (Elt F) fO
  = SparseCore.gatherPayload gathers_S100000x128_S320x128 (R.tab.view.read (Elt F) fT)
      (SparseCore.rows ((R.iw L c).view.read (Elt F) fI) (si := S320) rfl (hin c))

variable (O : CellTallies nD τ sig (HIx 2)) (W : Waits sig (HIx 2))

/-- What the thread owes along its run: its waits so far were all of its own transfers. -/
def owesSince : sProp (MM F) := iprop(∃ W', ⌜∀ p ∈ W', p ∈ W ∨ p.2 = none⌝ ∗ owes (thr L d) O W')

abbrev wpT (p : TileProg F L) (Q : PUnit → sProp (MM F)) : sProp (MM F) :=
  wp frame (wpE (defs₀ (F := F)) 𝒱₀ (thr L d) none) Set.univ p Q

omit [FloatOps F] in
/-- The row numbers read from two lists that agree. -/
theorem rows_congr {n z : ℕ} {si : Shape} {f g : si.Idx → Elt F .i32} (h : f = g) (hn : si.numel = n) (h1 : ∀ x, (f x).toNat < z) (h2 : ∀ x, (g x).toNat < z) :
    SparseCore.rows f hn h1 = SparseCore.rows g hn h2 := by subst h; rfl

omit [FloatOps F] in
theorem owesSince_insert (sm : SemLoc sig) (W' : Waits sig (HIx 2)) (h : ∀ p ∈ W', p ∈ W ∨ p.2 = none) :
    ∀ p ∈ insert (sm, (default : HIx 2)) W', p ∈ W ∨ p.2 = none := by
  intro p hp
  rcases Finset.mem_insert.mp hp with hp | hp
  · exact .inr (hp ▸ rfl)
  · exact h p hp

/-- Starting the copy of chunk `c`'s row numbers. -/
theorem idxGo_sound (c : Fin 10) (k : PUnit → TileProg F L) (Q : PUnit → sProp (MM F)) :
    iprop((iRes R L d qI fI (slot c) .free ∗ hRes R L d qI fI c true) ∗ owesSince L d O W ∗ Transfers.MayWaits (thr L d) (default : HIx 2) O)
      ⊢ iprop((((iRes R L d qI fI (slot c) (.loading c) ∗ hRes R L d qI fI c false) ∗ owesSince L d O W) -∗ wpT L d (k ⟨⟩) Q) -∗ wpT L d (R.exec L (.idxGo c) >>= k) Q) := by
  unfold iRes hRes
  iintro ⟨⟨⟨⟨%f, Hb⟩, Hs⟩, Hi⟩, HO, -⟩ Hk
  iapply (Transfers.wp_dmaLocal EC 𝒱₀ (thr L d) none (src := R.iw L c) (dst := R.ib (slot c)) (sm := .dma (R.is (slot c)).sem)
    (default : HIx 2) (R.ib (slot c)).view.dmaCredit rfl (View.dmaCredit_pos _ (by decide)) subset_rfl) $$ [Hi Hb Hs]
  · isplitl [Hi]; · iexact Hi
    isplitl [Hb]; · iexact Hb
    iexact Hs
  iintro Hf
  iapply Hk
  isplitl [Hf]
  · isplitl [Hf]
    · have hm : iprop(((R.ib (slot c)).view.loc (thr L d) ↦[(R.ib (slot c)).view.set]{fullShare}
            ((R.ib (slot c)).view.write (Elt F) f ((R.iw L c).view.read (Elt F) fI) Finset.univ)) ∗ iwPt R L d qI fI c)
          ⊢ iprop(ibHas R L d fI (slot c) c ∗ iwPt R L d qI fI c) := by
        iintro ⟨Hb, Hi⟩
        isplitl [Hb]
        · unfold ibHas; iexists _; isplitr
          swap; · iexact Hb
          ipureintro; exact View.read_write_univ _ _
        · iexact Hi
      iapply (Transfers.Flight_mono EC (thr L d) hm); iexact Hf
    · iempintro
  · iexact HO

/-- Awaiting it. -/
theorem idxWait_sound (c : Fin 10) (k : PUnit → TileProg F L) (Q : PUnit → sProp (MM F)) :
    iprop((iRes R L d qI fI (slot c) (.loading c) ∗ hRes R L d qI fI c false) ∗ owesSince L d O W ∗ Transfers.MayWaits (thr L d) (default : HIx 2) O)
      ⊢ iprop((((iRes R L d qI fI (slot c) (.loaded c) ∗ hRes R L d qI fI c true) ∗ owesSince L d O W) -∗ wpT L d (k ⟨⟩) Q) -∗ wpT L d (R.exec L (.idxWait c) >>= k) Q) := by
  unfold iRes hRes owesSince
  iintro ⟨⟨Hf, -⟩, ⟨%W', %hW, HO⟩, Hmw⟩ Hk
  iapply (Transfers.wp_waitLocalO EC 𝒱₀ (thr L d) none (default : HIx 2) (rfl : (R.ib (slot c)).view.dmaCredit = _)) $$ [Hf HO Hmw]
  · isplitl [Hf]; · iexact Hf
    isplitl [HO]; · iexact HO
    iapply (Transfers.MayWaits.elim (SemLoc.dma (R.is (slot c)).sem)) $$ Hmw
  iintro ⟨⟨Hb, Hi⟩, Hs, HO⟩
  iapply Hk
  isplitr [HO]
  · isplitr [Hi]
    · isplitl [Hb]; · iexact Hb
      iexact Hs
    · iexact Hi
  · iexists _; isplitr
    swap; · iexact HO
    ipureintro; exact owesSince_insert W _ W' hW

/-- Starting the gather of chunk `c`'s rows. -/
theorem gatGo_sound (hG : Gathered R L d fI fT fO hin) (c : Fin 10) (k : PUnit → TileProg F L) (Q : PUnit → sProp (MM F)) :
    iprop((iRes R L d qI fI (slot c) (.loaded c) ∗ gRes R L d qT fT fO (slot c) .idle ∗ wRes R L d fO (slot c) .free)
        ∗ owesSince L d O W ∗ Transfers.MayWaits (thr L d) (default : HIx 2) O)
      ⊢ iprop((((iRes R L d qI fI (slot c) .lent ∗ gRes R L d qT fT fO (slot c) (.going c) ∗ wRes R L d fO (slot c) .lent) ∗ owesSince L d O W) -∗ wpT L d (k ⟨⟩) Q)
          -∗ wpT L d (R.exec L (.gatGo c) >>= k) Q) := by
  unfold iRes gRes wRes ibHas
  iintro ⟨⟨⟨⟨%fi, %hfi, Hb⟩, Hs⟩, ⟨Ht, Hg⟩, ⟨%fr, Hr⟩, Hw⟩, HO, -⟩ Hk
  have hx : ∀ x, ((R.ib (slot c)).view.read (Elt F) fi x).toNat < S100000x128.size gathers_S100000x128_S320x128.axis := by
    intro x; rw [hfi]; exact hin c x
  rw [Ring.exec]
  iapply (SparseCore.wp_indirectGatherLocal EC 𝒱₀ (thr L d) none (src := R.tab) (dst := R.rb (slot c)) (offs := R.ib (slot c)) (hg := gathers_S100000x128_S320x128)
    (default : HIx 2) (R.rb (slot c)).view.dmaCredit (R.hcr _ _) (by decide) hx) $$ [Ht Hr Hb Hg]
  · isplitl [Ht]; · iexact Ht
    isplitl [Hr]; · iexact Hr
    isplitl [Hb]; · iexact Hb
    iexact Hg
  iintro Hf
  iapply Hk
  isplitr [HO]
  · isplitl [Hs]; · iexact Hs
    isplitl [Hf]
    · have hm : iprop(((R.rb (slot c)).view.loc (thr L d) ↦[(R.rb (slot c)).view.set]{fullShare}
            ((R.rb (slot c)).view.write (Elt F) fr (SparseCore.gatherPayload gathers_S100000x128_S320x128 (R.tab.view.read (Elt F) fT)
              (SparseCore.rows ((R.ib (slot c)).view.read (Elt F) fi) (si := S320) rfl hx)) Finset.univ))
            ∗ tabPt R L d qT fT (slot c) ∗ ibPt R L d (slot c) fi)
          ⊢ iprop(rbHas R L d fO (slot c) c ∗ tabPt R L d qT fT (slot c) ∗ ∃ f, ibPt R L d (slot c) f) := by
        iintro ⟨Hr, Ht, Hb⟩
        isplitl [Hr]
        · unfold rbHas; iexists _; isplitr
          swap; · iexact Hr
          ipureintro
          rw [View.read_write_univ, hG c]
          congr 1
          exact rows_congr hfi _ _ _
        isplitl [Ht]; · iexact Ht
        iexists _; iexact Hb
      iapply (Transfers.Flight_mono EC (thr L d) hm); iexact Hf
    · iexact Hw
  · iexact HO

/-- Awaiting it. -/
theorem gatWait_sound (c : Fin 10) (k : PUnit → TileProg F L) (Q : PUnit → sProp (MM F)) :
    iprop((iRes R L d qI fI (slot c) .lent ∗ gRes R L d qT fT fO (slot c) (.going c) ∗ wRes R L d fO (slot c) .lent)
        ∗ owesSince L d O W ∗ Transfers.MayWaits (thr L d) (default : HIx 2) O)
      ⊢ iprop((((iRes R L d qI fI (slot c) .free ∗ gRes R L d qT fT fO (slot c) .idle ∗ wRes R L d fO (slot c) (.has c)) ∗ owesSince L d O W) -∗ wpT L d (k ⟨⟩) Q)
          -∗ wpT L d (R.exec L (.gatWait c) >>= k) Q) := by
  unfold iRes gRes wRes owesSince
  iintro ⟨⟨Hs, Hf, Hw⟩, ⟨%W', %hW, HO⟩, Hmw⟩ Hk
  iapply (Transfers.wp_waitLocalO EC 𝒱₀ (thr L d) none (default : HIx 2) (rfl : (R.rb (slot c)).view.dmaCredit = _)) $$ [Hf HO Hmw]
  · isplitl [Hf]; · iexact Hf
    isplitl [HO]; · iexact HO
    iapply (Transfers.MayWaits.elim (SemLoc.dma (R.gs (slot c)).sem)) $$ Hmw
  iintro ⟨⟨Hr, Ht, Hb⟩, Hg, HO⟩
  iapply Hk
  isplitr [HO]
  · isplitl [Hb Hs]
    · isplitl [Hb]; · iexact Hb
      iexact Hs
    isplitl [Ht Hg]
    · isplitl [Ht]; · iexact Ht
      iexact Hg
    isplitl [Hr]; · iexact Hr
    iexact Hw
  · iexists _; isplitr
    swap; · iexact HO
    ipureintro; exact owesSince_insert W _ W' hW

/-- Starting the copy of chunk `c`'s rows to the result. -/
theorem wrGo_sound (c : Fin 10) (k : PUnit → TileProg F L) (Q : PUnit → sProp (MM F)) :
    iprop((wRes R L d fO (slot c) (.has c) ∗ oRes R L d fO c .todo) ∗ owesSince L d O W ∗ Transfers.MayWaits (thr L d) (default : HIx 2) O)
      ⊢ iprop((((wRes R L d fO (slot c) (.writing c) ∗ oRes R L d fO c .away) ∗ owesSince L d O W) -∗ wpT L d (k ⟨⟩) Q) -∗ wpT L d (R.exec L (.wrGo c) >>= k) Q) := by
  unfold wRes oRes rbHas
  iintro ⟨⟨⟨⟨%fr, %hfr, Hr⟩, Hw⟩, %f, Ho⟩, HO, -⟩ Hk
  iapply (Transfers.wp_dmaLocal EC 𝒱₀ (thr L d) none (src := R.rb (slot c)) (dst := R.ow L c) (sm := .dma (R.ws (slot c)).sem)
    (default : HIx 2) (R.ow L c).view.dmaCredit rfl (View.dmaCredit_pos _ (by decide)) subset_rfl) $$ [Hr Ho Hw]
  · isplitl [Hr]; · iexact Hr
    isplitl [Ho]; · iexact Ho
    iexact Hw
  iintro Hf
  iapply Hk
  isplitl [Hf]
  · isplitl [Hf]
    · have hm : iprop(((R.ow L c).view.loc (thr L d) ↦[(R.ow L c).view.set]{fullShare}
            ((R.ow L c).view.write (Elt F) f ((R.rb (slot c)).view.read (Elt F) fr) Finset.univ)) ∗ rbPt R L d (slot c) fr)
          ⊢ iprop(owPt R L d c fO ∗ ∃ f, rbPt R L d (slot c) f) := by
        iintro ⟨Ho, Hr⟩
        isplitl [Ho]
        · iapply (Entails.of_eq (pointsTo_of_read L d (R.ow L c).view fullShare (g := fO) ((View.read_write_univ _ _).trans hfr))); iexact Ho
        · iexists _; iexact Hr
      iapply (Transfers.Flight_mono EC (thr L d) hm); iexact Hf
    · iempintro
  · iexact HO

/-- Awaiting it. -/
theorem wrWait_sound (c : Fin 10) (k : PUnit → TileProg F L) (Q : PUnit → sProp (MM F)) :
    iprop((wRes R L d fO (slot c) (.writing c) ∗ oRes R L d fO c .away) ∗ owesSince L d O W ∗ Transfers.MayWaits (thr L d) (default : HIx 2) O)
      ⊢ iprop((((wRes R L d fO (slot c) .free ∗ oRes R L d fO c .done) ∗ owesSince L d O W) -∗ wpT L d (k ⟨⟩) Q) -∗ wpT L d (R.exec L (.wrWait c) >>= k) Q) := by
  unfold wRes oRes owesSince
  iintro ⟨⟨Hf, -⟩, ⟨%W', %hW, HO⟩, Hmw⟩ Hk
  iapply (Transfers.wp_waitLocalO EC 𝒱₀ (thr L d) none (default : HIx 2) (rfl : (R.ow L c).view.dmaCredit = _)) $$ [Hf HO Hmw]
  · isplitl [Hf]; · iexact Hf
    isplitl [HO]; · iexact HO
    iapply (Transfers.MayWaits.elim (SemLoc.dma (R.ws (slot c)).sem)) $$ Hmw
  iintro ⟨⟨Ho, Hr⟩, Hw, HO⟩
  iapply Hk
  isplitr [HO]
  · isplitr [Ho]
    · isplitl [Hr]; · iexact Hr
      iexact Hw
    · iexact Ho
  · iexists _; isplitr
    swap; · iexact HO
    ipureintro; exact owesSince_insert W _ W' hW

/-- A step a state admits runs, from what the state holds to what the next state holds. -/
theorem step_sound (hG : Gathered R L d fI fT fO hin) (s : Step) (σ σ' : St) (h : σ.step s = some σ') (k : PUnit → TileProg F L) (Q : PUnit → sProp (MM F)) :
    iprop(σ.res R L d qI qT fI fT fO ∗ owesSince L d O W ∗ Transfers.MayWaits (thr L d) (default : HIx 2) O)
      ⊢ iprop(((σ'.res R L d qI qT fI fT fO ∗ owesSince L d O W) -∗ wpT L d (k ⟨⟩) Q) -∗ wpT L d (R.exec L s >>= k) Q) := by
  cases s with
  | idxGo c =>
    simp only [St.step, Option.ite_none_right_eq_some, Option.some.injEq] at h
    obtain ⟨⟨h1, h2⟩, rfl⟩ := h
    unfold St.res
    iintro ⟨⟨Hi, Hg, Hw, Hh, Ho⟩, HO, Hmw⟩ Hk
    ihave Hi := (bigSep_out (iRes R L d qI fI) σ.i (slot c) h1) $$ Hi
    ihave Hh := (bigSep_out (hRes R L d qI fI) σ.h c h2) $$ Hh
    icases Hi with ⟨Hi, Hi'⟩
    icases Hh with ⟨Hh, Hh'⟩
    iapply (idxGo_sound R L d qI fI O W c k Q) $$ [Hi Hh HO Hmw]
    · isplitl [Hi Hh]
      · isplitl [Hi]; · iexact Hi
        iexact Hh
      isplitl [HO]; · iexact HO
      iexact Hmw
    iintro ⟨⟨Hi, Hh⟩, HO⟩
    iapply Hk
    isplitr [HO]
    swap; · iexact HO
    isplitl [Hi Hi']; · iapply Hi'; iexact Hi
    isplitl [Hg]; · iexact Hg
    isplitl [Hw]; · iexact Hw
    isplitl [Hh Hh']; · iapply Hh'; iexact Hh
    iexact Ho
  | idxWait c =>
    simp only [St.step, Option.ite_none_right_eq_some, Option.some.injEq] at h
    obtain ⟨⟨h1, h2⟩, rfl⟩ := h
    unfold St.res
    iintro ⟨⟨Hi, Hg, Hw, Hh, Ho⟩, HO, Hmw⟩ Hk
    ihave Hi := (bigSep_out (iRes R L d qI fI) σ.i (slot c) h1) $$ Hi
    ihave Hh := (bigSep_out (hRes R L d qI fI) σ.h c h2) $$ Hh
    icases Hi with ⟨Hi, Hi'⟩
    icases Hh with ⟨Hh, Hh'⟩
    iapply (idxWait_sound R L d qI fI O W c k Q) $$ [Hi Hh HO Hmw]
    · isplitl [Hi Hh]
      · isplitl [Hi]; · iexact Hi
        iexact Hh
      isplitl [HO]; · iexact HO
      iexact Hmw
    iintro ⟨⟨Hi, Hh⟩, HO⟩
    iapply Hk
    isplitr [HO]
    swap; · iexact HO
    isplitl [Hi Hi']; · iapply Hi'; iexact Hi
    isplitl [Hg]; · iexact Hg
    isplitl [Hw]; · iexact Hw
    isplitl [Hh Hh']; · iapply Hh'; iexact Hh
    iexact Ho
  | gatGo c =>
    simp only [St.step, Option.ite_none_right_eq_some, Option.some.injEq] at h
    obtain ⟨⟨h1, h2, h3⟩, rfl⟩ := h
    unfold St.res
    iintro ⟨⟨Hi, Hg, Hw, Hh, Ho⟩, HO, Hmw⟩ Hk
    ihave Hi := (bigSep_out (iRes R L d qI fI) σ.i (slot c) h1) $$ Hi
    ihave Hg := (bigSep_out (gRes R L d qT fT fO) σ.g (slot c) h2) $$ Hg
    ihave Hw := (bigSep_out (wRes R L d fO) σ.w (slot c) h3) $$ Hw
    icases Hi with ⟨Hi, Hi'⟩
    icases Hg with ⟨Hg, Hg'⟩
    icases Hw with ⟨Hw, Hw'⟩
    iapply (gatGo_sound R L d qI qT fI fT fO hin O W hG c k Q) $$ [Hi Hg Hw HO Hmw]
    · isplitl [Hi Hg Hw]
      · isplitl [Hi]; · iexact Hi
        isplitl [Hg]; · iexact Hg
        iexact Hw
      isplitl [HO]; · iexact HO
      iexact Hmw
    iintro ⟨⟨Hi, Hg, Hw⟩, HO⟩
    iapply Hk
    isplitr [HO]
    swap; · iexact HO
    isplitl [Hi Hi']; · iapply Hi'; iexact Hi
    isplitl [Hg Hg']; · iapply Hg'; iexact Hg
    isplitl [Hw Hw']; · iapply Hw'; iexact Hw
    isplitl [Hh]; · iexact Hh
    iexact Ho
  | gatWait c =>
    simp only [St.step, Option.ite_none_right_eq_some, Option.some.injEq] at h
    obtain ⟨⟨h1, h2, h3⟩, rfl⟩ := h
    unfold St.res
    iintro ⟨⟨Hi, Hg, Hw, Hh, Ho⟩, HO, Hmw⟩ Hk
    ihave Hi := (bigSep_out (iRes R L d qI fI) σ.i (slot c) h1) $$ Hi
    ihave Hg := (bigSep_out (gRes R L d qT fT fO) σ.g (slot c) h2) $$ Hg
    ihave Hw := (bigSep_out (wRes R L d fO) σ.w (slot c) h3) $$ Hw
    icases Hi with ⟨Hi, Hi'⟩
    icases Hg with ⟨Hg, Hg'⟩
    icases Hw with ⟨Hw, Hw'⟩
    iapply (gatWait_sound R L d qI qT fI fT fO O W c k Q) $$ [Hi Hg Hw HO Hmw]
    · isplitl [Hi Hg Hw]
      · isplitl [Hi]; · iexact Hi
        isplitl [Hg]; · iexact Hg
        iexact Hw
      isplitl [HO]; · iexact HO
      iexact Hmw
    iintro ⟨⟨Hi, Hg, Hw⟩, HO⟩
    iapply Hk
    isplitr [HO]
    swap; · iexact HO
    isplitl [Hi Hi']; · iapply Hi'; iexact Hi
    isplitl [Hg Hg']; · iapply Hg'; iexact Hg
    isplitl [Hw Hw']; · iapply Hw'; iexact Hw
    isplitl [Hh]; · iexact Hh
    iexact Ho
  | wrGo c =>
    simp only [St.step, Option.ite_none_right_eq_some, Option.some.injEq] at h
    obtain ⟨⟨h1, h2⟩, rfl⟩ := h
    unfold St.res
    iintro ⟨⟨Hi, Hg, Hw, Hh, Ho⟩, HO, Hmw⟩ Hk
    ihave Hw := (bigSep_out (wRes R L d fO) σ.w (slot c) h1) $$ Hw
    ihave Ho := (bigSep_out (oRes R L d fO) σ.o c h2) $$ Ho
    icases Hw with ⟨Hw, Hw'⟩
    icases Ho with ⟨Ho, Ho'⟩
    iapply (wrGo_sound R L d fO O W c k Q) $$ [Hw Ho HO Hmw]
    · isplitl [Hw Ho]
      · isplitl [Hw]; · iexact Hw
        iexact Ho
      isplitl [HO]; · iexact HO
      iexact Hmw
    iintro ⟨⟨Hw, Ho⟩, HO⟩
    iapply Hk
    isplitr [HO]
    swap; · iexact HO
    isplitl [Hi]; · iexact Hi
    isplitl [Hg]; · iexact Hg
    isplitl [Hw Hw']; · iapply Hw'; iexact Hw
    isplitl [Hh]; · iexact Hh
    iapply Ho'; iexact Ho
  | wrWait c =>
    simp only [St.step, Option.ite_none_right_eq_some, Option.some.injEq] at h
    obtain ⟨⟨h1, h2⟩, rfl⟩ := h
    unfold St.res
    iintro ⟨⟨Hi, Hg, Hw, Hh, Ho⟩, HO, Hmw⟩ Hk
    ihave Hw := (bigSep_out (wRes R L d fO) σ.w (slot c) h1) $$ Hw
    ihave Ho := (bigSep_out (oRes R L d fO) σ.o c h2) $$ Ho
    icases Hw with ⟨Hw, Hw'⟩
    icases Ho with ⟨Ho, Ho'⟩
    iapply (wrWait_sound R L d fO O W c k Q) $$ [Hw Ho HO Hmw]
    · isplitl [Hw Ho]
      · isplitl [Hw]; · iexact Hw
        iexact Ho
      isplitl [HO]; · iexact HO
      iexact Hmw
    iintro ⟨⟨Hw, Ho⟩, HO⟩
    iapply Hk
    isplitr [HO]
    swap; · iexact HO
    isplitl [Hi]; · iexact Hi
    isplitl [Hg]; · iexact Hg
    isplitl [Hw Hw']; · iapply Hw'; iexact Hw
    isplitl [Hh]; · iexact Hh
    iapply Ho'; iexact Ho

/-- A list of steps that leads from one state to another runs from what the one holds to what the other holds. -/
theorem run_sound (hO : ∀ g, O g none = 0) (hG : Gathered R L d fI fT fO hin) (l : List Step) : ∀ (σ σ' : St), σ.steps l = some σ' →
    iprop(levAts (K (F := F)).L (K (F := F)).lev ∗ σ.res R L d qI qT fI fT fO ∗ owesSince L d O W)
      ⊢ wpT L d (R.execs L l) fun _ => iprop(σ'.res R L d qI qT fI fT fO ∗ owesSince L d O W) := by
  induction l with
  | nil =>
    intro σ σ' h
    obtain rfl : σ = σ' := Option.some.inj h
    unfold Ring.execs wpT
    rw [wp_pure]
    iintro ⟨-, Hr, HO⟩
    imodintro
    isplitl [Hr]; · iexact Hr
    iexact HO
  | cons s l ih =>
    intro σ σ' h
    obtain ⟨σ₁, h1, h2⟩ := Option.bind_eq_some_iff.mp h
    iintro ⟨#Hlv, Hr, HO⟩
    ihave Hmw := (show levAts (K (F := F)).L (K (F := F)).lev ⊢ Transfers.MayWaits (thr L d) (default : HIx 2) O from
      (K (F := F)).mayWaits_none (thr := thr L d) hO) $$ Hlv
    iapply (step_sound R L d qI qT fI fT fO hin O W hG s σ σ₁ h1 (fun _ => R.execs L l) _) $$ [Hr HO Hmw]
    · isplitl [Hr]; · iexact Hr
      isplitl [HO]; · iexact HO
      iexact Hmw
    iintro ⟨Hr, HO⟩
    iapply (ih σ₁ σ' h2)
    isplitr; · iexact Hlv
    isplitl [Hr]; · iexact Hr
    iexact HO

end Run

end Cert.Proof.Tile
-- ==== Proof.TileOwn.lean ====
/-
  A gather tile from what its launch hands it.

  The launch hands a tile its own buffers and semaphores; the ring's six buffers and nine semaphores are taken out of
  them for the run and put back after it. `tile_sound` is the run of a whole tile: from its row numbers, its shares of
  the table and its part of the result to the same with the rows gathered.
-/
module

public import proofs.«01_k».proof.Proof.TileRun

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

omit [FloatOps F] in
/-- A family of a set's elements taken out of it. -/
theorem take_family {ι A : Type} [Fintype ι] [DecidableEq ι] [DecidableEq A] (s : Finset A) (f : ι → A) (hf : Function.Injective f)
    (hm : ∀ i, f i ∈ s) (Φ : A → sProp (MM F)) :
    bigSep s Φ = iprop((bigSep Finset.univ fun i => Φ (f i)) ∗ bigSep (s \ Finset.univ.image f) Φ) := by
  rw [SparseCore.bigSep_sdiff_split' (s := s) (t := Finset.univ.image f) (by
    intro x hx; obtain ⟨i, -, rfl⟩ := Finset.mem_image.mp hx; exact hm i), SparseCore.bigSep_image_of_injOn hf.injOn]

namespace Ring

variable (R : Ring)

/-- The ring's buffers and semaphores. -/
def bref : Fin 3 ⊕ Fin 3 → Ref sig .scVector := Sum.elim (fun j => (R.ib j).view.ref) (fun j => (R.rb j).view.ref)
def sref : Fin 3 ⊕ (Fin 3 ⊕ Fin 3) → SemLoc sig :=
  Sum.elim (fun j => .dma (R.is j).sem) (Sum.elim (fun j => .dma (R.gs j).sem) (fun j => .dma (R.ws j).sem))

/-- They are distinct, the tile's own, and scoped. -/
structure Own : Prop where
  binj : Function.Injective R.bref
  bown : ∀ x c i, ((Proc.scVector c i : Proc τ).devRef (R.bref x)).owner = .proc (.scVector c i)
  sinj : Function.Injective R.sref
  sscoped : ∀ x, (R.sref x).isScoped .scVector = true

end Ring

variable (R : Ring) (hR : R.Own) (L : grid0.Coords) (d : Dev nD)

/-- The tile's other buffers and semaphores. -/
def bufsRest : sProp (MM F) :=
  bigSep (ownRefs (thr L d).2 \ Finset.univ.image fun x => (thr L d).2.devRef (R.bref x)) fun b => iprop(∃ f, ((thr L d).1, b) ↦{fullShare} f)
def semsRest : sProp (MM F) :=
  bigSep (ownCells (thr L d) \ Finset.univ.image fun x => ((thr L d, R.sref x) : GSem nD τ sig)) fun g => semVal g 0

include hR in
omit [FloatOps F] in
theorem ownBufs_eq : (ownBufs (thr L d) : sProp (MM F))
    = iprop(((bigSep Finset.univ fun j => iprop(∃ f, ibPt R L d j f)) ∗ (bigSep Finset.univ fun j => iprop(∃ f, rbPt R L d j f))) ∗ bufsRest R L d) := by
  refine (take_family (ownRefs (thr L d).2) (fun x => (thr L d).2.devRef (R.bref x)) (fun x y h => hR.binj (Proc.devRef_injective _ h))
    (fun x => SparseCore.Cfg.mem_ownRefs_of_owner (hR.bown x _ _)) (fun b => iprop(∃ f, ((thr L d).1, b) ↦{fullShare} f))).trans ?_
  refine congrArg (fun A : sProp (MM F) => iprop(A ∗ bufsRest R L d)) ?_
  rw [bigSep_univ_sum]
  refine congrArg₂ (fun A B : sProp (MM F) => iprop(A ∗ B)) (bigSep_congr fun j _ => ?_) (bigSep_congr fun j _ => ?_)
  · unfold ibPt; rw [(R.hib j).set_eq_univ]; rfl
  · unfold rbPt; rw [(R.hrb j).set_eq_univ]; rfl

include hR in
omit [FloatOps F] in
theorem ownSems_eq : (ownSems0 (thr L d) : sProp (MM F))
    = iprop(((bigSep Finset.univ fun j => semVal (iCell R L d j) 0) ∗ (bigSep Finset.univ fun j => semVal (gCell R L d j) 0)
        ∗ (bigSep Finset.univ fun j => semVal (wCell R L d j) 0)) ∗ semsRest R L d) := by
  unfold SparseCore.Cfg.ownSems0 semsRest
  rw [take_family _ (fun x => ((thr L d, R.sref x) : GSem nD τ sig)) (fun x y h => hR.sinj (Prod.mk.inj h).2)
    (fun x => mem_ownCells.mpr ⟨rfl, hR.sscoped x⟩), bigSep_univ_sum, bigSep_univ_sum]
  rfl

variable (qI : PosShare TreeShare) (qT : Fin 3 → PosShare TreeShare)
  (fI : Buf (Elt F) (R.I.view.loc (thr L d))) (fT : Buf (Elt F) (R.T.view.loc (thr L d))) (fO : Buf (Elt F) (R.O.view.loc (thr L d)))

/-- What a tile is handed of the three arrays, -/
def tileIn : sProp (MM F) :=
  iprop((bigSep Finset.univ fun j => tabPt R L d qT fT j) ∗ (bigSep Finset.univ fun c => iwPt R L d qI fI c)
    ∗ bigSep Finset.univ fun c => iprop(∃ f, owPt R L d c f))
/-- and what it brings back: its part of the result holds `fO`. -/
def tileOut : sProp (MM F) :=
  iprop((bigSep Finset.univ fun j => tabPt R L d qT fT j) ∗ (bigSep Finset.univ fun c => iwPt R L d qI fI c)
    ∗ bigSep Finset.univ fun c => owPt R L d c fO)

omit [FloatOps F] in
theorem first_eq : St.first.res R L d qI qT fI fT fO
    = iprop(((bigSep Finset.univ fun j => iprop(∃ f, ibPt R L d j f)) ∗ (bigSep Finset.univ fun j => semVal (iCell R L d j) 0))
      ∗ ((bigSep Finset.univ fun j => tabPt R L d qT fT j) ∗ (bigSep Finset.univ fun j => semVal (gCell R L d j) 0))
      ∗ ((bigSep Finset.univ fun j => iprop(∃ f, rbPt R L d j f)) ∗ (bigSep Finset.univ fun j => semVal (wCell R L d j) 0))
      ∗ (bigSep Finset.univ fun c => iwPt R L d qI fI c) ∗ bigSep Finset.univ fun c => iprop(∃ f, owPt R L d c f)) := by
  rw [← BI.bigSep_sep', ← BI.bigSep_sep', ← BI.bigSep_sep']; rfl

omit [FloatOps F] in
theorem last_eq : St.last.res R L d qI qT fI fT fO
    = iprop(((bigSep Finset.univ fun j => iprop(∃ f, ibPt R L d j f)) ∗ (bigSep Finset.univ fun j => semVal (iCell R L d j) 0))
      ∗ ((bigSep Finset.univ fun j => tabPt R L d qT fT j) ∗ (bigSep Finset.univ fun j => semVal (gCell R L d j) 0))
      ∗ ((bigSep Finset.univ fun j => iprop(∃ f, rbPt R L d j f)) ∗ (bigSep Finset.univ fun j => semVal (wCell R L d j) 0))
      ∗ (bigSep Finset.univ fun c => iwPt R L d qI fI c) ∗ bigSep Finset.univ fun c => owPt R L d c fO) := by
  rw [← BI.bigSep_sep', ← BI.bigSep_sep', ← BI.bigSep_sep']; rfl

variable (hin : ∀ (c : Fin 10) (x : S320.Idx), ((R.iw L c).view.read (Elt F) fI x).toNat < S100000x128.size gathers_S100000x128_S320x128.axis)
variable (O : CellTallies nD τ sig (HIx 2)) (W : Waits sig (HIx 2))

include hR in
/-- The run of a whole tile. -/
theorem tile_sound (hF : (K (F := F)).Facts) (hO : ∀ g, O g none = 0) (hG : Gathered R L d fI fT fO hin) :
    iprop(levAts (K (F := F)).L (K (F := F)).lev ∗ tileIn R L d qI qT fI fT
        ∗ scopedBufs (thr L d) ∗ scopedSems0 (thr L d) ∗ owes (thr L d) O W)
      ⊢ wpT L d (R.execs L steps) fun _ =>
        iprop(tileOut R L d qI qT fI fT fO ∗ scopedBufs (thr L d) ∗ scopedSems0 (thr L d) ∗ owesSince L d O W) := by
  have key := run_sound R L d qI qT fI fT fO hin O W hO hG steps St.first St.last steps_last
  rw [first_eq, last_eq] at key
  rw [(K (F := F)).scopedBufs_V hF d _ _, SparseCore.Cfg.scopedSems0_V (Val := Elt F) d _ _]
  rw [show (ownBufs (V d ((L 0).castLE hcore0) ((L 1).castLE hsub0)) : sProp (MM F)) = _ from ownBufs_eq R hR L d,
    show (ownSems0 (V d ((L 0).castLE hcore0) ((L 1).castLE hsub0)) : sProp (MM F)) = _ from ownSems_eq R hR L d]
  unfold tileIn tileOut
  iintro ⟨#Hlv, ⟨Ht, Hi, Ho⟩, ⟨⟨Hib, Hrb⟩, Hbr⟩, ⟨⟨Hsi, Hsg, Hsw⟩, Hsr⟩, HO⟩
  iapply (wp_wand_r frame _ _)
  isplitr [Hbr Hsr]
  · iapply key
    isplitr; · iexact Hlv
    isplitr [HO]
    · isplitl [Hib Hsi]; · isplitl [Hib] <;> iassumption
      isplitl [Ht Hsg]; · isplitl [Ht] <;> iassumption
      isplitl [Hrb Hsw]; · isplitl [Hrb] <;> iassumption
      isplitl [Hi] <;> iassumption
    · unfold owesSince; iexists W; isplitr
      · ipureintro; exact fun p hp => .inl hp
      iexact HO
  · iintro %u ⟨⟨⟨Hib, Hsi⟩, ⟨Ht, Hsg⟩, ⟨Hrb, Hsw⟩, Hi, Ho⟩, HO⟩
    isplitl [Ht Hi Ho]
    · isplitl [Ht]; · iexact Ht
      isplitl [Hi] <;> iassumption
    isplitl [Hib Hrb Hbr]
    · isplitr [Hbr]
      · isplitl [Hib] <;> iassumption
      iexact Hbr
    isplitl [Hsi Hsg Hsw Hsr]
    · isplitr [Hsr]
      · isplitl [Hsi]; · iexact Hsi
        isplitl [Hsg] <;> iassumption
      iexact Hsr
    iexact HO

end Cert.Proof.Tile
-- ==== Proof.TileMem.lean ====
/-
  The memory of a gather call.

  `gath` is what a gather call leaves: row `y` of the result is the row of the table that entry `y` of the row numbers
  names. The 32 tiles' ten chunks each cut the row numbers and the result up, and the table goes out in 96 shares, one
  for each slot of each tile.
-/
module

public import proofs.«01_k».proof.Proof.TileOwn
public import proofs.«01_k».proof.Proof.Windows
public import Idealize.ShloMosaic.Lib.ValueLayout
public import Idealize.ShloMosaic.Lib.Transfers

@[expose] public section

noncomputable section

namespace Cert.Proof.Tile

open Cert.KernelIdeal Cert.KernelIdeal.Gen
open Idealize.ShloMosaic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The gathered rows: row `y` is the table's row at entry `y` of the row numbers. -/
def gath {α : Type} (I : S102400.Idx → BitVec 32) (T : S100000x128.Idx → α) : S102400x128.Idx → α := fun y =>
  T (ix2 (⟨(I (ix1 (y 0 : Fin 102400))).toNat % 100000, Nat.mod_lt _ (by decide)⟩ : Fin 100000) (y 1 : Fin 128))

/-- The coordinates of tile `i` of SparseCore `c`. -/
def co (c : Fin 2) (i : Fin 16) : grid0.Coords := fun
  | 0 => c
  | 1 => i
  | ⟨_ + 2, h⟩ => (Nat.not_lt.mpr (Nat.le_add_left 2 _) h).elim

theorem ix_two_ext {e : Fin 2 → Nat} {x y : (⟨2, e⟩ : Shape).Idx} (h0 : (x 0).val = (y 0).val) (h1 : (x 1).val = (y 1).val) : x = y :=
  funext fun a => by
    fin_cases a
    · exact Fin.ext h0
    · exact Fin.ext h1

theorem symm_S320 (k : Fin S320.numel) : ((S320.rowMajor.symm k) 0).val = k.val := by
  have h := Shape.rowMajor_val_one (S320.rowMajor.symm k)
  rw [Equiv.apply_symm_apply] at h
  exact h.symm

section Value
variable (R : Ring) (L : grid0.Coords) (d : Dev nD) (fI : Buf (Elt F) (R.I.view.loc (thr L d))) (fT : Buf (Elt F) (R.T.view.loc (thr L d)))
  (fO : Buf (Elt F) (R.O.view.loc (thr L d)))

omit [FloatOps F] in
/-- Row numbers in range are so in each chunk. -/
theorem chunk_in (hI : ∀ x, (R.I.view.read (Elt F) fI x).toNat < 100000) (c : Fin 10) (x : S320.Idx) :
    ((R.iw L c).view.read (Elt F) fI x).toNat < S100000x128.size gathers_S100000x128_S320x128.axis :=
  hI ((Rect.unit (s := S102400) (offI L c) S320.size (inbI L c)).emb x)

omit [FloatOps F] in
/-- A result that is the gathered rows has every chunk gathered. -/
theorem gathered_of (hI : ∀ x, (R.I.view.read (Elt F) fI x).toNat < 100000)
    (h : R.O.view.read (Elt F) fO = gath (R.I.view.read (Elt F) fI) (R.T.view.read (Elt F) fT)) :
    Gathered R L d fI fT fO (chunk_in R L d fI hI) := by
  intro c
  funext y
  have hy0 : (y 0).val < 320 := (y 0).isLt
  have hy1 : (y 1).val < 128 := (y 1).isLt
  have hl : (R.ow L c).view.read (Elt F) fO y
      = R.O.view.read (Elt F) fO ((Rect.unit (s := S102400x128) (offO L c) S320x128.size (inbO L c)).emb y) := rfl
  refine hl.trans ((congrFun h _).trans ?_)
  unfold gath SparseCore.gatherPayload
  have ht : ∀ z, R.tab.view.read (Elt F) fT z = R.T.view.read (Elt F) fT
      ((Rect.unit (s := S100000x128) ![0, 0] S100000x128.size inb_S100000x128_S100000x128_0_0).emb z) := fun _ => rfl
  refine Eq.trans ?_ (ht _).symm
  refine congrArg _ (ix_two_ext ?_ ?_)
  · show (R.I.view.read (Elt F) fI _).toNat % 100000 = 0 + 1 * (R.I.view.read (Elt F) fI _).toNat
    rw [Nat.mod_eq_of_lt (hI _), Nat.zero_add, Nat.one_mul]
    refine congrArg (fun z => (R.I.view.read (Elt F) fI z).toNat) (Shape.idx1_ext ?_)
    show offO L c 0 + 1 * (y 0).val = offI L c 0 + 1 * ((S320.rowMajor.symm _) 0).val
    rw [offO_eq, offI_eq, symm_S320]
    rfl
  · show offO L c 1 + 1 * (y 1).val = 0 + 1 * (y 1).val
    rw [offO_eq]
    rfl

end Value

section Split
variable (R : Ring) (thr0 : grid0.Coords) (d : Dev nD)

theorem ix_bounds (c : Fin 2) (i : Fin 16) (k : Fin 10) : offI (co c i) k 0 = 6400 * i.val + 3200 * c.val + 320 * k.val := by
  rw [offI_eq]; rfl
theorem ox_bounds (c : Fin 2) (i : Fin 16) (k : Fin 10) : offO (co c i) k 0 = 6400 * i.val + 3200 * c.val + 320 * k.val := by
  rw [offO_eq]; rfl
theorem ox_bounds1 (c : Fin 2) (i : Fin 16) (k : Fin 10) : offO (co c i) k 1 = 0 := by
  rw [offO_eq]; rfl

omit [FloatOps F] in
/-- The row numbers are the tiles' chunks. -/
theorem idx_split (q : PosShare TreeShare) (f : Buf (Elt F) (R.I.view.loc (thr thr0 d))) :
    (R.I.view.loc (thr thr0 d) ↦[R.I.view.set]{q} f : sProp (MM F))
      = bigSep Finset.univ fun t : Fin 2 × Fin 16 × Fin 10 => R.I.view.loc (thr thr0 d) ↦[(R.iw (co t.1 t.2.1) t.2.2).view.set]{q} f := by
  refine pointsTo_slices (F := F) (thr thr0 d) R.I.view
    (fun t : Fin 2 × Fin 16 × Fin 10 => Rect.unit (s := S102400) (offI (co t.1 t.2.1) t.2.2) S320.size (inbI _ _)) ?_ ?_ q f
  · rintro ⟨c, i, k⟩ ⟨c', i', k'⟩ ht
    rw [Finset.disjoint_left]
    intro x hx hx'
    have a : offI (co c i) k 0 ≤ (x 0).val ∧ (x 0).val < offI (co c i) k 0 + 320 := (Rect.mem_set_unit.mp hx) 0
    have b : offI (co c' i') k' 0 ≤ (x 0).val ∧ (x 0).val < offI (co c' i') k' 0 + 320 := (Rect.mem_set_unit.mp hx') 0
    rw [ix_bounds] at a b
    exact ht (by
      have h1 : c = c' := Fin.ext (by omega)
      have h2 : i = i' := Fin.ext (by omega)
      have h3 : k = k' := Fin.ext (by omega)
      rw [h1, h2, h3])
  · intro x
    have hx : (x 0).val < 102400 := (x 0).isLt
    refine ⟨(⟨(x 0).val / 3200 % 2, by omega⟩, ⟨(x 0).val / 6400, by omega⟩, ⟨(x 0).val / 320 % 10, by omega⟩), Rect.mem_set_unit.mpr fun a => ?_⟩
    fin_cases a
    show offI _ _ 0 ≤ (x 0).val ∧ (x 0).val < offI _ _ 0 + 320
    rw [ix_bounds]
    constructor <;> simp only <;> omega

omit [FloatOps F] in
/-- The result is the tiles' chunks. -/
theorem out_split (q : PosShare TreeShare) (f : Buf (Elt F) (R.O.view.loc (thr thr0 d))) :
    (R.O.view.loc (thr thr0 d) ↦[R.O.view.set]{q} f : sProp (MM F))
      = bigSep Finset.univ fun t : Fin 2 × Fin 16 × Fin 10 => R.O.view.loc (thr thr0 d) ↦[(R.ow (co t.1 t.2.1) t.2.2).view.set]{q} f := by
  refine pointsTo_slices (F := F) (thr thr0 d) R.O.view
    (fun t : Fin 2 × Fin 16 × Fin 10 => Rect.unit (s := S102400x128) (offO (co t.1 t.2.1) t.2.2) S320x128.size (inbO _ _)) ?_ ?_ q f
  · rintro ⟨c, i, k⟩ ⟨c', i', k'⟩ ht
    rw [Finset.disjoint_left]
    intro x hx hx'
    have a : offO (co c i) k 0 ≤ (x 0).val ∧ (x 0).val < offO (co c i) k 0 + 320 := (Rect.mem_set_unit.mp hx) 0
    have b : offO (co c' i') k' 0 ≤ (x 0).val ∧ (x 0).val < offO (co c' i') k' 0 + 320 := (Rect.mem_set_unit.mp hx') 0
    rw [ox_bounds] at a b
    exact ht (by
      have h1 : c = c' := Fin.ext (by omega)
      have h2 : i = i' := Fin.ext (by omega)
      have h3 : k = k' := Fin.ext (by omega)
      rw [h1, h2, h3])
  · intro x
    have hx : (x 0).val < 102400 := (x 0).isLt
    have hx1 : (x 1).val < 128 := (x 1).isLt
    refine ⟨(⟨(x 0).val / 3200 % 2, by omega⟩, ⟨(x 0).val / 6400, by omega⟩, ⟨(x 0).val / 320 % 10, by omega⟩), Rect.mem_set_unit.mpr fun a => ?_⟩
    fin_cases a
    · show offO _ _ 0 ≤ (x 0).val ∧ (x 0).val < offO _ _ 0 + 320
      rw [ox_bounds]
      constructor <;> simp only <;> omega
    · show offO _ _ 1 ≤ (x 1).val ∧ (x 1).val < offO _ _ 1 + 128
      rw [ox_bounds1]
      omega

omit thr0 d in
/-- The table as a gather addresses it is the whole table. -/
theorem tab_set : R.tab.view.set = Finset.univ := by
  have h : (Rect.unit (s := S100000x128) ![0, 0] S100000x128.size inb_S100000x128_S100000x128_0_0).set = Finset.univ := by
    ext x
    refine ⟨fun _ => Finset.mem_univ _, fun _ => Rect.mem_set_unit.mpr fun a => ?_⟩
    fin_cases a
    · exact ⟨Nat.zero_le _, by have : (x 0).val < 100000 := (x 0).isLt; show (x 0).val < 0 + 100000; omega⟩
    · exact ⟨Nat.zero_le _, by have : (x 1).val < 128 := (x 1).isLt; show (x 1).val < 0 + 128; omega⟩
  show (R.T.view.slice (Rect.unit (s := S100000x128) ![0, 0] S100000x128.size inb_S100000x128_S100000x128_0_0)).set = _
  rw [View.set_slice, h]
  exact R.hT.set_eq_univ

end Split

end Cert.Proof.Tile
-- ==== Proof.Sc0.lean ====
/-
  Gather call 0: the ring its tiles are called with, what a tile is handed and hands back, and how the three arrays of
  the call are handed out to the tiles and come back.
-/
module

public import proofs.«01_k».proof.Proof.TileMem

@[expose] public section

noncomputable section

namespace Cert.Proof.Sc0

open Cert.KernelIdeal Cert.KernelIdeal.Gen
open Cert.Proof.Tile
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the tiles of this call are called with. -/
abbrev ring : Ring where
  I := Memref.whole main_v4_scv
  hI := Memref.isWhole_whole _
  T := Memref.whole main_arg1_scv
  hT := Memref.isWhole_whole _
  O := Memref.whole main_v5_scv
  hO := Memref.isWhole_whole _
  ib := fun | 0 => Memref.whole cc0_scratch0 | 1 => Memref.whole cc0_scratch1 | 2 => Memref.whole cc0_scratch2
  hib := fun | 0 => Memref.isWhole_whole _ | 1 => Memref.isWhole_whole _ | 2 => Memref.isWhole_whole _
  rb := fun | 0 => Memref.whole cc0_scratch3 | 1 => Memref.whole cc0_scratch4 | 2 => Memref.whole cc0_scratch5
  hrb := fun | 0 => Memref.isWhole_whole _ | 1 => Memref.isWhole_whole _ | 2 => Memref.isWhole_whole _
  is := fun | 0 => cc0_scratch6 | 1 => cc0_scratch7 | 2 => cc0_scratch8
  gs := fun | 0 => cc0_scratch9 | 1 => cc0_scratch10 | 2 => cc0_scratch11
  ws := fun | 0 => cc0_scratch12 | 1 => cc0_scratch13 | 2 => cc0_scratch14
  hcr := fun | 0 => by decide +kernel | 1 => by decide +kernel | 2 => by decide +kernel

/-- The ring's buffers and semaphores are distinct and the tile's own. -/
theorem own : ring.Own where
  binj := by
    rintro (a | a) (b | b) h <;> fin_cases a <;> fin_cases b <;> first | rfl | (revert h; decide)
  bown := by
    rintro (a | a) c i <;> fin_cases a <;> rfl
  sinj := by
    rintro (a | a | a) (b | b | b) h <;> fin_cases a <;> fin_cases b <;> first | rfl | (revert h; decide)
  sscoped := by
    rintro (a | a | a) <;> fin_cases a <;> decide

variable (d : Dev nD) (fI : S102400.Idx → Elt F .i32) (fT : S100000x128.Idx → Elt F .f32)

/-- The share of the table for each slot of a tile. -/
def tok (c : Fin 2) (i : Fin 16) (j : Fin 3) : PosShare TreeShare := Transfers.shareTokN fullShare (48 * c.val + 3 * i.val + j.val)

/-- What tile `i` of SparseCore `c` is handed, and what it hands back. -/
def go (c : Fin 2) (i : Fin 16) : sProp (MM F) := tileIn ring (co c i) d fullShare (tok c i) fI fT
def td (c : Fin 2) (i : Fin 16) : sProp (MM F) := tileOut ring (co c i) d fullShare (tok c i) fI fT (gath fI fT)

omit [FloatOps F] in
/-- Memory a signal may carry. -/
theorem pts_storable (ℓ : Loc nD τ sig) (I : Finset (Idx ℓ)) (q : PosShare TreeShare) (f : Buf (Elt F) ℓ) :
    BI.Storable (upEmb : UEmb _ (MM F)) (ℓ ↦[I]{q} f : sProp (MM F)) := inferInstance

set_option backward.isDefEq.respectTransparency.types false in
instance go_storable (c : Fin 2) (i : Fin 16) : BI.Storable (upEmb : UEmb _ (MM F)) (go d fI fT c i) := by
  unfold go tileIn
  infer_instance
set_option backward.isDefEq.respectTransparency.types false in
instance td_storable (c : Fin 2) (i : Fin 16) : BI.Storable (upEmb : UEmb _ (MM F)) (td d fI fT c i) := by
  unfold td tileOut; infer_instance

set_option backward.isDefEq.respectTransparency.types false in
/-- A tile's run, from what the launch hands it. -/
theorem tile (hF : (K (F := F)).Facts) (hI : ∀ x, (fI x).toNat < 100000) (c : Fin 2) (i : Fin 16)
    (O : CellTallies nD τ sig (HIx 2)) (W : Waits sig (HIx 2)) (hO : ∀ g, O g none = 0) :
    iprop(levAts (K (F := F)).L (K (F := F)).lev ∗ emp ∗ go d fI fT c i ∗ scopedBufs (thr (co c i) d) ∗ scopedSems0 (thr (co c i) d)
        ∗ owes (thr (co c i) d) O W)
      ⊢ wpT (co c i) d (cc0_gather_k (F := F) (co c i) (Memref.whole main_v4_scv) (Memref.isWhole_whole _) (Memref.whole main_arg1_scv) (Memref.isWhole_whole _)
          (Memref.whole main_v5_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13 cc0_scratch14)
        fun _ => iprop(td d fI fT c i ∗ scopedBufs (thr (co c i) d) ∗ scopedSems0 (thr (co c i) d)
          ∗ ∃ W', ⌜∀ p ∈ W', p ∈ W ∨ p.2 = none⌝ ∗ owes (thr (co c i) d) O W') := by
  have hG := gathered_of (F := F) ring (co c i) d fI fT (gath fI fT) hI rfl
  have h := tile_sound ring own (co c i) d fullShare (tok c i) fI fT (gath fI fT) (chunk_in ring (co c i) d fI hI) O W hF hO hG
  rw [← cc0_eq ring (co c i)] at h
  exact BIBase.Entails.trans (sep_mono_right sep_elim_right) h

/-- The whole of an array of the TensorCore. -/
abbrev whole (b : Ref sig .tc) (f : Buf (Elt F) ((d.tc : Thread nD τ).loc b)) : sProp (MM F) := (d.tc : Thread nD τ).loc b ↦{fullShare} f

set_option backward.isDefEq.respectTransparency.types false in
omit [FloatOps F] in
/-- The row numbers are the tiles'. -/
theorem idx_eq : whole d main_v4 fI
    = bigSep Finset.univ fun c : Fin 2 => bigSep Finset.univ fun i : Fin 16 => bigSep Finset.univ fun k : Fin 10 => iwPt ring (co c i) d fullShare fI k := by
  have h := idx_split (F := F) ring (co 0 0) d fullShare fI
  rw [ring.hI.set_eq_univ, bigSep_univ_prod] at h
  refine Eq.trans h (bigSep_congr fun c _ => ?_)
  exact bigSep_univ_prod _

set_option backward.isDefEq.respectTransparency.types false in
omit [FloatOps F] in
/-- The result is the tiles'. -/
theorem out_eq (f : S102400x128.Idx → Elt F .f32) : whole d main_v5 f
    = bigSep Finset.univ fun c : Fin 2 => bigSep Finset.univ fun i : Fin 16 => bigSep Finset.univ fun k : Fin 10 => owPt ring (co c i) d k f := by
  have h := out_split (F := F) ring (co 0 0) d fullShare f
  rw [ring.hO.set_eq_univ, bigSep_univ_prod] at h
  refine Eq.trans h (bigSep_congr fun c _ => ?_)
  exact bigSep_univ_prod _

/-- The table's shares for the slots. -/
def toks : sProp (MM F) :=
  bigSep Finset.univ fun n : Fin 96 => (d.tc : Thread nD τ).loc main_arg1 ↦[Finset.univ]{Transfers.shareTok fullShare 96 n} fT

omit [FloatOps F] in
theorem toks_eq : toks d fT
    = bigSep Finset.univ fun c : Fin 2 => bigSep Finset.univ fun i : Fin 16 => bigSep Finset.univ fun j : Fin 3 => tabPt ring (co c i) d (tok c i) fT j := by
  unfold toks
  refine Eq.trans (bigSep_univ_equiv (finProdFinEquiv : Fin 2 × Fin 48 ≃ Fin 96) _) ?_
  rw [bigSep_univ_prod]
  refine bigSep_congr fun c _ => ?_
  refine Eq.trans (bigSep_univ_equiv (finProdFinEquiv : Fin 16 × Fin 3 ≃ Fin 48) _) ?_
  rw [bigSep_univ_prod]
  refine bigSep_congr fun i _ => bigSep_congr fun j _ => ?_
  have hq : Transfers.shareTok fullShare 96 (finProdFinEquiv (c, finProdFinEquiv (i, j)) : Fin 96) = tok c i j := by
    show Transfers.shareTokN fullShare _ = Transfers.shareTokN fullShare _
    refine congrArg _ ?_
    show (j.val + 3 * i.val) + 48 * c.val = _
    omega
  show _ = ((d.tc : Thread nD τ).loc main_arg1 ↦[ring.tab.view.set]{tok c i j} fT : sProp (MM F))
  rw [tab_set ring]
  exact congrArg (fun q => ((d.tc : Thread nD τ).loc main_arg1 ↦[Finset.univ]{q} fT : sProp (MM F))) hq

omit [FloatOps F] in
/-- The three arrays, dealt to the tiles, -/
theorem deal (f : S102400x128.Idx → Elt F .f32) : iprop(whole d main_v4 fI ∗ toks d fT ∗ whole d main_v5 f)
    ⊢ bigSep Finset.univ fun c : Fin 2 => bigSep Finset.univ fun i : Fin 16 => go d fI fT c i := by
  rw [idx_eq, out_eq, toks_eq]
  have h : ∀ c i, iprop((bigSep Finset.univ fun k : Fin 10 => iwPt ring (co c i) d fullShare fI k)
      ∗ (bigSep Finset.univ fun j : Fin 3 => tabPt ring (co c i) d (tok c i) fT j)
      ∗ bigSep Finset.univ fun k : Fin 10 => owPt ring (co c i) d k f) ⊢ go d fI fT c i := by
    intro c i
    unfold go tileIn
    have ho : ∀ k, owPt ring (co c i) d k f ⊢ (iprop(∃ g, owPt ring (co c i) d k g) : sProp (MM F)) := by
      intro k; iintro H; iexists f; iexact H
    exact (sep_mono_right (sep_mono_right (bigSep_mono fun k _ => ho k))).trans (by
      iintro ⟨A, B, C⟩
      isplitl [B]; · iexact B
      isplitl [A]; · iexact A
      iexact C)
  refine BIBase.Entails.trans ?_ (bigSep_mono fun c _ => bigSep_mono fun i _ => h c i)
  simp only [bigSep_sep']
  exact BIBase.Entails.rfl

omit [FloatOps F] in
/-- and come back with the rows gathered. -/
theorem collect : (bigSep Finset.univ fun c : Fin 2 => bigSep Finset.univ fun i : Fin 16 => td d fI fT c i)
    ⊢ iprop(whole d main_v4 fI ∗ toks d fT ∗ whole d main_v5 (gath fI fT)) := by
  rw [idx_eq, out_eq, toks_eq]
  unfold td tileOut
  simp only [bigSep_sep']
  iintro ⟨A, B, C⟩
  isplitl [B]; · iexact B
  isplitl [A]; · iexact A
  iexact C

end Cert.Proof.Sc0
-- ==== Proof.Sc1.lean ====
/-
  Gather call 1: the ring its tiles are called with, what a tile is handed and hands back, and how the three arrays of
  the call are handed out to the tiles and come back.
-/
module

public import proofs.«01_k».proof.Proof.TileMem

@[expose] public section

noncomputable section

namespace Cert.Proof.Sc1

open Cert.KernelIdeal Cert.KernelIdeal.Gen
open Cert.Proof.Tile
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the tiles of this call are called with. -/
abbrev ring : Ring where
  I := Memref.whole main_v9_scv
  hI := Memref.isWhole_whole _
  T := Memref.whole main_arg1_scv
  hT := Memref.isWhole_whole _
  O := Memref.whole main_v10_scv
  hO := Memref.isWhole_whole _
  ib := fun | 0 => Memref.whole cc1_scratch0 | 1 => Memref.whole cc1_scratch1 | 2 => Memref.whole cc1_scratch2
  hib := fun | 0 => Memref.isWhole_whole _ | 1 => Memref.isWhole_whole _ | 2 => Memref.isWhole_whole _
  rb := fun | 0 => Memref.whole cc1_scratch3 | 1 => Memref.whole cc1_scratch4 | 2 => Memref.whole cc1_scratch5
  hrb := fun | 0 => Memref.isWhole_whole _ | 1 => Memref.isWhole_whole _ | 2 => Memref.isWhole_whole _
  is := fun | 0 => cc1_scratch6 | 1 => cc1_scratch7 | 2 => cc1_scratch8
  gs := fun | 0 => cc1_scratch9 | 1 => cc1_scratch10 | 2 => cc1_scratch11
  ws := fun | 0 => cc1_scratch12 | 1 => cc1_scratch13 | 2 => cc1_scratch14
  hcr := fun | 0 => by decide +kernel | 1 => by decide +kernel | 2 => by decide +kernel

/-- The ring's buffers and semaphores are distinct and the tile's own. -/
theorem own : ring.Own where
  binj := by
    rintro (a | a) (b | b) h <;> fin_cases a <;> fin_cases b <;> first | rfl | (revert h; decide)
  bown := by
    rintro (a | a) c i <;> fin_cases a <;> rfl
  sinj := by
    rintro (a | a | a) (b | b | b) h <;> fin_cases a <;> fin_cases b <;> first | rfl | (revert h; decide)
  sscoped := by
    rintro (a | a | a) <;> fin_cases a <;> decide

variable (d : Dev nD) (fI : S102400.Idx → Elt F .i32) (fT : S100000x128.Idx → Elt F .f32)

/-- The share of the table for each slot of a tile. -/
def tok (c : Fin 2) (i : Fin 16) (j : Fin 3) : PosShare TreeShare := Transfers.shareTokN fullShare (48 * c.val + 3 * i.val + j.val)

/-- What tile `i` of SparseCore `c` is handed, and what it hands back. -/
def go (c : Fin 2) (i : Fin 16) : sProp (MM F) := tileIn ring (co c i) d fullShare (tok c i) fI fT
def td (c : Fin 2) (i : Fin 16) : sProp (MM F) := tileOut ring (co c i) d fullShare (tok c i) fI fT (gath fI fT)

omit [FloatOps F] in
/-- Memory a signal may carry. -/
theorem pts_storable (ℓ : Loc nD τ sig) (I : Finset (Idx ℓ)) (q : PosShare TreeShare) (f : Buf (Elt F) ℓ) :
    BI.Storable (upEmb : UEmb _ (MM F)) (ℓ ↦[I]{q} f : sProp (MM F)) := inferInstance

set_option backward.isDefEq.respectTransparency.types false in
instance go_storable (c : Fin 2) (i : Fin 16) : BI.Storable (upEmb : UEmb _ (MM F)) (go d fI fT c i) := by
  unfold go tileIn
  infer_instance
set_option backward.isDefEq.respectTransparency.types false in
instance td_storable (c : Fin 2) (i : Fin 16) : BI.Storable (upEmb : UEmb _ (MM F)) (td d fI fT c i) := by
  unfold td tileOut; infer_instance

set_option backward.isDefEq.respectTransparency.types false in
/-- A tile's run, from what the launch hands it. -/
theorem tile (hF : (K (F := F)).Facts) (hI : ∀ x, (fI x).toNat < 100000) (c : Fin 2) (i : Fin 16)
    (O : CellTallies nD τ sig (HIx 2)) (W : Waits sig (HIx 2)) (hO : ∀ g, O g none = 0) :
    iprop(levAts (K (F := F)).L (K (F := F)).lev ∗ emp ∗ go d fI fT c i ∗ scopedBufs (thr (co c i) d) ∗ scopedSems0 (thr (co c i) d)
        ∗ owes (thr (co c i) d) O W)
      ⊢ wpT (co c i) d (cc1_gather_k (F := F) (co c i) (Memref.whole main_v9_scv) (Memref.isWhole_whole _) (Memref.whole main_arg1_scv) (Memref.isWhole_whole _)
          (Memref.whole main_v10_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          cc1_scratch6 cc1_scratch7 cc1_scratch8 cc1_scratch9 cc1_scratch10 cc1_scratch11 cc1_scratch12 cc1_scratch13 cc1_scratch14)
        fun _ => iprop(td d fI fT c i ∗ scopedBufs (thr (co c i) d) ∗ scopedSems0 (thr (co c i) d)
          ∗ ∃ W', ⌜∀ p ∈ W', p ∈ W ∨ p.2 = none⌝ ∗ owes (thr (co c i) d) O W') := by
  have hG := gathered_of (F := F) ring (co c i) d fI fT (gath fI fT) hI rfl
  have h := tile_sound ring own (co c i) d fullShare (tok c i) fI fT (gath fI fT) (chunk_in ring (co c i) d fI hI) O W hF hO hG
  rw [← cc0_eq ring (co c i), ← cc1_eq_cc0] at h
  exact BIBase.Entails.trans (sep_mono_right sep_elim_right) h

/-- The whole of an array of the TensorCore. -/
abbrev whole (b : Ref sig .tc) (f : Buf (Elt F) ((d.tc : Thread nD τ).loc b)) : sProp (MM F) := (d.tc : Thread nD τ).loc b ↦{fullShare} f

set_option backward.isDefEq.respectTransparency.types false in
omit [FloatOps F] in
/-- The row numbers are the tiles'. -/
theorem idx_eq : whole d main_v9 fI
    = bigSep Finset.univ fun c : Fin 2 => bigSep Finset.univ fun i : Fin 16 => bigSep Finset.univ fun k : Fin 10 => iwPt ring (co c i) d fullShare fI k := by
  have h := idx_split (F := F) ring (co 0 0) d fullShare fI
  rw [ring.hI.set_eq_univ, bigSep_univ_prod] at h
  refine Eq.trans h (bigSep_congr fun c _ => ?_)
  exact bigSep_univ_prod _

set_option backward.isDefEq.respectTransparency.types false in
omit [FloatOps F] in
/-- The result is the tiles'. -/
theorem out_eq (f : S102400x128.Idx → Elt F .f32) : whole d main_v10 f
    = bigSep Finset.univ fun c : Fin 2 => bigSep Finset.univ fun i : Fin 16 => bigSep Finset.univ fun k : Fin 10 => owPt ring (co c i) d k f := by
  have h := out_split (F := F) ring (co 0 0) d fullShare f
  rw [ring.hO.set_eq_univ, bigSep_univ_prod] at h
  refine Eq.trans h (bigSep_congr fun c _ => ?_)
  exact bigSep_univ_prod _

/-- The table's shares for the slots. -/
def toks : sProp (MM F) :=
  bigSep Finset.univ fun n : Fin 96 => (d.tc : Thread nD τ).loc main_arg1 ↦[Finset.univ]{Transfers.shareTok fullShare 96 n} fT

omit [FloatOps F] in
theorem toks_eq : toks d fT
    = bigSep Finset.univ fun c : Fin 2 => bigSep Finset.univ fun i : Fin 16 => bigSep Finset.univ fun j : Fin 3 => tabPt ring (co c i) d (tok c i) fT j := by
  unfold toks
  refine Eq.trans (bigSep_univ_equiv (finProdFinEquiv : Fin 2 × Fin 48 ≃ Fin 96) _) ?_
  rw [bigSep_univ_prod]
  refine bigSep_congr fun c _ => ?_
  refine Eq.trans (bigSep_univ_equiv (finProdFinEquiv : Fin 16 × Fin 3 ≃ Fin 48) _) ?_
  rw [bigSep_univ_prod]
  refine bigSep_congr fun i _ => bigSep_congr fun j _ => ?_
  have hq : Transfers.shareTok fullShare 96 (finProdFinEquiv (c, finProdFinEquiv (i, j)) : Fin 96) = tok c i j := by
    show Transfers.shareTokN fullShare _ = Transfers.shareTokN fullShare _
    refine congrArg _ ?_
    show (j.val + 3 * i.val) + 48 * c.val = _
    omega
  show _ = ((d.tc : Thread nD τ).loc main_arg1 ↦[ring.tab.view.set]{tok c i j} fT : sProp (MM F))
  rw [tab_set ring]
  exact congrArg (fun q => ((d.tc : Thread nD τ).loc main_arg1 ↦[Finset.univ]{q} fT : sProp (MM F))) hq

omit [FloatOps F] in
/-- The three arrays, dealt to the tiles, -/
theorem deal (f : S102400x128.Idx → Elt F .f32) : iprop(whole d main_v9 fI ∗ toks d fT ∗ whole d main_v10 f)
    ⊢ bigSep Finset.univ fun c : Fin 2 => bigSep Finset.univ fun i : Fin 16 => go d fI fT c i := by
  rw [idx_eq, out_eq, toks_eq]
  have h : ∀ c i, iprop((bigSep Finset.univ fun k : Fin 10 => iwPt ring (co c i) d fullShare fI k)
      ∗ (bigSep Finset.univ fun j : Fin 3 => tabPt ring (co c i) d (tok c i) fT j)
      ∗ bigSep Finset.univ fun k : Fin 10 => owPt ring (co c i) d k f) ⊢ go d fI fT c i := by
    intro c i
    unfold go tileIn
    have ho : ∀ k, owPt ring (co c i) d k f ⊢ (iprop(∃ g, owPt ring (co c i) d k g) : sProp (MM F)) := by
      intro k; iintro H; iexists f; iexact H
    exact (sep_mono_right (sep_mono_right (bigSep_mono fun k _ => ho k))).trans (by
      iintro ⟨A, B, C⟩
      isplitl [B]; · iexact B
      isplitl [A]; · iexact A
      iexact C)
  refine BIBase.Entails.trans ?_ (bigSep_mono fun c _ => bigSep_mono fun i _ => h c i)
  simp only [bigSep_sep']
  exact BIBase.Entails.rfl

omit [FloatOps F] in
/-- and come back with the rows gathered. -/
theorem collect : (bigSep Finset.univ fun c : Fin 2 => bigSep Finset.univ fun i : Fin 16 => td d fI fT c i)
    ⊢ iprop(whole d main_v9 fI ∗ toks d fT ∗ whole d main_v10 (gath fI fT)) := by
  rw [idx_eq, out_eq, toks_eq]
  unfold td tileOut
  simp only [bigSep_sep']
  iintro ⟨A, B, C⟩
  isplitl [B]; · iexact B
  isplitl [A]; · iexact A
  iexact C

end Cert.Proof.Sc1
-- ==== Proof.Host.lean ====
/-
  What the device's memory holds along @main.

  @main runs operations on whole arrays between its four calls; `st0` to `st8` are the contents of the device's buffers
  after each stretch of them and after each call, and the theorems below read them at the buffers the calls and the
  claim name.
-/
module

public import proofs.«01_k».proof.Proof.TcSegs
public import proofs.«01_k».proof.Proof.Sc0
public import proofs.«01_k».proof.Proof.Sc1

@[expose] public section

noncomputable section

namespace Cert.Proof

open Cert.KernelIdeal Cert.KernelIdeal.Gen
open Cert.Proof.Tile
open Idealize.ShloMosaic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The operations -/

abbrev op0 : HloOp τ sig (Elt F) := StableHlo.unary main_arg2 main_v0 ((truncf .bf16 · bitsLt_bf16_f32) : (⟨S1024x6400, .f32⟩ : BufTy).Contents (Elt F) → (⟨S1024x6400, .bf16⟩ : BufTy).Contents (Elt F))
abbrev op1 : HloOp τ sig (Elt F) := StableHlo.reshape main_arg3 main_v1 (rfl : (.f32 : EltTy) = .f32) shapeCasts_S1024_S1x1024
abbrev op2 : HloOp τ sig (Elt F) := StableHlo.unary main_arg0 main_v2 ((extractStridedSlice S2048x50 ![0, 0] · slices_S4096x50_S2048x50_0_0) : (⟨S4096x50, .i32⟩ : BufTy).Contents (Elt F) → (⟨S2048x50, .i32⟩ : BufTy).Contents (Elt F))
abbrev op3 : HloOp τ sig (Elt F) := StableHlo.unary main_v2 main_v3 ((transpose S50x2048 [1, 0] · transposes_S2048x50_S50x2048_1_0) : (⟨S2048x50, .i32⟩ : BufTy).Contents (Elt F) → (⟨S50x2048, .i32⟩ : BufTy).Contents (Elt F))
abbrev op4 : HloOp τ sig (Elt F) := StableHlo.reshape main_v3 main_v4 (rfl : (.i32 : EltTy) = .i32) shapeCasts_S50x2048_S102400
abbrev op6 : HloOp τ sig (Elt F) := StableHlo.reshape main_v5 main_v6 (rfl : (.f32 : EltTy) = .f32) shapeCasts_S102400x128_S50x2048x128
abbrev op7 : HloOp τ sig (Elt F) := StableHlo.unary main_arg0 main_v7 ((extractStridedSlice S2048x50 ![2048, 0] · slices_S4096x50_S2048x50_2048_0) : (⟨S4096x50, .i32⟩ : BufTy).Contents (Elt F) → (⟨S2048x50, .i32⟩ : BufTy).Contents (Elt F))
abbrev op8 : HloOp τ sig (Elt F) := StableHlo.unary main_v7 main_v8 ((transpose S50x2048 [1, 0] · transposes_S2048x50_S50x2048_1_0) : (⟨S2048x50, .i32⟩ : BufTy).Contents (Elt F) → (⟨S50x2048, .i32⟩ : BufTy).Contents (Elt F))
abbrev op9 : HloOp τ sig (Elt F) := StableHlo.reshape main_v8 main_v9 (rfl : (.i32 : EltTy) = .i32) shapeCasts_S50x2048_S102400
abbrev op11 : HloOp τ sig (Elt F) := StableHlo.reshape main_v10 main_v11 (rfl : (.f32 : EltTy) = .f32) shapeCasts_S102400x128_S50x2048x128
abbrev op13 : HloOp τ sig (Elt F) := StableHlo.unary main_v12 main_v13 id

/-- `V` with one buffer's contents replaced. -/
def put (V : Valuation τ sig (Elt F)) (b : Ref sig .tc) (f : (Proc.devRef (τ := τ) .tc b).ty.Contents (Elt F)) : Valuation τ sig (Elt F) :=
  Function.update V (Proc.devRef (τ := τ) .tc b) f

omit [FloatOps F] in
theorem put_self (V : Valuation τ sig (Elt F)) (b : Ref sig .tc) (f : (Proc.devRef (τ := τ) .tc b).ty.Contents (Elt F)) :
    put V b f (Proc.devRef (τ := τ) .tc b) = f := Function.update_self _ _ _
omit [FloatOps F] in
theorem put_ne (V : Valuation τ sig (Elt F)) (b : Ref sig .tc) (f : (Proc.devRef (τ := τ) .tc b).ty.Contents (Elt F)) {r : Ref sig .tc} (h : r ≠ b) :
    put V b f (Proc.devRef (τ := τ) .tc r) = V (Proc.devRef (τ := τ) .tc r) := Function.update_of_ne (StableHlo.devRef_ne_of_ne h) _ _

variable (m : (ℓ : Loc nD τ sig) → Buf (Elt F) ℓ) (d : Dev nD)

/-- At the launch, -/
def st0 : Valuation τ sig (Elt F) := fun b => m (d, b)
/-- before the first gather, -/
def st1 : Valuation τ sig (Elt F) := op4.result (op3.result (op2.result (op1.result (op0.result (st0 m d)))))
/-- after it, -/
def st2 : Valuation τ sig (Elt F) :=
  put (st1 m d) main_v5 (gath (st1 m d (Proc.devRef .tc main_v4)) (st1 m d (Proc.devRef .tc main_arg1)))
/-- before the second gather, -/
def st3 : Valuation τ sig (Elt F) := op9.result (op8.result (op7.result (op6.result (st2 m d))))
/-- after it, -/
def st4 : Valuation τ sig (Elt F) :=
  put (st3 m d) main_v10 (gath (st3 m d (Proc.devRef .tc main_v9)) (st3 m d (Proc.devRef .tc main_arg1)))
/-- before the first product, -/
def st5 : Valuation τ sig (Elt F) := op11.result (st4 m d)
def vals0 : Tc0.Vals F where
  x := st5 m d (Proc.devRef .tc main_v6)
  w := st5 m d (Proc.devRef .tc main_v0)
  b := st5 m d (Proc.devRef .tc main_v1)
  y := st5 m d (Proc.devRef .tc main_v12)
/-- after it, -/
def st6 : Valuation τ sig (Elt F) := put (st5 m d) main_v12 (Tc0.out (vals0 m d) d)
/-- before the second product, -/
def st7 : Valuation τ sig (Elt F) := op13.result (st6 m d)
def vals1 : Tc1.Vals F where
  x := st7 m d (Proc.devRef .tc main_v11)
  w := st7 m d (Proc.devRef .tc main_v0)
  b := st7 m d (Proc.devRef .tc main_v1)
  y := st7 m d (Proc.devRef .tc main_v13)
/-- and at the end. -/
def st8 : Valuation τ sig (Elt F) := put (st7 m d) main_v13 (Tc1.out (vals1 m d) d)

/-! ## Reads -/

/-- The first half's words, entry by entry. -/
def words0 (w : S4096x50.Idx → Elt F .i32) : S102400.Idx → Elt F .i32 :=
  shapeCast S102400 (transpose S50x2048 [1, 0] (extractStridedSlice S2048x50 ![0, 0] w slices_S4096x50_S2048x50_0_0)
    transposes_S2048x50_S50x2048_1_0) shapeCasts_S50x2048_S102400
/-- The second half's. -/
def words1 (w : S4096x50.Idx → Elt F .i32) : S102400.Idx → Elt F .i32 :=
  shapeCast S102400 (transpose S50x2048 [1, 0] (extractStridedSlice S2048x50 ![2048, 0] w slices_S4096x50_S2048x50_2048_0)
    transposes_S2048x50_S50x2048_1_0) shapeCasts_S50x2048_S102400

theorem st1_v4 : st1 m d (Proc.devRef .tc main_v4) = words0 (m (d, Proc.devRef .tc main_arg0)) := by
  unfold st1
  after_results_simp
  rfl
theorem st1_arg (r : Ref sig .tc) (h : r ∈ ([main_arg0, main_arg1, main_arg2, main_arg3] : List (Ref sig .tc))) :
    st1 m d (Proc.devRef .tc r) = m (d, Proc.devRef .tc r) := by
  unfold st1
  simp only [List.mem_cons, List.not_mem_nil, or_false] at h
  rcases h with rfl | rfl | rfl | rfl <;> after_results_simp <;> rfl
theorem st1_v0 : st1 m d (Proc.devRef .tc main_v0) = (truncf .bf16 (m (d, Proc.devRef .tc main_arg2) : FVec F S1024x6400 .f32) bitsLt_bf16_f32 : FVec F S1024x6400 .bf16) := by
  unfold st1
  after_results_simp
  rfl
theorem st1_v1 : st1 m d (Proc.devRef .tc main_v1) = shapeCast S1x1024 (m (d, Proc.devRef .tc main_arg3) : FVec F S1024 .f32) shapeCasts_S1024_S1x1024 := by
  unfold st1
  after_results_simp
  rfl

/-- The rest of the buffers before the second gather. -/
theorem st3_v9 : st3 m d (Proc.devRef .tc main_v9) = words1 (m (d, Proc.devRef .tc main_arg0)) := by
  unfold st3
  after_results_simp
  rw [show st2 m d (Proc.devRef .tc main_arg0) = m (d, Proc.devRef .tc main_arg0) from
    (put_ne _ _ _ (by decide)).trans (st1_arg m d main_arg0 (by decide))]
  rfl
theorem st3_v6 : st3 m d (Proc.devRef .tc main_v6) =
    shapeCast S50x2048x128 (gath (words0 (m (d, Proc.devRef .tc main_arg0))) (m (d, Proc.devRef .tc main_arg1)) : S102400x128.Idx → Elt F .f32)
      shapeCasts_S102400x128_S50x2048x128 := by
  unfold st3
  after_results_simp
  rw [show st2 m d (Proc.devRef .tc main_v5) = _ from put_self _ _ _, st1_v4, st1_arg m d main_arg1 (by decide)]
  rfl
theorem st3_of (r : Ref sig .tc) (h6 : r ≠ main_v6) (h7 : r ≠ main_v7) (h8 : r ≠ main_v8) (h9 : r ≠ main_v9) (h5 : r ≠ main_v5) :
    st3 m d (Proc.devRef .tc r) = st1 m d (Proc.devRef .tc r) := by
  unfold st3
  rw [StableHlo.reshape_result_ne' (h := h9), StableHlo.unary_result_ne' (h := h8), StableHlo.unary_result_ne' (h := h7),
    StableHlo.reshape_result_ne' (h := h6)]
  exact put_ne _ _ _ h5
theorem st5_of (r : Ref sig .tc) (h11 : r ≠ main_v11) (h10 : r ≠ main_v10) :
    st5 m d (Proc.devRef .tc r) = st3 m d (Proc.devRef .tc r) := by
  unfold st5
  rw [StableHlo.reshape_result_ne' (h := h11)]
  exact put_ne _ _ _ h10
theorem st5_v11 : st5 m d (Proc.devRef .tc main_v11) =
    shapeCast S50x2048x128 (gath (words1 (m (d, Proc.devRef .tc main_arg0))) (m (d, Proc.devRef .tc main_arg1)) : S102400x128.Idx → Elt F .f32)
      shapeCasts_S102400x128_S50x2048x128 := by
  unfold st5
  after_results_simp
  rw [show st4 m d (Proc.devRef .tc main_v10) = _ from put_self _ _ _, st3_v9,
    st3_of m d main_arg1 (by decide) (by decide) (by decide) (by decide) (by decide), st1_arg m d main_arg1 (by decide)]
  rfl
theorem st7_of (r : Ref sig .tc) (h13 : r ≠ main_v13) (h12 : r ≠ main_v12) :
    st7 m d (Proc.devRef .tc r) = st5 m d (Proc.devRef .tc r) := by
  unfold st7
  rw [StableHlo.unary_result_ne' (h := h13)]
  exact put_ne _ _ _ h12
theorem st7_v13 : st7 m d (Proc.devRef .tc main_v13) = Tc0.out (vals0 m d) d := by
  unfold st7
  rw [StableHlo.unary_result']
  exact put_self (st5 m d) main_v12 _

/-- The arguments are as at the launch. -/
theorem st8_arg (r : Ref sig .tc) (h : r ∈ ([main_arg0, main_arg1, main_arg2, main_arg3] : List (Ref sig .tc))) :
    st8 m d (Proc.devRef .tc r) = m (d, Proc.devRef .tc r) := by
  have hr : ∀ b ∈ ([main_v5, main_v6, main_v7, main_v8, main_v9, main_v10, main_v11, main_v12, main_v13] : List (Ref sig .tc)), r ≠ b := by
    revert r; decide
  unfold st8
  rw [put_ne _ _ _ (hr _ (by decide)), st7_of m d r (hr _ (by decide)) (hr _ (by decide)),
    st5_of m d r (hr _ (by decide)) (hr _ (by decide)),
    st3_of m d r (hr _ (by decide)) (hr _ (by decide)) (hr _ (by decide)) (hr _ (by decide)) (hr _ (by decide)), st1_arg m d r h]
/-- The result is what the second product leaves. -/
theorem st8_v13 : st8 m d (Proc.devRef .tc main_v13) = Tc1.out (vals1 m d) d := put_self _ _ _

/-- The table as the second gather reads it. -/
theorem st3_arg1 : st3 m d (Proc.devRef .tc main_arg1) = m (d, Proc.devRef .tc main_arg1) := by
  rw [st3_of m d main_arg1 (by decide) (by decide) (by decide) (by decide) (by decide), st1_arg m d main_arg1 (by decide)]

/-! ## The operands of the products -/

theorem vals0_x : (vals0 m d).x =
    shapeCast S50x2048x128 (gath (words0 (m (d, Proc.devRef .tc main_arg0))) (m (d, Proc.devRef .tc main_arg1)) : S102400x128.Idx → Elt F .f32)
      shapeCasts_S102400x128_S50x2048x128 :=
  (st5_of m d main_v6 (by decide) (by decide)).trans (st3_v6 m d)
theorem vals1_x : (vals1 m d).x =
    shapeCast S50x2048x128 (gath (words1 (m (d, Proc.devRef .tc main_arg0))) (m (d, Proc.devRef .tc main_arg1)) : S102400x128.Idx → Elt F .f32)
      shapeCasts_S102400x128_S50x2048x128 :=
  (st7_of m d main_v11 (by decide) (by decide)).trans (st5_v11 m d)
theorem vals0_w : (vals0 m d).w = (truncf .bf16 (m (d, Proc.devRef .tc main_arg2) : FVec F S1024x6400 .f32) bitsLt_bf16_f32 : FVec F S1024x6400 .bf16) :=
  (st5_of m d main_v0 (by decide) (by decide)).trans
    ((st3_of m d main_v0 (by decide) (by decide) (by decide) (by decide) (by decide)).trans (st1_v0 m d))
theorem vals1_w : (vals1 m d).w = (truncf .bf16 (m (d, Proc.devRef .tc main_arg2) : FVec F S1024x6400 .f32) bitsLt_bf16_f32 : FVec F S1024x6400 .bf16) :=
  (st7_of m d main_v0 (by decide) (by decide)).trans (vals0_w m d)
theorem vals0_b : (vals0 m d).b = shapeCast S1x1024 (m (d, Proc.devRef .tc main_arg3) : FVec F S1024 .f32) shapeCasts_S1024_S1x1024 :=
  (st5_of m d main_v1 (by decide) (by decide)).trans
    ((st3_of m d main_v1 (by decide) (by decide) (by decide) (by decide) (by decide)).trans (st1_v1 m d))
theorem vals1_b : (vals1 m d).b = shapeCast S1x1024 (m (d, Proc.devRef .tc main_arg3) : FVec F S1024 .f32) shapeCasts_S1024_S1x1024 :=
  (st7_of m d main_v1 (by decide) (by decide)).trans (vals0_b m d)
theorem vals1_y : (vals1 m d).y = Tc0.out (vals0 m d) d := st7_v13 m d

/-! ## Words in range -/

omit [FloatOps F] in
theorem words0_lt (w : S4096x50.Idx → Elt F .i32) (h : ∀ j, (w j : BitVec 32).toNat < 100000) (x : S102400.Idx) :
    (words0 (F := F) w x : BitVec 32).toNat < 100000 := by
  unfold words0 shapeCast transpose extractStridedSlice
  exact h _
omit [FloatOps F] in
theorem words1_lt (w : S4096x50.Idx → Elt F .i32) (h : ∀ j, (w j : BitVec 32).toNat < 100000) (x : S102400.Idx) :
    (words1 (F := F) w x : BitVec 32).toNat < 100000 := by
  unfold words1 shapeCast transpose extractStridedSlice
  exact h _

/-! ## Taking buffers out of what is held and putting them back -/

/-- A set of buffers with one of them replaced, put back with the rest. -/
theorem held_put (S T : Finset (DevRef τ sig)) (hT : T ⊆ S) (V : Valuation τ sig (Elt F)) (b : Ref sig .tc)
    (f : (Proc.devRef (τ := τ) .tc b).ty.Contents (Elt F)) (hb : Proc.devRef (τ := τ) .tc b ∈ T) :
    (iprop(StableHlo.held (d.tc : Thread nD τ) T (put V b f) ∗ StableHlo.held (d.tc : Thread nD τ) (S \ T) V) : sProp (MM F))
      = StableHlo.held (d.tc : Thread nD τ) S (put V b f) := by
  rw [StableHlo.held_sub_split _ hT (put V b f)]
  congr 1
  refine StableHlo.held_congr _ fun x hx => ?_
  have hne : x ≠ Proc.devRef (τ := τ) .tc b := by
    rintro rfl
    exact (Finset.mem_sdiff.mp hx).2 hb
  exact (Function.update_of_ne hne f V).symm

end Cert.Proof
-- ==== Proof.Calls.lean ====
/-
  The SparseCore calls as the launch sees them: what each hands its tiles and gets back, and that every tile runs.
-/
module

public import proofs.«01_k».proof.Proof.Host

@[expose] public section

noncomputable section

namespace Cert.Proof

open Cert.KernelIdeal Cert.KernelIdeal.Gen
open Cert.Proof.Tile
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore0 : (K (F := F)).nCore 0 = 2 := rfl
theorem nCore1 : (K (F := F)).nCore 1 = 2 := rfl
theorem nSub0 : (K (F := F)).nSub 0 = 16 := rfl
theorem nSub1 : (K (F := F)).nSub 1 = 16 := rfl

/-- The row numbers and the table of the two gathers, on each device. -/
structure Operands (F : FTy → Type) where
  I0 : Dev nD → S102400.Idx → Elt F .i32
  T0 : Dev nD → S100000x128.Idx → Elt F .f32
  I1 : Dev nD → S102400.Idx → Elt F .i32
  T1 : Dev nD → S100000x128.Idx → Elt F .f32

variable [FloatOps F] (m : Operands F)

attribute [local irreducible] Sc0.go Sc0.td Sc1.go Sc1.td

/-- What the handshakes carry: to each tile its pieces of the row numbers and of the result and its shares of the
    table; back, the same with the rows gathered. -/
def P : (K (F := F)).Pay (nD := nD) (Val := Elt F) (Name := ℕ) (U := UU) where
  st := fun q d c => match q with
    | 0 => bigSep Finset.univ fun i : Fin 16 => Sc0.go d (m.I0 d) (m.T0 d) (Fin.cast nCore0 c) i
    | 1 => bigSep Finset.univ fun i : Fin 16 => Sc1.go d (m.I1 d) (m.T1 d) (Fin.cast nCore1 c) i
  dn := fun q d c => match q with
    | 0 => bigSep Finset.univ fun i : Fin 16 => Sc0.td d (m.I0 d) (m.T0 d) (Fin.cast nCore0 c) i
    | 1 => bigSep Finset.univ fun i : Fin 16 => Sc1.td d (m.I1 d) (m.T1 d) (Fin.cast nCore1 c) i
  go := fun q d c i => match q with
    | 0 => Sc0.go d (m.I0 d) (m.T0 d) (Fin.cast nCore0 c) (Fin.cast nSub0 i)
    | 1 => Sc1.go d (m.I1 d) (m.T1 d) (Fin.cast nCore1 c) (Fin.cast nSub1 i)
  td := fun q d c i => match q with
    | 0 => Sc0.td d (m.I0 d) (m.T0 d) (Fin.cast nCore0 c) (Fin.cast nSub0 i)
    | 1 => Sc1.td d (m.I1 d) (m.T1 d) (Fin.cast nCore1 c) (Fin.cast nSub1 i)
  x := fun _ _ => iprop(emp)

omit [FloatOps F] in
/-- What a SparseCore's tiles are handed, all together, a signal may carry. -/
theorem all_storable (Φ : Fin 16 → sProp (MM F)) (h : ∀ i, BI.Storable (upEmb : UEmb _ (MM F)) (Φ i)) :
    BI.Storable (upEmb : UEmb _ (MM F)) (bigSep Finset.univ Φ) := inferInstance

instance P_storable : (P (F := F) m).IsStorable where
  st q d c := match q with
    | 0 => all_storable (fun i => Sc0.go d (m.I0 d) (m.T0 d) (Fin.cast nCore0 c) i) fun i => Sc0.go_storable d (m.I0 d) (m.T0 d) (Fin.cast nCore0 c) i
    | 1 => all_storable (fun i => Sc1.go d (m.I1 d) (m.T1 d) (Fin.cast nCore1 c) i) fun i => Sc1.go_storable d (m.I1 d) (m.T1 d) (Fin.cast nCore1 c) i
  dn q d c := match q with
    | 0 => all_storable (fun i => Sc0.td d (m.I0 d) (m.T0 d) (Fin.cast nCore0 c) i) fun i => Sc0.td_storable d (m.I0 d) (m.T0 d) (Fin.cast nCore0 c) i
    | 1 => all_storable (fun i => Sc1.td d (m.I1 d) (m.T1 d) (Fin.cast nCore1 c) i) fun i => Sc1.td_storable d (m.I1 d) (m.T1 d) (Fin.cast nCore1 c) i
  go q d c i := match q with
    | 0 => Sc0.go_storable d (m.I0 d) (m.T0 d) (Fin.cast nCore0 c) (Fin.cast nSub0 i)
    | 1 => Sc1.go_storable d (m.I1 d) (m.T1 d) (Fin.cast nCore1 c) (Fin.cast nSub1 i)
  td q d c i := match q with
    | 0 => Sc0.td_storable d (m.I0 d) (m.T0 d) (Fin.cast nCore0 c) (Fin.cast nSub0 i)
    | 1 => Sc1.td_storable d (m.I1 d) (m.T1 d) (Fin.cast nCore1 c) (Fin.cast nSub1 i)

/-- What is asked of the row numbers: every one below the table's length. -/
structure Operands.OK : Prop where
  h0 : ∀ d x, (m.I0 d x : BitVec 32).toNat < 100000
  h1 : ∀ d x, (m.I1 d x : BitVec 32).toNat < 100000

/-! ## The tiles -/

omit [FloatOps F] in
theorem obl_post {thr : Thread nD τ} {A B C : sProp (MM F)} {W : Waits sig (HIx 2)} {O : CellTallies nD τ sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem bigSep_tasks0 (Φ : Fin 16 → sProp (MM F)) :
    (bigSep Finset.univ fun i : Fin ((K (F := F)).nSub 0) => Φ (Fin.cast nSub0 i)) = bigSep Finset.univ Φ :=
  bigSep_congr fun _ _ => congrArg Φ (Fin.ext rfl)
omit [FloatOps F] in
theorem bigSep_tasks1 (Φ : Fin 16 → sProp (MM F)) :
    (bigSep Finset.univ fun i : Fin ((K (F := F)).nSub 1) => Φ (Fin.cast nSub1 i)) = bigSep Finset.univ Φ :=
  bigSep_congr fun _ _ => congrArg Φ (Fin.ext rfl)

theorem defs₀_vector0 (c : Fin τ.nSC) (s : Fin τ.nSub) :
    defs₀ (F := F) (.scVector c s) 0 ()
      = SparseCore.onTile hcore0 hsub0 (fun c s => cc0_gather_k (co c s)
          (Memref.whole main_v4_scv) (Memref.isWhole_whole _) (Memref.whole main_arg1_scv) (Memref.isWhole_whole _)
          (Memref.whole main_v5_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13 cc0_scratch14) ⟨⟩ c s := rfl

set_option maxRecDepth 16384 in
/-- Every tile of call 0 runs. -/
theorem tileObl0 (hpre : m.OK) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (Sc0.tile d (m.I0 d) (m.T0 d) facts (hpre.h0 d) ⟨_, hci.1⟩ ⟨_, hci.2⟩ O W hO).trans
    (wp_mono frame _ _ fun _ => obl_post)

/-- A SparseCore's part of call 0 is its tiles'. -/
theorem vecSplit0 : (K (F := F)).VecSplit' (P m) 0 := by
  intro d c
  show (bigSep Finset.univ fun i : Fin 16 => Sc0.go d (m.I0 d) (m.T0 d) (Fin.cast nCore0 c) i) ⊢ |={Set.univ}=> iprop(
      (bigSep Finset.univ fun i : Fin ((K (F := F)).nSub 0) => Sc0.go d (m.I0 d) (m.T0 d) (Fin.cast nCore0 c) (Fin.cast nSub0 i))
      ∗ ((bigSep Finset.univ fun i : Fin ((K (F := F)).nSub 0) => Sc0.td d (m.I0 d) (m.T0 d) (Fin.cast nCore0 c) (Fin.cast nSub0 i))
          -∗ (bigSep Finset.univ fun i : Fin 16 => Sc0.td d (m.I0 d) (m.T0 d) (Fin.cast nCore0 c) i)))
  rw [bigSep_tasks0 (fun i => Sc0.go d (m.I0 d) (m.T0 d) (Fin.cast nCore0 c) i), bigSep_tasks0 (fun i => Sc0.td d (m.I0 d) (m.T0 d) (Fin.cast nCore0 c) i)]
  generalize (bigSep Finset.univ fun i : Fin 16 => Sc0.go d (m.I0 d) (m.T0 d) (Fin.cast nCore0 c) i) = A
  iintro H; imodintro
  isplitl [H]; · iexact H
  iintro H; iexact H

theorem defs₀_vector1 (c : Fin τ.nSC) (s : Fin τ.nSub) :
    defs₀ (F := F) (.scVector c s) 1 ()
      = SparseCore.onTile hcore1 hsub1 (fun c s => cc1_gather_k (co c s)
          (Memref.whole main_v9_scv) (Memref.isWhole_whole _) (Memref.whole main_arg1_scv) (Memref.isWhole_whole _)
          (Memref.whole main_v10_scv) (Memref.isWhole_whole _)
          (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
          cc1_scratch6 cc1_scratch7 cc1_scratch8 cc1_scratch9 cc1_scratch10 cc1_scratch11 cc1_scratch12 cc1_scratch13 cc1_scratch14) ⟨⟩ c s := rfl

set_option maxRecDepth 16384 in
/-- Every tile of call 1 runs. -/
theorem tileObl1 (hpre : m.OK) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (Sc1.tile d (m.I1 d) (m.T1 d) facts (hpre.h1 d) ⟨_, hci.1⟩ ⟨_, hci.2⟩ O W hO).trans
    (wp_mono frame _ _ fun _ => obl_post)

/-- A SparseCore's part of call 1 is its tiles'. -/
theorem vecSplit1 : (K (F := F)).VecSplit' (P m) 1 := by
  intro d c
  show (bigSep Finset.univ fun i : Fin 16 => Sc1.go d (m.I1 d) (m.T1 d) (Fin.cast nCore1 c) i) ⊢ |={Set.univ}=> iprop(
      (bigSep Finset.univ fun i : Fin ((K (F := F)).nSub 1) => Sc1.go d (m.I1 d) (m.T1 d) (Fin.cast nCore1 c) (Fin.cast nSub1 i))
      ∗ ((bigSep Finset.univ fun i : Fin ((K (F := F)).nSub 1) => Sc1.td d (m.I1 d) (m.T1 d) (Fin.cast nCore1 c) (Fin.cast nSub1 i))
          -∗ (bigSep Finset.univ fun i : Fin 16 => Sc1.td d (m.I1 d) (m.T1 d) (Fin.cast nCore1 c) i)))
  rw [bigSep_tasks1 (fun i => Sc1.go d (m.I1 d) (m.T1 d) (Fin.cast nCore1 c) i), bigSep_tasks1 (fun i => Sc1.td d (m.I1 d) (m.T1 d) (Fin.cast nCore1 c) i)]
  generalize (bigSep Finset.univ fun i : Fin 16 => Sc1.go d (m.I1 d) (m.T1 d) (Fin.cast nCore1 c) i) = A
  iintro H; imodintro
  isplitl [H]; · iexact H
  iintro H; iexact H

end Cert.Proof
-- ==== Proof.Gathers.lean ====
/-
  The two SparseCore calls on the TensorCore's thread: from everything the device holds to the same with the rows gathered.
-/
module

public import proofs.«01_k».proof.Proof.Calls

@[expose] public section

noncomputable section

namespace Cert.Proof

open Cert.KernelIdeal Cert.KernelIdeal.Gen
open Cert.Proof.Tile
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Everything unscoped the device holds, at contents `V`. -/
abbrev H (d : Dev nD) (V : Valuation τ sig (Elt F)) : sProp (MM F) := StableHlo.held (d.tc : Thread nD τ) (Pipeline.ucRefs τ sig) V

abbrev dr (b : Ref sig .tc) : DevRef τ sig := Proc.devRef .tc b

/-- One buffer, whole. -/
abbrev wh (d : Dev nD) (b : Ref sig .tc) (f : (dr b).ty.Contents (Elt F)) : sProp (MM F) := (d, dr b) ↦{fullShare} f

theorem held3 (d : Dev nD) (V : Valuation τ sig (Elt F)) {a b c : Ref sig .tc} (hab : a ≠ b) (hac : a ≠ c) (hbc : b ≠ c) :
    (StableHlo.held (d.tc : Thread nD τ) {dr a, dr b, dr c} V : sProp (MM F)) = iprop(wh d a (V (dr a)) ∗ wh d b (V (dr b)) ∗ wh d c (V (dr c))) := by
  unfold StableHlo.held
  rw [SparseCore.bigSep_insert' (by
      simp only [Finset.mem_insert, Finset.mem_singleton, not_or]
      exact ⟨StableHlo.devRef_ne_of_ne hab, StableHlo.devRef_ne_of_ne hac⟩),
    SparseCore.bigSep_insert' (by
      simp only [Finset.mem_singleton]
      exact StableHlo.devRef_ne_of_ne hbc), bigSep_singleton]

theorem mem_uc (b : Ref sig .tc) (h : b.isScoped = false) : dr b ∈ Pipeline.ucRefs τ sig :=
  Finset.mem_filter.mpr ⟨StableHlo.devRef_mem_tcRefs b, fun h' => Bool.false_ne_true (h.symm.trans h')⟩

theorem sub3 {a b c : Ref sig .tc} (ha : a.isScoped = false) (hb : b.isScoped = false) (hc : c.isScoped = false) :
    ({dr a, dr b, dr c} : Finset (DevRef τ sig)) ⊆ Pipeline.ucRefs τ sig := by
  intro x hx
  simp only [Finset.mem_insert, Finset.mem_singleton] at hx
  rcases hx with rfl | rfl | rfl
  · exact mem_uc _ ha
  · exact mem_uc _ hb
  · exact mem_uc _ hc

variable [FloatOps F] (o : Operands F)

attribute [local irreducible] Sc0.go Sc0.td Sc1.go Sc1.td

theorem st0_eq (d : Dev nD) : (bigSep Finset.univ fun c : Fin ((K (F := F)).nCore 0) => (P o).st 0 d c)
    = bigSep Finset.univ fun c : Fin 2 => bigSep Finset.univ fun i : Fin 16 => Sc0.go d (o.I0 d) (o.T0 d) c i :=
  bigSep_congr fun _ _ => rfl
theorem dn0_eq (d : Dev nD) : (bigSep Finset.univ fun c : Fin ((K (F := F)).nCore 0) => (P o).dn 0 d c)
    = bigSep Finset.univ fun c : Fin 2 => bigSep Finset.univ fun i : Fin 16 => Sc0.td d (o.I0 d) (o.T0 d) c i :=
  bigSep_congr fun _ _ => rfl

/-- Call 0: the rows gathered into `main_v5`. -/
theorem gather0 (κ : GSem nD τ sig → ℕ) (d : Dev nD) (V : Valuation τ sig (Elt F)) (hI : V (dr main_v4) = o.I0 d)
    (hT : V (dr main_arg1) = o.T0 d) (Φ : PUnit → sProp (MM F)) :
    iprop((K (F := F)).ctx EH (P o) κ ∗ (K (F := F)).tcSt EH d 0 ∗ H d V
        ∗ (((K (F := F)).tcSt EH d 1 ∗ H d (put V main_v5 (gath (o.I0 d) (o.T0 d)))) -∗ Φ ⟨⟩))
      ⊢ wp frame (wpE ((K (F := F)).defs (D (F := F))) 𝒱 (T d) none) Set.univ ((K (F := F)).run d 0) Φ := by
  have hs : ({dr main_v4, dr main_arg1, dr main_v5} : Finset (DevRef τ sig)) ⊆ Pipeline.ucRefs τ sig := sub3 (by decide) (by decide) (by decide)
  have hput := held_put d _ _ hs V main_v5 (gath (o.I0 d) (o.T0 d)) (by simp)
  rw [held3 d _ (by decide) (by decide) (by decide), put_ne _ _ _ (by decide), put_ne _ _ _ (by decide), put_self, hI, hT] at hput
  unfold H
  rw [← hput, StableHlo.held_sub_split _ hs V, held3 d V (by decide) (by decide) (by decide), hI, hT]
  have hsplit : wh d main_arg1 (o.T0 d) ⊢ iprop(((d.tc : Thread nD τ).loc main_arg1 ↦[Finset.univ]{Transfers.shareDrop fullShare 96} (o.T0 d)) ∗ Sc0.toks d (o.T0 d)) :=
    Transfers.pointsTo_toks_split fullShare 96
  have hjoin : iprop(((d.tc : Thread nD τ).loc main_arg1 ↦[Finset.univ]{Transfers.shareDrop fullShare 96} (o.T0 d)) ∗ Sc0.toks d (o.T0 d)) ⊢ wh d main_arg1 (o.T0 d) :=
    Transfers.pointsTo_toks_join fullShare 96
  have hdeal : iprop(wh d main_v4 (o.I0 d) ∗ Sc0.toks d (o.T0 d) ∗ wh d main_v5 (V (dr main_v5)))
      ⊢ bigSep Finset.univ fun c : Fin ((K (F := F)).nCore 0) => (P o).st 0 d c :=
    (Sc0.deal d (o.I0 d) (o.T0 d) (V (dr main_v5))).trans (BIBase.Entails.of_eq (st0_eq o d).symm)
  have hcoll : (bigSep Finset.univ fun c : Fin ((K (F := F)).nCore 0) => (P o).dn 0 d c)
      ⊢ iprop(wh d main_v4 (o.I0 d) ∗ Sc0.toks d (o.T0 d) ∗ wh d main_v5 (gath (o.I0 d) (o.T0 d))) :=
    (BIBase.Entails.of_eq (dn0_eq o d)).trans (Sc0.collect d (o.I0 d) (o.T0 d))
  iintro ⟨#Hctx, Hst, ⟨⟨Hi, Ht, Ho⟩, Hrest⟩, Hk⟩
  ihave Ht' := hsplit $$ Ht
  icases Ht' with ⟨Hd, Htk⟩
  iapply ((K (F := F)).wp_run (D (F := F)) 𝒱 (EH := EH) (P := P o) κ d 0) $$ [Hst Hi Htk Ho Hd Hrest Hk]
  isplitr; · iexact Hctx
  isplitl [Hst]; · iexact Hst
  isplitl [Hi Htk Ho]
  · iapply hdeal
    isplitl [Hi]; · iexact Hi
    isplitl [Htk]; · iexact Htk
    iexact Ho
  iintro ⟨Hst, Hdn⟩
  ihave Hdn' := hcoll $$ Hdn
  icases Hdn' with ⟨Hi, Htk, Ho⟩
  iapply Hk
  isplitl [Hst]; · iexact Hst
  isplitr [Hrest]
  · isplitl [Hi]; · iexact Hi
    isplitl [Hd Htk]
    · iapply hjoin
      isplitl [Hd] <;> iassumption
    iexact Ho
  iexact Hrest

theorem st1_eq (d : Dev nD) : (bigSep Finset.univ fun c : Fin ((K (F := F)).nCore 1) => (P o).st 1 d c)
    = bigSep Finset.univ fun c : Fin 2 => bigSep Finset.univ fun i : Fin 16 => Sc1.go d (o.I1 d) (o.T1 d) c i :=
  bigSep_congr fun _ _ => rfl
theorem dn1_eq (d : Dev nD) : (bigSep Finset.univ fun c : Fin ((K (F := F)).nCore 1) => (P o).dn 1 d c)
    = bigSep Finset.univ fun c : Fin 2 => bigSep Finset.univ fun i : Fin 16 => Sc1.td d (o.I1 d) (o.T1 d) c i :=
  bigSep_congr fun _ _ => rfl

/-- Call 1: the rows gathered into `main_v10`. -/
theorem gather1 (κ : GSem nD τ sig → ℕ) (d : Dev nD) (V : Valuation τ sig (Elt F)) (hI : V (dr main_v9) = o.I1 d)
    (hT : V (dr main_arg1) = o.T1 d) (Φ : PUnit → sProp (MM F)) :
    iprop((K (F := F)).ctx EH (P o) κ ∗ (K (F := F)).tcSt EH d 1 ∗ H d V
        ∗ (((K (F := F)).tcSt EH d 2 ∗ H d (put V main_v10 (gath (o.I1 d) (o.T1 d)))) -∗ Φ ⟨⟩))
      ⊢ wp frame (wpE ((K (F := F)).defs (D (F := F))) 𝒱 (T d) none) Set.univ ((K (F := F)).run d 1) Φ := by
  have hs : ({dr main_v9, dr main_arg1, dr main_v10} : Finset (DevRef τ sig)) ⊆ Pipeline.ucRefs τ sig := sub3 (by decide) (by decide) (by decide)
  have hput := held_put d _ _ hs V main_v10 (gath (o.I1 d) (o.T1 d)) (by simp)
  rw [held3 d _ (by decide) (by decide) (by decide), put_ne _ _ _ (by decide), put_ne _ _ _ (by decide), put_self, hI, hT] at hput
  unfold H
  rw [← hput, StableHlo.held_sub_split _ hs V, held3 d V (by decide) (by decide) (by decide), hI, hT]
  have hsplit : wh d main_arg1 (o.T1 d) ⊢ iprop(((d.tc : Thread nD τ).loc main_arg1 ↦[Finset.univ]{Transfers.shareDrop fullShare 96} (o.T1 d)) ∗ Sc1.toks d (o.T1 d)) :=
    Transfers.pointsTo_toks_split fullShare 96
  have hjoin : iprop(((d.tc : Thread nD τ).loc main_arg1 ↦[Finset.univ]{Transfers.shareDrop fullShare 96} (o.T1 d)) ∗ Sc1.toks d (o.T1 d)) ⊢ wh d main_arg1 (o.T1 d) :=
    Transfers.pointsTo_toks_join fullShare 96
  have hdeal : iprop(wh d main_v9 (o.I1 d) ∗ Sc1.toks d (o.T1 d) ∗ wh d main_v10 (V (dr main_v10)))
      ⊢ bigSep Finset.univ fun c : Fin ((K (F := F)).nCore 1) => (P o).st 1 d c :=
    (Sc1.deal d (o.I1 d) (o.T1 d) (V (dr main_v10))).trans (BIBase.Entails.of_eq (st1_eq o d).symm)
  have hcoll : (bigSep Finset.univ fun c : Fin ((K (F := F)).nCore 1) => (P o).dn 1 d c)
      ⊢ iprop(wh d main_v9 (o.I1 d) ∗ Sc1.toks d (o.T1 d) ∗ wh d main_v10 (gath (o.I1 d) (o.T1 d))) :=
    (BIBase.Entails.of_eq (dn1_eq o d)).trans (Sc1.collect d (o.I1 d) (o.T1 d))
  iintro ⟨#Hctx, Hst, ⟨⟨Hi, Ht, Ho⟩, Hrest⟩, Hk⟩
  ihave Ht' := hsplit $$ Ht
  icases Ht' with ⟨Hd, Htk⟩
  iapply ((K (F := F)).wp_run (D (F := F)) 𝒱 (EH := EH) (P := P o) κ d 1) $$ [Hst Hi Htk Ho Hd Hrest Hk]
  isplitr; · iexact Hctx
  isplitl [Hst]; · iexact Hst
  isplitl [Hi Htk Ho]
  · iapply hdeal
    isplitl [Hi]; · iexact Hi
    isplitl [Htk]; · iexact Htk
    iexact Ho
  iintro ⟨Hst, Hdn⟩
  ihave Hdn' := hcoll $$ Hdn
  icases Hdn' with ⟨Hi, Htk, Ho⟩
  iapply Hk
  isplitl [Hst]; · iexact Hst
  isplitr [Hrest]
  · isplitl [Hi]; · iexact Hi
    isplitl [Hd Htk]
    · iapply hjoin
      isplitl [Hd] <;> iassumption
    iexact Ho
  iexact Hrest

end Cert.Proof
-- ==== Proof.Products.lean ====
/-
  The two TensorCore calls on the TensorCore's thread: from everything the device holds to the same with the product's
  rows written.
-/
module

public import proofs.«01_k».proof.Proof.Gathers

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem held4 (d : Dev nD) (V : Valuation τ sig (Elt F)) {a b c e : Ref sig .tc} (hab : a ≠ b) (hac : a ≠ c) (hae : a ≠ e)
    (hbc : b ≠ c) (hbe : b ≠ e) (hce : c ≠ e) :
    (StableHlo.held (d.tc : Thread nD τ) {dr a, dr b, dr c, dr e} V : sProp (MM F))
      = iprop(wh d a (V (dr a)) ∗ wh d b (V (dr b)) ∗ wh d c (V (dr c)) ∗ wh d e (V (dr e))) := by
  rw [← held3 d V hbc hbe hce]
  unfold StableHlo.held
  rw [SparseCore.bigSep_insert' (by
      simp only [Finset.mem_insert, Finset.mem_singleton, not_or]
      exact ⟨StableHlo.devRef_ne_of_ne hab, StableHlo.devRef_ne_of_ne hac, StableHlo.devRef_ne_of_ne hae⟩)]

theorem sub4 {a b c e : Ref sig .tc} (ha : a.isScoped = false) (hb : b.isScoped = false) (hc : c.isScoped = false) (he : e.isScoped = false) :
    ({dr a, dr b, dr c, dr e} : Finset (DevRef τ sig)) ⊆ Pipeline.ucRefs τ sig :=
  Finset.insert_subset (mem_uc _ ha) (sub3 hb hc he)

variable [FloatOps F] (o : Operands F)

/-- The pipelines' ghost state of call `p` on device `d`. -/
abbrev ghost (p : Fin 2) (d : Dev nD) : sProp (MM F) :=
  iprop(Pipeline.cellsGhost (Pipeline.pin (pcfgs (F := F)) adm) EP p d ∗ Pipeline.toksInit (Pipeline.pin (pcfgs (F := F)) adm) EP p d)

/-- Call 0: the rows of `main_v12` written. -/
theorem product0 [∀ e, Nonempty (Elt F e)] (κ : GSem nD τ sig → ℕ) (d : Dev nD) (V : Valuation τ sig (Elt F)) (v0 : Tc0.Vals F) (v1 : Tc1.Vals F)
    (hx : V (dr main_v6) = v0.x) (hw : V (dr main_v0) = v0.w) (hb : V (dr main_v1) = v0.b) (hy : V (dr main_v12) = v0.y) (Φ : PUnit → sProp (MM F)) :
    iprop((K (F := F)).ctx EH (P o) κ ∗ (K (F := F)).tcSt EH d 2 ∗ boundary (T d) ∗ H d V ∗ ghost 0 d
        ∗ (((K (F := F)).tcSt EH d 2 ∗ boundary (T d) ∗ H d (put V main_v12 (Tc0.out v0 d))) -∗ Φ ⟨⟩))
      ⊢ wp frame (wpE ((K (F := F)).defs (D (F := F))) 𝒱 (T d) none) Set.univ
          (Prog.lift (.customCall (SparseCore.inner (Pipeline.entry 0)) ())) Φ := by
  have hs : ({dr main_v6, dr main_v0, dr main_v1, dr main_v12} : Finset (DevRef τ sig)) ⊆ Pipeline.ucRefs τ sig :=
    sub4 (by decide) (by decide) (by decide) (by decide)
  have hput := held_put d _ _ hs V main_v12 (Tc0.out v0 d) (by simp)
  rw [held4 d _ (by decide) (by decide) (by decide) (by decide) (by decide) (by decide), put_ne _ _ _ (by decide), put_ne _ _ _ (by decide),
    put_ne _ _ _ (by decide), put_self, hx, hw, hb] at hput
  unfold H
  rw [← hput, StableHlo.held_sub_split _ hs V, held4 d V (by decide) (by decide) (by decide) (by decide) (by decide) (by decide), hx, hw, hb, hy]
  have hpre : iprop(wh d main_v6 v0.x ∗ wh d main_v0 v0.w ∗ wh d main_v1 v0.b ∗ wh d main_v12 v0.y) ⊢ Tc0.pre v0 d := .refl
  have hpost : Tc0.post v0 d ⊢ iprop(wh d main_v6 v0.x ∗ wh d main_v0 v0.w ∗ wh d main_v1 v0.b ∗ wh d main_v12 (Tc0.out v0 d)) := .refl
  have hst : ((K (F := F)).tcSt EH d 2 : sProp (MM F)) ⊢ iprop(owed0 (F := F) d ∗ (owed0 (F := F) d -∗ (K (F := F)).tcSt EH d 2)) := by
    unfold SparseCore.Cfg.tcSt owed0 Pipeline.owesWithin
    rw [(K (F := F)).Otc_end d (le_refl 2)]
    iintro ⟨⟨%W, %hW, HO⟩, Hr⟩
    isplitl [HO]
    · iexists W; isplitr; · ipureintro; exact hW
      iexact HO
    iintro ⟨%W', %hW', HO⟩
    isplitl [HO]
    · iexists W'; isplitr; · ipureintro; exact hW'
      iexact HO
    iexact Hr
  change _ ⊢ wp frame (wpE ((K (F := F)).defs (D (F := F))) 𝒱 (T d) none) Set.univ (SparseCore.liftProg (.op (.customCall (Pipeline.entry 0) ()) .ret)) Φ
  refine BIBase.Entails.trans ?_ ((K (F := F)).wp_liftProg (D (F := F)) 𝒱 (T d) Set.univ none _ Φ)
  refine BIBase.Entails.trans ?_ (Pipeline.RegionSeg.wp (pcfgs (F := F)) adm (dats v0 v1) none cellOf_inj EP defs₀ 𝒱₀ (K (F := F)).L (K (F := F)).lev
    (reg0 v0 v1) d none nofun .ret Φ)
  have hlev := (K (F := F)).ctx_levAts (EH := EH) (P := P o) κ (lv := (K (F := F)).lev)
  show iprop((K (F := F)).ctx EH (P o) κ ∗ (K (F := F)).tcSt EH d 2 ∗ boundary (T d)
      ∗ ((wh d main_v6 v0.x ∗ wh d main_v0 v0.w ∗ wh d main_v1 v0.b ∗ wh d main_v12 v0.y) ∗ StableHlo.held (d.tc : Thread nD τ) (Pipeline.ucRefs τ sig \ {dr main_v6, dr main_v0, dr main_v1, dr main_v12}) V)
      ∗ ghost 0 d ∗ _) ⊢ iprop((iprop(boundary (d.tc : Thread nD τ) ∗ Tc0.post v0 d ∗ owed0 d) -∗ wp frame _ Set.univ (.ret ⟨⟩) Φ)
        ∗ boundary (d.tc : Thread nD τ) ∗ (Tc0.pre v0 d ∗ owed0 d) ∗ levAts (K (F := F)).L (K (F := F)).lev
        ∗ Pipeline.cellsGhost (Pipeline.pin (pcfgs (F := F)) adm) EP 0 d ∗ Pipeline.toksInit (Pipeline.pin (pcfgs (F := F)) adm) EP 0 d)
  iintro ⟨#Hctx, Hst, Hbd, ⟨Hb4, Hrest⟩, ⟨Hg, Htk⟩, Hk⟩
  ihave Hst' := hst $$ Hst
  icases Hst' with ⟨HO, Hback⟩
  isplitl [Hk Hback Hrest]
  · iintro ⟨Hbd, Hp, HO⟩
    rw [wp_ret]
    imodintro
    iapply Hk
    isplitl [Hback HO]; · iapply Hback; iexact HO
    isplitl [Hbd]; · iexact Hbd
    isplitl [Hp]; · iapply hpost; iexact Hp
    iexact Hrest
  isplitl [Hbd]; · iexact Hbd
  isplitl [Hb4 HO]
  · isplitl [Hb4]; · iapply hpre; iexact Hb4
    iexact HO
  isplitr; · iapply hlev; iexact Hctx
  isplitl [Hg]; · iexact Hg
  iexact Htk

/-- Call 1: the rows of `main_v13` written. -/
theorem product1 [∀ e, Nonempty (Elt F e)] (κ : GSem nD τ sig → ℕ) (d : Dev nD) (V : Valuation τ sig (Elt F)) (v0 : Tc0.Vals F) (v1 : Tc1.Vals F)
    (hx : V (dr main_v11) = v1.x) (hw : V (dr main_v0) = v1.w) (hb : V (dr main_v1) = v1.b) (hy : V (dr main_v13) = v1.y) (Φ : PUnit → sProp (MM F)) :
    iprop((K (F := F)).ctx EH (P o) κ ∗ (K (F := F)).tcSt EH d 2 ∗ boundary (T d) ∗ H d V ∗ ghost 1 d
        ∗ (((K (F := F)).tcSt EH d 2 ∗ boundary (T d) ∗ H d (put V main_v13 (Tc1.out v1 d))) -∗ Φ ⟨⟩))
      ⊢ wp frame (wpE ((K (F := F)).defs (D (F := F))) 𝒱 (T d) none) Set.univ
          (Prog.lift (.customCall (SparseCore.inner (Pipeline.entry 1)) ())) Φ := by
  have hs : ({dr main_v11, dr main_v0, dr main_v1, dr main_v13} : Finset (DevRef τ sig)) ⊆ Pipeline.ucRefs τ sig :=
    sub4 (by decide) (by decide) (by decide) (by decide)
  have hput := held_put d _ _ hs V main_v13 (Tc1.out v1 d) (by simp)
  rw [held4 d _ (by decide) (by decide) (by decide) (by decide) (by decide) (by decide), put_ne _ _ _ (by decide), put_ne _ _ _ (by decide),
    put_ne _ _ _ (by decide), put_self, hx, hw, hb] at hput
  unfold H
  rw [← hput, StableHlo.held_sub_split _ hs V, held4 d V (by decide) (by decide) (by decide) (by decide) (by decide) (by decide), hx, hw, hb, hy]
  have hpre : iprop(wh d main_v11 v1.x ∗ wh d main_v0 v1.w ∗ wh d main_v1 v1.b ∗ wh d main_v13 v1.y) ⊢ Tc1.pre v1 d := .refl
  have hpost : Tc1.post v1 d ⊢ iprop(wh d main_v11 v1.x ∗ wh d main_v0 v1.w ∗ wh d main_v1 v1.b ∗ wh d main_v13 (Tc1.out v1 d)) := .refl
  have hst : ((K (F := F)).tcSt EH d 2 : sProp (MM F)) ⊢ iprop(owed1 (F := F) d ∗ (owed1 (F := F) d -∗ (K (F := F)).tcSt EH d 2)) := by
    unfold SparseCore.Cfg.tcSt owed1 Pipeline.owesWithin
    rw [(K (F := F)).Otc_end d (le_refl 2)]
    iintro ⟨⟨%W, %hW, HO⟩, Hr⟩
    isplitl [HO]
    · iexists W; isplitr; · ipureintro; exact hW
      iexact HO
    iintro ⟨%W', %hW', HO⟩
    isplitl [HO]
    · iexists W'; isplitr; · ipureintro; exact hW'
      iexact HO
    iexact Hr
  change _ ⊢ wp frame (wpE ((K (F := F)).defs (D (F := F))) 𝒱 (T d) none) Set.univ (SparseCore.liftProg (.op (.customCall (Pipeline.entry 1) ()) .ret)) Φ
  refine BIBase.Entails.trans ?_ ((K (F := F)).wp_liftProg (D (F := F)) 𝒱 (T d) Set.univ none _ Φ)
  refine BIBase.Entails.trans ?_ (Pipeline.RegionSeg.wp (pcfgs (F := F)) adm (dats v0 v1) none cellOf_inj EP defs₀ 𝒱₀ (K (F := F)).L (K (F := F)).lev
    (reg1 v0 v1) d none nofun .ret Φ)
  have hlev := (K (F := F)).ctx_levAts (EH := EH) (P := P o) κ (lv := (K (F := F)).lev)
  show iprop((K (F := F)).ctx EH (P o) κ ∗ (K (F := F)).tcSt EH d 2 ∗ boundary (T d)
      ∗ ((wh d main_v11 v1.x ∗ wh d main_v0 v1.w ∗ wh d main_v1 v1.b ∗ wh d main_v13 v1.y) ∗ StableHlo.held (d.tc : Thread nD τ) (Pipeline.ucRefs τ sig \ {dr main_v11, dr main_v0, dr main_v1, dr main_v13}) V)
      ∗ ghost 1 d ∗ _) ⊢ iprop((iprop(boundary (d.tc : Thread nD τ) ∗ Tc1.post v1 d ∗ owed1 d) -∗ wp frame _ Set.univ (.ret ⟨⟩) Φ)
        ∗ boundary (d.tc : Thread nD τ) ∗ (Tc1.pre v1 d ∗ owed1 d) ∗ levAts (K (F := F)).L (K (F := F)).lev
        ∗ Pipeline.cellsGhost (Pipeline.pin (pcfgs (F := F)) adm) EP 1 d ∗ Pipeline.toksInit (Pipeline.pin (pcfgs (F := F)) adm) EP 1 d)
  iintro ⟨#Hctx, Hst, Hbd, ⟨Hb4, Hrest⟩, ⟨Hg, Htk⟩, Hk⟩
  ihave Hst' := hst $$ Hst
  icases Hst' with ⟨HO, Hback⟩
  isplitl [Hk Hback Hrest]
  · iintro ⟨Hbd, Hp, HO⟩
    rw [wp_ret]
    imodintro
    iapply Hk
    isplitl [Hback HO]; · iapply Hback; iexact HO
    isplitl [Hbd]; · iexact Hbd
    isplitl [Hp]; · iapply hpost; iexact Hp
    iexact Hrest
  isplitl [Hbd]; · iexact Hbd
  isplitl [Hb4 HO]
  · isplitl [Hb4]; · iapply hpre; iexact Hb4
    iexact HO
  isplitr; · iapply hlev; iexact Hctx
  isplitl [Hg]; · iexact Hg
  iexact Htk

end Cert.Proof
-- ==== Proof.Launch.lean ====
/-
  The whole program's run: every buffer of the claim at the contents `st8` names, every semaphore at zero.
-/
module

public import proofs.«01_k».proof.Proof.Products

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

/-- What the two gathers work on. -/
def opnds : Operands F where
  I0 d := st1 m d (dr main_v4)
  T0 d := st1 m d (dr main_arg1)
  I1 d := st3 m d (dr main_v9)
  T1 d := st3 m d (dr main_arg1)

/-- What is asked of the launch memory: every word below the table's length. -/
def PreOK : Prop := ∀ (d : Dev nD) (j : S4096x50.Idx), ((m (d, dr main_arg0) : S4096x50.Idx → BitVec 32) j).toNat < 100000

theorem opnds_ok (h : PreOK m) : (opnds m).OK where
  h0 d x := by
    show ((st1 m d (dr main_v4) : S102400.Idx → BitVec 32) x).toNat < 100000
    rw [st1_v4]; exact words0_lt (F := F) _ (h d) x
  h1 d x := by
    show ((st3 m d (dr main_v9) : S102400.Idx → BitVec 32) x).toNat < 100000
    rw [st3_v9]; exact words1_lt (F := F) _ (h d) x

/-! ## The launch's ghost state -/

def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

/-- What the launch deals a device: its two pipelines' ghost state. -/
abbrev G (d : Dev nD) : sProp (MM F) := iprop(ghost 0 d ∗ ghost 1 d)

theorem hu₀ (o : Operands F) : (ownU (u₀ (F := F)) : sProp (MM F))
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 2 => (P o).x q thr) := by
  have hx : (bigSep Finset.univ fun thr : Thread nD τ => bigSep Finset.univ fun q : Fin 2 => (P o).x q thr) = (iprop(emp) : sProp (MM F)) := by
    rw [show (bigSep Finset.univ fun thr : Thread nD τ => bigSep Finset.univ fun q : Fin 2 => (P o).x q thr) = bigSep Finset.univ fun _ : Thread nD τ => (iprop(emp) : sProp (MM F)) from
      bigSep_congr fun _ _ => bigSep_emp_const _]
    exact bigSep_emp_const _
  have hG : iprop((bigSep Finset.univ fun c : Dev nD => bigSep Finset.univ fun p : Fin 2 => Pipeline.cellsGhost (Pipeline.pin (pcfgs (F := F)) adm) (EP (F := F)) p c)
      ∗ (bigSep Finset.univ fun c : Dev nD => bigSep Finset.univ fun p : Fin 2 => Pipeline.toksInit (Pipeline.pin (pcfgs (F := F)) adm) (EP (F := F)) p c))
      ⊢ bigSep Finset.univ (G (F := F)) := by
    rw [← bigSep_sep']
    refine bigSep_mono fun c _ => ?_
    have h2 : ∀ Φ : Fin 2 → sProp (MM F), bigSep Finset.univ Φ = iprop(Φ 0 ∗ Φ 1) := fun Φ => by
      rw [show (Finset.univ : Finset (Fin 2)) = {0, 1} by decide, SparseCore.bigSep_insert' (by decide), bigSep_singleton]
    rw [h2, h2]
    show iprop((Pipeline.cellsGhost (Pipeline.pin (pcfgs (F := F)) adm) (EP (F := F)) 0 c ∗ Pipeline.cellsGhost (Pipeline.pin (pcfgs (F := F)) adm) (EP (F := F)) 1 c)
      ∗ Pipeline.toksInit (Pipeline.pin (pcfgs (F := F)) adm) (EP (F := F)) 0 c ∗ Pipeline.toksInit (Pipeline.pin (pcfgs (F := F)) adm) (EP (F := F)) 1 c) ⊢ G (F := F) c
    iintro ⟨⟨A, B⟩, C, D⟩
    isplitl [A C]
    · isplitl [A] <;> iassumption
    · isplitl [B] <;> iassumption
  rw [hx]
  unfold u₀
  iintro Hu
  ihave H := (ownU_pair (initOf (K (F := F)).hsCells (K (F := F)).hsToks) _) $$ Hu
  icases H with ⟨HH, HP⟩
  ihave H := (own_pair_emb embR _ (1 : Counters)) $$ HP
  icases H with ⟨HP, -⟩
  imod (Pipeline.fund_ghost (Pipeline.pin (pcfgs (F := F)) adm) (EP (F := F)) cellOf_inj) $$ HP with HP'
  imodintro
  isplitl [HH]; · iexact HH
  isplitl [HP']; · iapply hG; iexact HP'
  iempintro

/-! ## @main -/

/-- An operation of @main. -/
theorem host (d : Dev nD) (op : HloOp τ sig (Elt F)) (hS : op.bufs ⊆ StableHlo.tcRefs τ sig) (hf : op.fresh = ∅) (V : Valuation τ sig (Elt F))
    (Φ : PUnit → sProp (MM F)) :
    iprop(boundary (T d) ∗ H d V ∗ ((boundary (T d) ∗ H d (op.result V)) -∗ Φ ⟨⟩))
      ⊢ wp frame (wpE ((K (F := F)).defs (D (F := F))) 𝒱 (T d) none) Set.univ (hlo rfl op (fun _ => .ret ⟨⟩)) Φ := by
  iintro ⟨Hb, Hh, Hk⟩
  iapply (StableHlo.wp_hlo_within 𝒱 (d.tc : Thread nD τ) none Set.univ (Pipeline.sub_ucRefs op hS) hf) $$ [Hb Hh]
  · isplitl [Hb] <;> iassumption
  iintro HbH
  rw [wp_ret]
  imodintro
  iapply Hk
  iexact HbH

/-- The buffers of the launch are held at `st0`. -/
theorem launch_held (d : Dev nD) : (unscopedBufs d (fun b => m ((SparseCore.T d : Thread nD τ).loc b)) : sProp (MM F)) = H d (st0 m d) := by
  unfold st0
  have h := Pipeline.unscopedBufs_held (Ix := HIx 2) (Name := ℕ) (U := UU) (Lvl := ℕ) d (fun b => m (d, b))
  exact h

variable (ρ : Dev nD → PrngReg)

set_option maxRecDepth 16384 in
/-- @main on a device: from the memory of the launch to `st8`. -/
theorem hmain [∀ e, Nonempty (Elt F e)] (κ : GSem nD τ sig → ℕ) (d : Dev nD) :
    iprop((K (F := F)).ctx EH (P (opnds m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 2 ∗ H d (st8 m d) ∗ (K (F := F)).tcEnd d) := by
  unfold SparseCore.Cfg.tcRes SparseCore.Cfg.tcEnd
  rw [launch_held]
  simp only [main, wp_bind, wp_pure]
  iintro ⟨#Hctx, Hst, ⟨Hb, Hh, Hts, -⟩, ⟨Hg0, Hg1⟩⟩
  iapply (host d op0 (StableHlo.unary_bufs_sub ..) rfl (st0 m d))
  isplitl [Hb]; · iexact Hb
  isplitl [Hh]; · iexact Hh
  iintro ⟨Hb, Hh⟩
  iapply (host d op1 (StableHlo.reshape_bufs_sub ..) rfl)
  isplitl [Hb]; · iexact Hb
  isplitl [Hh]; · iexact Hh
  iintro ⟨Hb, Hh⟩
  iapply (host d op2 (StableHlo.unary_bufs_sub ..) rfl)
  isplitl [Hb]; · iexact Hb
  isplitl [Hh]; · iexact Hh
  iintro ⟨Hb, Hh⟩
  iapply (host d op3 (StableHlo.unary_bufs_sub ..) rfl)
  isplitl [Hb]; · iexact Hb
  isplitl [Hh]; · iexact Hh
  iintro ⟨Hb, Hh⟩
  iapply (host d op4 (StableHlo.reshape_bufs_sub ..) rfl)
  isplitl [Hb]; · iexact Hb
  isplitl [Hh]; · iexact Hh
  iintro ⟨Hb, Hh⟩
  iapply (gather0 (opnds m) κ d (st1 m d) rfl rfl)
  isplitr; · iexact Hctx
  isplitl [Hst]; · iexact Hst
  isplitl [Hh]; · iexact Hh
  iintro ⟨Hst, Hh⟩
  iapply (host d op6 (StableHlo.reshape_bufs_sub ..) rfl (st2 m d))
  isplitl [Hb]; · iexact Hb
  isplitl [Hh]; · iexact Hh
  iintro ⟨Hb, Hh⟩
  iapply (host d op7 (StableHlo.unary_bufs_sub ..) rfl)
  isplitl [Hb]; · iexact Hb
  isplitl [Hh]; · iexact Hh
  iintro ⟨Hb, Hh⟩
  iapply (host d op8 (StableHlo.unary_bufs_sub ..) rfl)
  isplitl [Hb]; · iexact Hb
  isplitl [Hh]; · iexact Hh
  iintro ⟨Hb, Hh⟩
  iapply (host d op9 (StableHlo.reshape_bufs_sub ..) rfl)
  isplitl [Hb]; · iexact Hb
  isplitl [Hh]; · iexact Hh
  iintro ⟨Hb, Hh⟩
  iapply (gather1 (opnds m) κ d (st3 m d) rfl rfl)
  isplitr; · iexact Hctx
  isplitl [Hst]; · iexact Hst
  isplitl [Hh]; · iexact Hh
  iintro ⟨Hst, Hh⟩
  iapply (host d op11 (StableHlo.reshape_bufs_sub ..) rfl (st4 m d))
  isplitl [Hb]; · iexact Hb
  isplitl [Hh]; · iexact Hh
  iintro ⟨Hb, Hh⟩
  iapply (product0 (opnds m) κ d (st5 m d) (vals0 m d) (vals1 m d) rfl rfl rfl rfl)
  isplitr; · iexact Hctx
  isplitl [Hst]; · iexact Hst
  isplitl [Hb]; · iexact Hb
  isplitl [Hh]; · iexact Hh
  isplitl [Hg0]; · iexact Hg0
  iintro ⟨Hst, Hb, Hh⟩
  iapply (host d op13 (StableHlo.unary_bufs_sub ..) rfl (st6 m d))
  isplitl [Hb]; · iexact Hb
  isplitl [Hh]; · iexact Hh
  iintro ⟨Hb, Hh⟩
  iapply (product1 (opnds m) κ d (st7 m d) (vals0 m d) (vals1 m d) rfl rfl rfl rfl)
  isplitr; · iexact Hctx
  isplitl [Hst]; · iexact Hst
  isplitl [Hb]; · iexact Hb
  isplitl [Hh]; · iexact Hh
  isplitl [Hg1]; · iexact Hg1
  iintro ⟨Hst, Hb, Hh⟩
  imodintro
  isplitl [Hst]; · iexact Hst
  isplitl [Hh]; · iexact Hh
  isplitl [Hb] <;> iassumption

/-! ## What the final memory holds -/

/-- The four arguments and the result are what `st8` says. -/
def fq (d : Dev nD) (s' : Phys nD τ sig (Elt F)) : Prop :=
  ∀ b ∈ ([main_arg0, main_arg1, main_arg2, main_arg3, main_v13] : List (Ref sig .tc)), s'.mem.mem (d, dr b) = st8 m d (dr b)

theorem agree (d : Dev nD) (V : Valuation τ sig (Elt F)) (b : Ref sig .tc) (hb : b.isScoped = false) (s' : Phys nD τ sig (Elt F)) :
    iprop(H d V ∗ SI s') ⊢ (⌜s'.mem.mem (d, dr b) = V (dr b)⌝ : sProp (MM F)) := by
  have hel : H d V ⊢ wh d b (V (dr b)) := bigSep_elim (Φ := fun b : DevRef τ sig => (((d, b) : Loc nD τ sig) ↦{fullShare} V b : sProp (MM F))) (mem_uc b hb)
  iintro ⟨Hh, HSI⟩
  ihave Hw := hel $$ Hh
  ihave H := (SI_pointsTo_agree (st := s') (ℓ := (d, dr b)) (I := Finset.univ) (q := fullShare) (f := V (dr b))) $$ [HSI Hw]
  · isplitl [HSI] <;> iassumption
  icases H with %h2
  ipureintro; exact funext fun i => h2 i (Finset.mem_univ i)

theorem hfin (d : Dev nD) (s' : Phys nD τ sig (Elt F)) : iprop(H d (st8 m d) ∗ SI s') ⊢ (⌜fq m d s'⌝ : sProp (MM F)) := by
  iintro H
  ihave H := (persistent_entails_right (agree d (st8 m d) main_arg0 (by decide) s')) $$ H
  icases H with ⟨%h0, H⟩
  ihave H := (persistent_entails_right (agree d (st8 m d) main_arg1 (by decide) s')) $$ H
  icases H with ⟨%h1, H⟩
  ihave H := (persistent_entails_right (agree d (st8 m d) main_arg2 (by decide) s')) $$ H
  icases H with ⟨%h2, H⟩
  ihave H := (persistent_entails_right (agree d (st8 m d) main_arg3 (by decide) s')) $$ H
  icases H with ⟨%h3, H⟩
  ihave H := (agree d (st8 m d) main_v13 (by decide) s') $$ H
  icases H with %h4
  ipureintro
  intro b hb
  simp only [List.mem_cons, List.not_mem_nil, or_false] at hb
  rcases hb with rfl | rfl | rfl | rfl | rfl
  exacts [h0, h1, h2, h3, h4]

/-- After the run: the result what the second product leaves, the arguments as at the launch, every semaphore at zero. -/
def QC : PUnit × MemSt nD τ sig (Elt F) → Prop := fun r =>
  (∀ d : Dev nD, r.2.mem (d, dr main_v13) = Tc1.out (vals1 m d) d
    ∧ ∀ b ∈ ([main_arg0, main_arg1, main_arg2, main_arg3] : List (Ref sig .tc)), r.2.mem (d, dr b) = m (d, dr b))
  ∧ r.2.sem = fun _ => 0

theorem qc_of (s' : Phys nD τ sig (Elt F)) (h : ∀ d, fq m d s') (hz : s'.mem.sem = fun _ => 0) : QC m (⟨⟩, s'.mem) :=
  ⟨fun d => ⟨(h d main_v13 (by decide)).trans (st8_v13 m d), fun b hb =>
    (h d b (by revert b; decide)).trans (st8_arg m d b hb)⟩, hz⟩

/-- The program runs. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (opnds m)) (A := ∅) facts v₀
    (fun q hq => match q with | 0 => nomatch hq | 1 => nomatch hq)
    (fun q _ => match q with | 0 => tileObl0 (opnds m) (opnds_ok m hpre) | 1 => tileObl1 (opnds m) (opnds_ok m hpre))
    (fun q _ => match q with
      | 0 => SparseCore.Cfg.VecSplit.of_plain (vecSplit0 (opnds m))
      | 1 => SparseCore.Cfg.VecSplit.of_plain (vecSplit1 (opnds m)))
    m ρ main G (fun d => H d (st8 m d)) (u₀ (F := F)) (sep_elim_left.trans (hu₀ (opnds m))) (hmain m ρ) (fq m) (hfin m) (QC m)
    (fun s' h hz => qc_of m s' h hz)

end Cert.Proof
-- ==== Proof.Frames.lean ====
/-
  The frames: from index words inside the table the kernel ends with its arguments as they were and every semaphore at
  zero, over words and over the reals; the reference does so from any memory.
-/
module

public import proofs.«01_k».proof.Defs
public import proofs.«01_k».proof.Proof.Gen.Kernel
public import proofs.«01_k».proof.Proof.Gen.Pre_words_in_range
public import proofs.«01_k».proof.Proof.Gen.ReferenceIdeal
public import proofs.«01_k».proof.Proof.Gen.ReferenceIdeal.Run
public import proofs.«01_k».proof.Proof.Launch
public import Idealize.ShloMosaic.Lib.ReduceAll
public import Idealize.ShloMosaic.Lib.Quiescent

@[expose] public section

noncomputable section

namespace Cert.Proof

open Idealize.ShloMosaic Idealize.SL Idealize.SL.Sem

/-- A word that is signed-between 0 and 99999 is, unsigned, below 100000. -/
theorem word_range (v : BitVec 32)
    (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition at one position: where the predicate gives 1, every index word lies inside the table. -/
theorem range_of_fn {F : FTy → Type} [FloatOps F] (w : IVec Cert.Pre_words_in_range.S4096x50 32)
    (t : FVec F Cert.Pre_words_in_range.S100000x128 .f32) (W : FVec F Cert.Pre_words_in_range.S1024x6400 .f32)
    (b : FVec F Cert.Pre_words_in_range.S1024 .f32)
    (h : Cert.Pre_words_in_range.fn (F := F) w t W b = fun _ => 1#1) (j : Cert.Pre_words_in_range.S4096x50.Idx) :
    (w j).toNat < 100000 := by
  have : Subsingleton Cert.Pre_words_in_range.S_.Idx := ⟨fun a b => funext fun i => i.elim0⟩
  have e := Host.reduce_andi_all _ _ _ _ _ (congrFun h (fun i => i.elim0)) j
  exact word_range _ e

/-- The precondition of the kernel over words puts every index word inside the table. -/
theorem ok_bits (m : (ℓ : Loc Cert.KernelIdeal.nD Cert.KernelIdeal.τ Cert.KernelIdeal.sig) → Buf (Elt Bits) ℓ)
    (h : Cert.Pre_Kernel m) : PreOK (F := Bits) m :=
  fun d j => range_of_fn _ _ _ _ (h d) j

/-- The precondition of the kernel over the reals puts every index word inside the table. -/
theorem ok_ideal (m : (ℓ : Loc Cert.KernelIdeal.nD Cert.KernelIdeal.τ Cert.KernelIdeal.sig) → Buf (Elt Ideal) ℓ)
    (h : Cert.Pre_KernelIdeal m) : PreOK (F := Ideal) m :=
  fun d j => range_of_fn _ _ _ _ (h d) j

/-- The kernel from index words inside the table, over any float values: its arguments end as they were and every
    semaphore at zero. -/
theorem kept {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono
    (fun _ h => ⟨fun c => ⟨(h.1 c).2 Cert.KernelIdeal.main_arg0 (by decide), (h.1 c).2 Cert.KernelIdeal.main_arg1 (by decide),
      (h.1 c).2 Cert.KernelIdeal.main_arg2 (by decide), (h.1 c).2 Cert.KernelIdeal.main_arg3 (by decide)⟩, h.2⟩)
    (run_main m ρ h)

/-- `Cert.quiescent_KernelIdeal` (Defs.lean). -/
theorem frame_kernelIdeal : Cert.quiescent_KernelIdeal := fun m ρ hpre => kept (F := Ideal) m ρ (ok_ideal m hpre)

set_option backward.isDefEq.respectTransparency.types false in
/-- The kernels' bodies of the program over words are those of the program over the reals: one text. -/
theorem bodies_eq : Cert.KernelIdeal.defs₀ (F := Bits) = Cert.Kernel.defs₀ (F := Bits) := by
  funext p ℓ a
  have h : ℓ = (0 : Fin 4) ∨ ℓ = (1 : Fin 4) ∨ ℓ = (2 : Fin 4) ∨ ℓ = (3 : Fin 4) := by
    have e : ∀ k : Fin 4, k = 0 ∨ k = 1 ∨ k = 2 ∨ k = 3 := by decide
    exact e ℓ
  rcases p with _ | c | ⟨c, s⟩ <;> rcases h with h | h | h | h <;> subst h <;> rfl

set_option backward.isDefEq.respectTransparency.types false in
/-- So are their body tables. -/
theorem defs_eq : Cert.KernelIdeal.defs (F := Bits) = Cert.Kernel.defs (F := Bits) :=
  congrArg (fun D => Cert.Kernel.sc.defs (Pipeline.defs (Cert.Kernel.pcfgs (F := Bits)) D)) bodies_eq

set_option backward.isDefEq.respectTransparency.types false in
/-- So are their threads. -/
theorem threads_eq : Cert.KernelIdeal.threads (F := Bits) = Cert.Kernel.threads (F := Bits) := rfl

set_option backward.isDefEq.respectTransparency.types false in
/-- `Cert.quiescent_Kernel` (Defs.lean): the program over words is the text of the one over the reals. -/
theorem frame_kernel : Cert.quiescent_Kernel := fun m ρ hpre => by
  have h := kept (F := Bits) m ρ (ok_bits m hpre)
  rw [defs_eq] at h
  exact h

/-- `Cert.quiescent_ReferenceIdeal` (Defs.lean): the reference names no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- `Cert.preserves_Kernel_KernelIdeal` (Defs.lean): no operation was rewritten. -/
theorem preserves : Cert.preserves_Kernel_KernelIdeal := trivial

end Cert.Proof

end
-- ==== Proof.Block.lean ====
/-
  One block's arithmetic over the reals: entry `(i, n)` of a block is the bias at `n` plus the sum over the 6400 columns
  of the gathered row times the weight's row.
-/
module

public import proofs.«01_k».proof.Proof.Host
public import Idealize.ShloMosaic.Lib.Pointwise

@[expose] public section

noncomputable section

namespace Cert.Proof

open Cert.KernelIdeal Cert.KernelIdeal.Gen
open Idealize.ShloMosaic

set_option maxRecDepth 16384 in
/-- What one block computes, entry by entry. -/
theorem block_apply (b : Vec Ideal S1x1024 .f32) (x : Vec Ideal S256x6400 .f32) (w : Vec Ideal S1024x6400 .bf16)
    (i : Fin 256) (n : Fin 1024) :
    Mm.blockOf b x w (ix2 i n) = b (ix2 0 n) + ∑ k : Fin 6400, x (ix2 i k) * w (ix2 n k) := by
  pointwise [Mm.blockOf, k2_pay1]

/-- The gathered rows in fifty slabs: row `r` of slab `k` is row `2048 k + r` of the gather. -/
theorem slab_apply {α : Type} (g : S102400x128.Idx → α) (k : Fin 50) (r : Fin 2048) (c : Fin 128) :
    shapeCast S50x2048x128 g shapeCasts_S102400x128_S50x2048x128 (ix3 k r c)
      = g (ix2 ⟨k.val * 2048 + r.val, by omega⟩ c) := by
  pointwise

/-- The first half's index words slab by slab. -/
theorem words0_apply (w : S4096x50.Idx → Elt Ideal .i32) (k : Fin 50) (r : Fin 2048) :
    words0 (F := Ideal) w (ix1 ⟨k.val * 2048 + r.val, by omega⟩) = w (ix2 ⟨r.val, by omega⟩ k) := by
  pointwise [words0]

/-- The second half's. -/
theorem words1_apply (w : S4096x50.Idx → Elt Ideal .i32) (k : Fin 50) (r : Fin 2048) :
    words1 (F := Ideal) w (ix1 ⟨k.val * 2048 + r.val, by omega⟩) = w (ix2 ⟨2048 + r.val, by omega⟩ k) := by
  pointwise [words1]

/-- The bias as one row. -/
theorem bias_apply {α : Type} (b : S1024.Idx → α) (n : Fin 1024) :
    shapeCast S1x1024 b shapeCasts_S1024_S1x1024 (ix2 0 n) = b (ix1 n) := by
  pointwise

end Cert.Proof

end
-- ==== Proof.Rows.lean ====
/-
  What the result holds after each matrix product, from what each block holds: the first product leaves its eight
  blocks on rows 0 to 2047, the second its own on rows 2048 to 4095 and the rest as it was.
-/
module

public import proofs.«01_k».proof.Proof.Block

@[expose] public section

noncomputable section

namespace Cert.Proof

open Cert.KernelIdeal Cert.KernelIdeal.Gen
open Idealize.ShloMosaic Idealize.SL Idealize.SL.Sem
open Idealize.ShloMosaic.Pipeline (Dat)

variable {F : FTy → Type} [FloatOps F]

/-- Where block `t` of the first product starts. -/
theorem start0 (t : Fin cfg2.N) : win2_2.index t 0 = t.val ∧ win2_2.index t 1 = 0 :=
  (by decide : ∀ t : Fin grid2.N, win2_2.index t 0 = t.val ∧ win2_2.index t 1 = 0) t
/-- Where block `t` of the second product starts. -/
theorem start1 (t : Fin cfg3.N) : win3_2.index t 0 = 8 + t.val ∧ win3_2.index t 1 = 0 :=
  (by decide : ∀ t : Fin grid3.N, win3_2.index t 0 = 8 + t.val ∧ win3_2.index t 1 = 0) t

/-- The positions block `t` of the first product covers. -/
theorem mem_blk0 (t : Fin cfg2.N) (j : S4096x1024.Idx) :
    j ∈ ((cfg2.win 2).blk t).view.set ↔ 256 * t.val ≤ (j 0).val ∧ (j 0).val < 256 * t.val + 256 := by
  have h1 : (j 1).val < 1024 := (j 1).isLt
  show j ∈ ((View.whole main_v12).slice (win2_2.rect t)).set ↔ _
  rw [View.set_slice_whole, Rect.mem_set_unit]
  obtain ⟨e0, e1⟩ := start0 t
  constructor
  · intro h
    have a0 : win2_2.index t 0 * 256 ≤ (j 0).val ∧ (j 0).val < win2_2.index t 0 * 256 + 256 := h 0
    rw [e0] at a0; omega
  · intro h a
    fin_cases a
    · show win2_2.index t 0 * 256 ≤ (j 0).val ∧ (j 0).val < win2_2.index t 0 * 256 + 256
      rw [e0]; omega
    · show win2_2.index t 1 * 1024 ≤ (j 1).val ∧ (j 1).val < win2_2.index t 1 * 1024 + 1024
      rw [e1]; omega

/-- The positions block `t` of the second product covers. -/
theorem mem_blk1 (t : Fin cfg3.N) (j : S4096x1024.Idx) :
    j ∈ ((cfg3.win 2).blk t).view.set ↔ 256 * (8 + t.val) ≤ (j 0).val ∧ (j 0).val < 256 * (8 + t.val) + 256 := by
  have h1 : (j 1).val < 1024 := (j 1).isLt
  show j ∈ ((View.whole main_v13).slice (win3_2.rect t)).set ↔ _
  rw [View.set_slice_whole, Rect.mem_set_unit]
  obtain ⟨e0, e1⟩ := start1 t
  constructor
  · intro h
    have a0 : win3_2.index t 0 * 256 ≤ (j 0).val ∧ (j 0).val < win3_2.index t 0 * 256 + 256 := h 0
    rw [e0] at a0; omega
  · intro h a
    fin_cases a
    · show win3_2.index t 0 * 256 ≤ (j 0).val ∧ (j 0).val < win3_2.index t 0 * 256 + 256
      rw [e0]; omega
    · show win3_2.index t 1 * 1024 ≤ (j 1).val ∧ (j 1).val < win3_2.index t 1 * 1024 + 1024
      rw [e1]; omega

/-- If each block of the first product is the block of `G` at its rows, what each point writes back is `G` there. -/
theorem flushed0 (v : Tc0.Vals F) (d : Dev nD) (G : S4096x1024.Idx → Elt F .f32)
    (h : ∀ (t : Fin 8) (i : Fin 256) (n : Fin 1024),
      Mm.blockOf v.b (Mm.flat v.x t) v.w (ix2 i n) = G (ix2 ⟨256 * t.val + i.val, by omega⟩ n)) (t : Fin cfg2.N) :
    (Tc0.dat v d).flushed 2 t = ((cfg2.win 2).blk t).view.read (Elt F) G := by
  show (cfg2.win 2).cut (grid2.coords t) ((Tc0.dat v d).after 2 t) = _
  rw [Tc0.after2]
  funext y
  have e : ∀ (y : S256x1024.Idx) (z : S4096x1024.Idx), (z 0).val = 256 * (Tc0.pt t).val + (y 0).val → (z 1).val = (y 1).val →
      Mm.blockOf v.b (Mm.flat v.x (Tc0.pt t)) v.w y = G z := by
    intro y z h0 h1
    rw [eq_ix2 y]
    refine (h _ (y 0) (y 1)).trans (congrArg G (funext fun a => ?_))
    fin_cases a
    · exact Fin.ext h0.symm
    · exact Fin.ext h1.symm
  obtain ⟨e0, e1⟩ := start0 t
  have ep := Tc0.pt_val t
  refine e y (((cfg2.win 2).blk t).view.emb y) ?_ ?_
  · show win2_2.index t 0 * 256 + 1 * (y 0).val = 256 * (Tc0.pt t).val + (y 0).val
    rw [e0, ep]; omega
  · show win2_2.index t 1 * 1024 + 1 * (y 1).val = (y 1).val
    rw [e1]; omega

/-- If each block of the second product is the block of `G` at its rows, what each point writes back is `G` there. -/
theorem flushed1 (v : Tc1.Vals F) (d : Dev nD) (G : S4096x1024.Idx → Elt F .f32)
    (h : ∀ (t : Fin 8) (i : Fin 256) (n : Fin 1024),
      Mm.blockOf v.b (Mm.flat v.x t) v.w (ix2 i n) = G (ix2 ⟨2048 + (256 * t.val + i.val), by omega⟩ n)) (t : Fin cfg3.N) :
    (Tc1.dat v d).flushed 2 t = ((cfg3.win 2).blk t).view.read (Elt F) G := by
  show (cfg3.win 2).cut (grid3.coords t) ((Tc1.dat v d).after 2 t) = _
  rw [Tc1.after2]
  funext y
  have e : ∀ (y : S256x1024.Idx) (z : S4096x1024.Idx), (z 0).val = 2048 + (256 * (Tc1.pt t).val + (y 0).val) → (z 1).val = (y 1).val →
      Mm.blockOf v.b (Mm.flat v.x (Tc1.pt t)) v.w y = G z := by
    intro y z h0 h1
    rw [eq_ix2 y]
    refine (h _ (y 0) (y 1)).trans (congrArg G (funext fun a => ?_))
    fin_cases a
    · exact Fin.ext h0.symm
    · exact Fin.ext h1.symm
  obtain ⟨e0, e1⟩ := start1 t
  have ep := Tc1.pt_val t
  refine e y (((cfg3.win 2).blk t).view.emb y) ?_ ?_
  · show win3_2.index t 0 * 256 + 1 * (y 0).val = 2048 + (256 * (Tc1.pt t).val + (y 0).val)
    rw [e0, ep]; omega
  · show win3_2.index t 1 * 1024 + 1 * (y 1).val = (y 1).val
    rw [e1]; omega

/-- So the first product leaves `G` on rows 0 to 2047. -/
theorem out0_apply (v : Tc0.Vals F) (d : Dev nD) (G : S4096x1024.Idx → Elt F .f32)
    (h : ∀ (t : Fin 8) (i : Fin 256) (n : Fin 1024),
      Mm.blockOf v.b (Mm.flat v.x t) v.w (ix2 i n) = G (ix2 ⟨256 * t.val + i.val, by omega⟩ n))
    (j : S4096x1024.Idx) (hj : (j 0).val < 2048) : Tc0.out v d j = G j := by
  refine ((Tc0.dat v d).arrAt_eq_piecewise 2 G (fun t _ => flushed0 v d G h t) j).trans (if_pos ?_)
  have hN : cfg2.N = 8 := by decide
  refine ⟨⟨(j 0).val / 256, by rw [hN]; omega⟩, flush2_2 _, (mem_blk0 _ j).mpr ?_⟩
  dsimp only
  omega

/-- The second leaves `G` on rows 2048 to 4095 and what was there on the others. -/
theorem out1_apply (v : Tc1.Vals F) (d : Dev nD) (G : S4096x1024.Idx → Elt F .f32)
    (h : ∀ (t : Fin 8) (i : Fin 256) (n : Fin 1024),
      Mm.blockOf v.b (Mm.flat v.x t) v.w (ix2 i n) = G (ix2 ⟨2048 + (256 * t.val + i.val), by omega⟩ n))
    (hy : ∀ j : S4096x1024.Idx, (j 0).val < 2048 → v.y j = G j) : Tc1.out v d = G := by
  have hN : cfg3.N = 8 := by decide
  funext j
  have hj0 : (j 0).val < 4096 := (j 0).isLt
  refine ((Tc1.dat v d).arrAt_eq_piecewise 2 G (fun t _ => flushed1 v d G h t) j).trans ?_
  by_cases hj : (j 0).val < 2048
  · split
    · rfl
    · rw [Tc1.A2]; exact hy j hj
  · refine if_pos ⟨⟨((j 0).val - 2048) / 256, by rw [hN]; omega⟩, flush3_2 _, (mem_blk1 _ j).mpr ?_⟩
    dsimp only
    omega

end Cert.Proof

end
-- ==== Proof.RefValue.lean ====
/-
  What the reference computes over the reals, entry by entry, when every index word lies inside the table.
-/
module

public import proofs.«01_k».proof.Proof.Gen.ReferenceIdeal
public import proofs.«01_k».proof.Proof.Gen.ReferenceIdeal.Run
public import Idealize.ShloMosaic.Lib.Pointwise
public import Idealize.ShloMosaic.Lib.ReduceAll

@[expose] public section

noncomputable section

namespace Cert.Proof.Ref

open Cert.ReferenceIdeal Cert.ReferenceIdeal.Gen
open Idealize.ShloMosaic

/-- The layer, entry `(r, n)`: the bias at `n` plus the sum, over the 6400 columns, of the words' table rows side by
    side times row `n` of the weights. -/
def dense (w : S4096x50.Idx → BitVec 32) (T : S100000x128.Idx → EReal) (W : S1024x6400.Idx → EReal) (b : S1024.Idx → EReal) :
    S4096x1024.Idx → EReal := fun j =>
  b (ix1 (j 1)) + ∑ k : Fin 6400,
    T (ix2 ⟨(w (ix2 (j 0) ⟨k.val / 128, by omega⟩)).toNat % 100000, Nat.mod_lt _ (by decide)⟩ ⟨k.val % 128, Nat.mod_lt _ (by decide)⟩)
      * W (ix2 (j 1) k)

/-- The start indices of the reference's gather: a negative word wrapped round once. -/
def starts (w : S4096x50.Idx → BitVec 32) : IVec S4096x50x1 32 :=
  broadcastInDim S4096x50x1 ![0, 1] bcast_S4096x50_S4096x50x1_0_1
    (select (cmpi .slt w (broadcastInDim S4096x50 ![] bcast_S_S4096x50 (constantI S_ 32 0#32)))
      (addi w (broadcastInDim S4096x50 ![] bcast_S_S4096x50 (constantI S_ 32 100000#32))) w)

/-- The reference's test of its start indices, the two comparisons met. -/
def test (w : S4096x50.Idx → BitVec 32) : IVec S4096x50x1 1 :=
  andi (cmpi .sge (starts w) (broadcastInDim S4096x50x1 ![] bcast_S_S4096x50x1 (constantI S_ 32 0#32)))
    (cmpi .sle (starts w) (broadcastInDim S4096x50x1 ![0, 1, 2] bcast_S1x1x1_S4096x50x1_0_1_2
      (broadcastInDim S1x1x1 ![2] bcast_S1_S1x1x1_2 (constantI S1 32 99999#32))))

/-- The rows the reference takes, an entry outside the table a fill value. -/
def rows (w : S4096x50.Idx → BitVec 32) (T : S100000x128.Idx → EReal) : FVec Ideal S4096x50x128 .f32 :=
  select (broadcastInDim S4096x50x128 ![0, 1] bcast_S4096x50_S4096x50x128_0_1
      (Host.reduce IntOp.andi (test w) (constantI S_ 1 1#1) reducesTo_S4096x50x1_S4096x50_d2 h_S_))
    (Host.gather gather_S100000x128_S4096x50x1_S4096x50x128_2_0_n_n_0_2_1128 (T : FVec Ideal S100000x128 .f32) (starts w))
    (broadcastInDim S4096x50x128 ![] bcast_S_S4096x50x128 (constant S_ .f32 0x7FC00000#32))

/-- The reference's result. -/
def term (w : S4096x50.Idx → BitVec 32) (T : S100000x128.Idx → EReal) (W : S1024x6400.Idx → EReal) (b : S1024.Idx → EReal) :
    FVec Ideal S4096x1024 .f32 :=
  addf (Host.dotGeneral (φ₁ := .f32) (φ₂ := .f32) dot_S4096x6400_S6400x1024_S4096x1024_1_0_0_1_n_n none
      (shapeCast S4096x6400 (rows w T) shapeCasts_S4096x50x128_S4096x6400 : FVec Ideal S4096x6400 .f32)
      (transpose S6400x1024 [1, 0] (W : FVec Ideal S1024x6400 .f32) transposes_S1024x6400_S6400x1024_1_0))
    (broadcastInDim S4096x1024 ![0, 1] bcast_S1x1024_S4096x1024_0_1 (broadcastInDim S1x1024 ![1] bcast_S1024_S1x1024_1 (b : FVec Ideal S1024 .f32)))

/-- A word inside the table is not negative. -/
theorem not_neg (v : BitVec 32) (h : v.toNat < 100000) : IntOp.cmpi .slt v 0#32 = 0#1 := by
  have e : v.slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  simp only [IntOp.cmpi, e]; rfl

/-- A word inside the table passes the reference's two comparisons. -/
theorem passes (v : BitVec 32) (h : v.toNat < 100000) :
    IntOp.andi (IntOp.cmpi .sge v 0#32) (IntOp.cmpi .sle v 99999#32) = 1#1 := by
  have e0 : (0#32).sle v = true := by
    rw [BitVec.sle_eq_decide, decide_eq_true_eq, BitVec.toInt_eq_toNat_cond, BitVec.toInt_eq_toNat_cond]
    simp only [BitVec.toNat_ofNat, Nat.reducePow, Nat.reduceMod]
    omega
  have e1 : v.sle 99999#32 = true := by
    rw [BitVec.sle_eq_decide, decide_eq_true_eq, BitVec.toInt_eq_toNat_cond, BitVec.toInt_eq_toNat_cond]
    simp only [BitVec.toNat_ofNat, Nat.reducePow, Nat.reduceMod]
    omega
  simp only [IntOp.cmpi, e0, e1]; rfl

variable (w : S4096x50.Idx → BitVec 32) (hw : ∀ j, (w j).toNat < 100000)
  (T : S100000x128.Idx → EReal) (W : S1024x6400.Idx → EReal) (b : S1024.Idx → EReal)

include hw in
/-- In range the start indices are the words. -/
theorem starts_apply (r : Fin 4096) (k : Fin 50) (z : Fin 1) : starts w (ix3 r k z) = w (ix2 r k) := by
  have e := not_neg _ (hw (ix2 r k))
  pointwise [starts]
  rw [e]; rfl

include hw in
/-- In range every entry passes the test. -/
theorem test_apply (j : S4096x50x1.Idx) : test w j = 1#1 := by
  have e := passes _ (hw (ix2 (j 0) (j 1)))
  rw [← starts_apply w hw (j 0) (j 1) (j 2)] at e
  rw [eq_ix3 j]
  exact e

/-- The gather at an entry: the table's row at the start index, clamped. -/
theorem gather_apply (idx : IVec S4096x50x1 32) (r : Fin 4096) (k : Fin 50) (c : Fin 128) :
    Host.gather gather_S100000x128_S4096x50x1_S4096x50x128_2_0_n_n_0_2_1128 T idx (ix3 r k c)
      = T (ix2 ⟨min (idx (ix3 r k 0)).toInt.toNat 99999, by omega⟩ c) := by
  unfold Host.gather
  refine congrArg T (funext fun a => Fin.ext ?_)
  show GatherDims.start _ (ix3 r k c) idx a + GatherDims.batchCoord _ (ix3 r k c) a + GatherDims.offCoord _ (ix3 r k c) a = _
  rw [GatherDims.batchCoord_eq_zero _ _ _ List.not_mem_nil]
  have h01 : a = (0 : Fin 2) ∨ a = (1 : Fin 2) := by
    have e : ∀ q : Fin 2, q = 0 ∨ q = 1 := by decide
    exact e a
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x128_S4096x50x1_S4096x50x128_2_0_n_n_0_2_1128.startIndexMap from List.mem_singleton.mpr rfl)]
    have hs : ∀ q, GatherDims.siIdx gather_S100000x128_S4096x50x1_S4096x50x128_2_0_n_n_0_2_1128 (ix3 r k c) q = ix3 r k 0 := by
      intro q
      funext z
      refine Fin.ext ?_
      fin_cases z
      · rfl
      · rfl
      · have := q.isLt
        show q.val = 0
        change q.val < 1 at this
        omega
    rw [hs]
    rfl
  · unfold GatherDims.start
    rw [dif_neg (show (1 : Fin 2) ∉ gather_S100000x128_S4096x50x1_S4096x50x128_2_0_n_n_0_2_1128.startIndexMap from by decide)]
    show 0 + 0 + c.val = c.val
    omega

include hw in
/-- In range the rows taken are the table's rows at the words. -/
theorem rows_apply (r : Fin 4096) (k : Fin 50) (c : Fin 128) :
    rows w T (ix3 r k c) = T (ix2 ⟨(w (ix2 r k)).toNat % 100000, Nat.mod_lt _ (by decide)⟩ c) := by
  have hm : Host.reduce IntOp.andi (test w) (constantI S_ 1 1#1) reducesTo_S4096x50x1_S4096x50_d2 h_S_ (ix2 r k) = 1#1 :=
    Host.reduce_andi_one _ _ _ _ _ rfl (test_apply w hw)
  have hg := gather_apply T (starts w) r k c
  have hs := starts_apply w hw r k 0
  have hb : (broadcastInDim S4096x50x128 ![0, 1] bcast_S4096x50_S4096x50x128_0_1
      (Host.reduce IntOp.andi (test w) (constantI S_ 1 1#1) reducesTo_S4096x50x1_S4096x50_d2 h_S_)) (ix3 r k c) = 1#1 := by
    generalize Host.reduce IntOp.andi (test w) (constantI S_ 1 1#1) reducesTo_S4096x50x1_S4096x50_d2 h_S_ = M at hm ⊢
    pointwise
    exact hm
  have hh := hw (ix2 r k)
  have hsel : rows w T (ix3 r k c) = Host.gather gather_S100000x128_S4096x50x1_S4096x50x128_2_0_n_n_0_2_1128 T (starts w) (ix3 r k c) := by
    unfold rows select
    rw [hb]; rfl
  rw [hsel, hg]
  refine congrArg T (congrArg (fun q => ix2 q c) (Fin.ext ?_))
  show min (starts w (ix3 r k 0)).toInt.toNat 99999 = (w (ix2 r k)).toNat % 100000
  rw [hs, BitVec.toInt_eq_toNat_cond]
  omega

set_option maxRecDepth 16384 in
/-- The product of any rows: entry by entry. -/
theorem product_apply (X : FVec Ideal S4096x50x128 .f32) (r : Fin 4096) (n : Fin 1024) :
    (addf (Host.dotGeneral (φ₁ := .f32) (φ₂ := .f32) dot_S4096x6400_S6400x1024_S4096x1024_1_0_0_1_n_n none
      (shapeCast S4096x6400 X shapeCasts_S4096x50x128_S4096x6400 : FVec Ideal S4096x6400 .f32)
      (transpose S6400x1024 [1, 0] (W : FVec Ideal S1024x6400 .f32) transposes_S1024x6400_S6400x1024_1_0))
    (broadcastInDim S4096x1024 ![0, 1] bcast_S1x1024_S4096x1024_0_1 (broadcastInDim S1x1024 ![1] bcast_S1024_S1x1024_1 (b : FVec Ideal S1024 .f32)))
      : FVec Ideal S4096x1024 .f32) (ix2 r n)
      = (∑ k : Fin 6400, X (ix3 r ⟨k.val / 128, by omega⟩ ⟨k.val % 128, Nat.mod_lt _ (by decide)⟩) * W (ix2 n k)) + b (ix1 n) := by
  pointwise

include hw in
/-- In range the reference's result is the layer. -/
theorem term_eq : term w T W b = dense w T W b := by
  have h : ∀ (r : Fin 4096) (n : Fin 1024), term w T W b (ix2 r n) = dense w T W b (ix2 r n) := by
    intro r n
    refine (product_apply W b (rows w T) r n).trans ?_
    rw [add_comm]
    exact congrArg (b (ix1 n) + ·) (Finset.sum_congr rfl fun k _ => congrArg (· * W (ix2 n k)) (rows_apply w hw T r _ _))
  funext j
  rw [eq_ix2 j]
  exact h (j 0) (j 1)

end Cert.Proof.Ref

end
-- ==== Proof.Algebra.lean ====
/-
  The value: over the reals, from index words inside the table, the kernel's result is the reference's.
-/
module

public import proofs.«01_k».proof.Proof.Frames
public import proofs.«01_k».proof.Proof.Rows
public import proofs.«01_k».proof.Proof.RefValue

@[expose] public section

noncomputable section

namespace Cert.Proof

open Cert.KernelIdeal Cert.KernelIdeal.Gen
open Idealize.ShloMosaic Idealize.SL Idealize.SL.Sem

/-- The two spellings of an index by its coordinates agree. -/
theorem spell1 {a : Nat} (i : Fin a) : ValueIdx.ix1 i = ix1 i := funext fun q => by fin_cases q; rfl
/-- The same at two coordinates. -/
theorem spell2 {a b : Nat} (i : Fin a) (j : Fin b) : ValueIdx.ix2 i j = ix2 i j := funext fun q => by fin_cases q <;> rfl
/-- The same at three. -/
theorem spell3 {a b c : Nat} (i : Fin a) (j : Fin b) (k : Fin c) : ValueIdx.ix3 i j k = ix3 i j k :=
  funext fun q => by fin_cases q <;> rfl

/-- Row `y` of a gather is the table's row at word `y`. -/
theorem gath_apply (I : S102400.Idx → BitVec 32) (T : S100000x128.Idx → EReal) (y : Fin 102400) (c : Fin 128) :
    Tile.gath I T (ix2 y c) = T (ix2 ⟨(I (ix1 y)).toNat % 100000, Nat.mod_lt _ (by decide)⟩ c) := by
  have e : (ValueIdx.ix1 ((ix2 y c : S102400x128.Idx) 0) : S102400.Idx) = ix1 y := spell1 y
  unfold Tile.gath
  exact (congrArg T (spell2 _ _)).trans (congrArg (fun z => T (ix2 ⟨(I z).toNat % 100000, Nat.mod_lt _ (by decide)⟩ c)) e)

/-- A block of the gathered rows side by side: row `i` of block `t` at column `k`. -/
theorem flat_apply (I : S102400.Idx → BitVec 32) (T : S100000x128.Idx → EReal) (t : Fin 8) (i : Fin 256) (k : Fin 6400) :
    Mm.flat (shapeCast S50x2048x128 (Tile.gath I T) shapeCasts_S102400x128_S50x2048x128) t (ix2 i k)
      = T (ix2 ⟨(I (ix1 ⟨k.val / 128 * 2048 + (256 * t.val + i.val), by omega⟩)).toNat % 100000, Nat.mod_lt _ (by decide)⟩
          ⟨k.val % 128, Nat.mod_lt _ (by decide)⟩) := by
  unfold Mm.flat
  rw [spell3]
  refine (slab_apply _ ⟨k.val / 128, by omega⟩ ⟨256 * t.val + i.val, by omega⟩ ⟨k.val % 128, Nat.mod_lt _ (by decide)⟩).trans ?_
  exact gath_apply _ _ _ _

variable (w : S4096x50.Idx → BitVec 32) (T : S100000x128.Idx → EReal) (W : S1024x6400.Idx → EReal) (b : S1024.Idx → EReal)

/-- Block `t` of the first half is the layer on rows `256 t` to `256 t + 255`. -/
theorem half0 (t : Fin 8) (i : Fin 256) (n : Fin 1024) :
    Mm.blockOf (F := Ideal) (shapeCast S1x1024 b shapeCasts_S1024_S1x1024)
      (Mm.flat (shapeCast S50x2048x128 (Tile.gath (words0 (F := Ideal) w) T) shapeCasts_S102400x128_S50x2048x128) t) W (ix2 i n)
      = Ref.dense w T W b (ix2 ⟨256 * t.val + i.val, by omega⟩ n) := by
  refine (block_apply _ _ _ i n).trans ?_
  rw [bias_apply]
  refine congrArg (b (ix1 n) + ·) (Finset.sum_congr rfl fun k _ => congrArg (· * W (ix2 n k)) ?_)
  refine (flat_apply _ _ t i k).trans ?_
  have e := words0_apply w ⟨k.val / 128, by omega⟩ ⟨256 * t.val + i.val, by omega⟩
  exact congrArg (fun z : BitVec 32 => T (ix2 ⟨z.toNat % 100000, Nat.mod_lt _ (by decide)⟩ ⟨k.val % 128, Nat.mod_lt _ (by decide)⟩)) e

/-- Block `t` of the second half is the layer on rows `2048 + 256 t` to `2048 + 256 t + 255`. -/
theorem half1 (t : Fin 8) (i : Fin 256) (n : Fin 1024) :
    Mm.blockOf (F := Ideal) (shapeCast S1x1024 b shapeCasts_S1024_S1x1024)
      (Mm.flat (shapeCast S50x2048x128 (Tile.gath (words1 (F := Ideal) w) T) shapeCasts_S102400x128_S50x2048x128) t) W (ix2 i n)
      = Ref.dense w T W b (ix2 ⟨2048 + (256 * t.val + i.val), by omega⟩ n) := by
  refine (block_apply _ _ _ i n).trans ?_
  rw [bias_apply]
  refine congrArg (b (ix1 n) + ·) (Finset.sum_congr rfl fun k _ => congrArg (· * W (ix2 n k)) ?_)
  refine (flat_apply _ _ t i k).trans ?_
  have e := words1_apply w ⟨k.val / 128, by omega⟩ ⟨256 * t.val + i.val, by omega⟩
  exact congrArg (fun z : BitVec 32 => T (ix2 ⟨z.toNat % 100000, Nat.mod_lt _ (by decide)⟩ ⟨k.val % 128, Nat.mod_lt _ (by decide)⟩)) e

/-- The same of a first product whose operands are these. -/
theorem operands0 (v : Tc0.Vals Ideal)
    (hx : v.x = shapeCast S50x2048x128 (Tile.gath (words0 (F := Ideal) w) T) shapeCasts_S102400x128_S50x2048x128) (hW : v.w = W)
    (hb : v.b = shapeCast S1x1024 b shapeCasts_S1024_S1x1024) (t : Fin 8) (i : Fin 256) (n : Fin 1024) :
    Mm.blockOf v.b (Mm.flat v.x t) v.w (ix2 i n) = Ref.dense w T W b (ix2 ⟨256 * t.val + i.val, by omega⟩ n) := by
  rw [hx, hW, hb]
  exact half0 w T W b t i n

/-- The same of a second product whose operands are these. -/
theorem operands1 (v : Tc1.Vals Ideal)
    (hx : v.x = shapeCast S50x2048x128 (Tile.gath (words1 (F := Ideal) w) T) shapeCasts_S102400x128_S50x2048x128) (hW : v.w = W)
    (hb : v.b = shapeCast S1x1024 b shapeCasts_S1024_S1x1024) (t : Fin 8) (i : Fin 256) (n : Fin 1024) :
    Mm.blockOf v.b (Mm.flat v.x t) v.w (ix2 i n) = Ref.dense w T W b (ix2 ⟨2048 + (256 * t.val + i.val), by omega⟩ n) := by
  rw [hx, hW, hb]
  exact half1 w T W b t i n

/-- The kernel's result over the reals is the layer of its arguments. -/
theorem kernel_value (m : (ℓ : Loc nD τ sig) → Buf (Elt Ideal) ℓ) (d : Dev nD) :
    Tc1.out (vals1 m d) d
      = Ref.dense (m (d, dr main_arg0)) (m (d, dr main_arg1)) (m (d, dr main_arg2)) (m (d, dr main_arg3)) :=
  out1_apply (vals1 m d) d _
    (operands1 (m (d, dr main_arg0)) (m (d, dr main_arg1)) (m (d, dr main_arg2)) (m (d, dr main_arg3)) (vals1 m d)
      (vals1_x m d) (vals1_w m d) (vals1_b m d))
    fun j hj => (congrFun (vals1_y m d) j).trans (out0_apply (vals0 m d) d _
      (operands0 (m (d, dr main_arg0)) (m (d, dr main_arg1)) (m (d, dr main_arg2)) (m (d, dr main_arg3)) (vals0 m d)
        (vals0_x m d) (vals0_w m d) (vals0_b m d)) j hj)

/-- `Cert.algebraic_KernelIdeal_ReferenceIdeal` (Defs.lean): both programs leave the layer of the common arguments. -/
theorem algebraic : Cert.algebraic_KernelIdeal_ReferenceIdeal := by
  intro m ρ m' ρ' hpre hag
  have hok := ok_ideal m hpre
  refine ⟨fun c => Tc1.out (vals1 m c) c, ?_, ?_⟩
  · exact (θ_run Cert.KernelIdeal.defs _ _).mono
      (fun _ h c => ⟨(h.1 c).1, (h.1 c).2 main_arg0 (by decide), (h.1 c).2 main_arg1 (by decide),
        (h.1 c).2 main_arg2 (by decide), (h.1 c).2 main_arg3 (by decide)⟩)
      (run_main (F := Ideal) m ρ hok)
  · refine (θ_run Cert.ReferenceIdeal.defs _ _).mono (fun r h c => ⟨?_, (h c).2⟩) (Cert.ReferenceIdeal.Value.run (F := Ideal) m' ρ')
    obtain ⟨h0, h1, h2, h3⟩ := hag c
    have hw : ∀ j : S4096x50.Idx,
        ((m' ((c.tc : Thread Cert.ReferenceIdeal.nD Cert.ReferenceIdeal.τ).loc Cert.ReferenceIdeal.main_arg0) : S4096x50.Idx → BitVec 32) j).toNat < 100000 :=
      fun j => (congrArg (fun f : S4096x50.Idx → BitVec 32 => (f j).toNat) h0).trans_lt (hok c j)
    refine ((h c).1.trans (Ref.term_eq _ hw _ _ _)).trans ?_
    rw [h0, h1, h2, h3]
    exact (kernel_value m c).symm

end Cert.Proof

end
-- ==== Proof.lean ====
/-
  The proof of `Cert.Claim` (Defs.lean): the kernel, over words and over the reals, and the reference end with their
  arguments unchanged and every semaphore at zero; the idealized kernel is the printed one; and over the reals, from
  index words inside the table, the kernel's result is the reference's.
-/
module

public import proofs.«01_k».proof.Defs
public import proofs.«01_k».proof.Proof.Frames
public import proofs.«01_k».proof.Proof.Algebra

@[expose] public section

noncomputable section

namespace Cert.Proof

/-- The certificate's claim. -/
theorem claim : Cert.Claim := ⟨Cert.Kernel.Gen.facts, Cert.KernelIdeal.Gen.facts, Cert.ReferenceIdeal.Gen.facts, Cert.Pre_words_in_range.Gen.facts,
  frame_kernel, frame_kernelIdeal, frame_reference, fun m ρ _ => frame_reference m ρ trivial, preserves, algebraic⟩

end Cert.Proof

end
